-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "cls" .f32 0x30E5109F#32 ((11258999 / 6755399441055744 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16384x1 : Shape := ⟨2, ![16384, 1]⟩
abbrev S16384x2 : Shape := ⟨2, ![16384, 2]⟩
abbrev S16384x6 : Shape := ⟨2, ![16384, 6]⟩
abbrev S3 : Shape := ⟨1, ![3]⟩
abbrev S_ : Shape := ⟨0, ![]⟩
abbrev S1 : Shape := ⟨1, ![1]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  slices_S3_S1_0 : S3.Slices ![0] S1
  shapeCasts_S1_S_ : S1.ShapeCasts S_
  slices_S3_S1_2 : S3.Slices ![2] S1
  bcast_S_S16384x2 : S_.BroadcastsInDim S16384x2 (![] : Fin 0 → Fin S16384x2.rank)
  reducesTo_S16384x2_S_d0_1 : S16384x2.ReducesTo [0, 1] S_
  bcast_S_S16384x6 : S_.BroadcastsInDim S16384x6 (![] : Fin 0 → Fin S16384x6.rank)
  reducesTo_S16384x6_S_d0_1 : S16384x6.ReducesTo [0, 1] S_

variable [Facts]

def fn_part2 {F : FTy → Type} [FloatOps F] (main_arg9 : FVec F S16384x1 .f32) (main_v30 : IVec S_ 1) (main_v33 : IVec S16384x2 1) (main_c_11 : IVec S_ 1) : IVec S_ 1 :=
  let main_v34 : IVec S_ 1 := (fun x v => Host.reduce IntOp.andi x v reducesTo_S16384x2_S_d0_1 h_S_) main_v33 main_c_11
  let main_v35 : IVec S_ 1 := andi main_v30 main_v34
  let main_v36 : FVec F S16384x1 .f32 := Host.absf main_arg9
  let main_cst_12 : FVec F S_ .f32 := constant S_ .f32 0x7F800000#32
  let main_v37 : FVec F S16384x1 .f32 := broadcastInDim S16384x1 ![] bcast_S_S16384x1 main_cst_12
  let main_v38 : IVec S16384x1 1 := cmpf .olt main_v36 main_v37
  let main_c_13 : IVec S_ 1 := constantI S_ 1 1#1
  let main_v39 : IVec S_ 1 := (fun x v => Host.reduce IntOp.andi x v reducesTo_S16384x1_S_d0_1 h_S_) main_v38 main_c_13
  let main_v40 : IVec S_ 1 := andi main_v35 main_v39
  main_v40

def fn_part1 {F : FTy → Type} [FloatOps F] (main_arg5 : FVec F S16384x6 .f32) (main_arg7 : FVec F S16384x1 .f32) (main_arg8 : FVec F S16384x2 .f32) (main_arg9 : FVec F S16384x1 .f32) (main_v15 : IVec S_ 1) (main_v16 : FVec F S16384x1 .f32) (main_cst_4 : FVec F S_ .f32) : IVec S_ 1 :=
  let main_v17 : FVec F S16384x1 .f32 := broadcastInDim S16384x1 ![] bcast_S_S16384x1 main_cst_4
  let main_v18 : IVec S16384x1 1 := cmpf .olt main_v16 main_v17
  let main_c_5 : IVec S_ 1 := constantI S_ 1 1#1
  let main_v19 : IVec S_ 1 := (fun x v => Host.reduce IntOp.andi x v reducesTo_S16384x1_S_d0_1 h_S_) main_v18 main_c_5
  let main_v20 : IVec S_ 1 := andi main_v15 main_v19
  let main_v21 : FVec F S16384x6 .f32 := Host.absf main_arg5
  let main_cst_6 : FVec F S_ .f32 := constant S_ .f32 0x7F800000#32
  let main_v22 : FVec F S16384x6 .f32 := broadcastInDim S16384x6 ![] bcast_S_S16384x6 main_cst_6
  let main_v23 : IVec S16384x6 1 := cmpf .olt main_v21 main_v22
  let main_c_7 : IVec S_ 1 := constantI S_ 1 1#1
  let main_v24 : IVec S_ 1 := (fun x v => Host.reduce IntOp.andi x v reducesTo_S16384x6_S_d0_1 h_S_) main_v23 main_c_7
  let main_v25 : IVec S_ 1 := andi main_v20 main_v24
  let main_v26 : FVec F S16384x1 .f32 := Host.absf main_arg7
  let main_cst_8 : FVec F S_ .f32 := constant S_ .f32 0x7F800000#32
  let main_v27 : FVec F S16384x1 .f32 := broadcastInDim S16384x1 ![] bcast_S_S16384x1 main_cst_8
  let main_v28 : IVec S16384x1 1 := cmpf .olt main_v26 main_v27
  let main_c_9 : IVec S_ 1 := constantI S_ 1 1#1
  let main_v29 : IVec S_ 1 := (fun x v => Host.reduce IntOp.andi x v reducesTo_S16384x1_S_d0_1 h_S_) main_v28 main_c_9
  let main_v30 : IVec S_ 1 := andi main_v25 main_v29
  let main_v31 : FVec F S16384x2 .f32 := Host.absf main_arg8
  let main_cst_10 : FVec F S_ .f32 := constant S_ .f32 0x7F800000#32
  let main_v32 : FVec F S16384x2 .f32 := broadcastInDim S16384x2 ![] bcast_S_S16384x2 main_cst_10
  let main_v33 : IVec S16384x2 1 := cmpf .olt main_v31 main_v32
  let main_c_11 : IVec S_ 1 := constantI S_ 1 1#1
  fn_part2 (F := F) main_arg9 main_v30 main_v33 main_c_11

def fn {F : FTy → Type} [FloatOps F] (main_arg0 : FVec F S16384x1 .f32) (main_arg1 : FVec F S16384x2 .f32) (main_arg2 : FVec F S16384x1 .f32) (main_arg3 : FVec F S16384x2 .f32) (main_arg4 : FVec F S16384x1 .f32) (main_arg5 : FVec F S16384x6 .f32) (main_arg6 : IVec S16384x1 32) (main_arg7 : FVec F S16384x1 .f32) (main_arg8 : FVec F S16384x2 .f32) (main_arg9 : FVec F S16384x1 .f32) (main_arg10 : FVec F S16384x1 .f32) (main_arg11 : IVec S3 32) : IVec S_ 1 :=
  let main_c : IVec S_ 32 := constantI S_ 32 256#32
  let main_v0 : IVec S16384x1 32 := broadcastInDim S16384x1 ![] bcast_S_S16384x1 main_c
  let main_v1 : IVec S16384x1 1 := cmpi .slt main_arg6 main_v0
  let main_c_0 : IVec S_ 1 := constantI S_ 1 1#1
  let main_v2 : IVec S_ 1 := (fun x v => Host.reduce IntOp.andi x v reducesTo_S16384x1_S_d0_1 h_S_) main_v1 main_c_0
  let main_v3 : IVec S1 32 := (extractStridedSlice S1 ![0] · slices_S3_S1_0) main_arg11
  let main_v4 : IVec S_ 32 := shapeCast S_ main_v3 shapeCasts_S1_S_
  let main_c_1 : IVec S_ 32 := constantI S_ 32 0#32
  let main_v5 : IVec S_ 1 := cmpi .sle main_v4 main_c_1
  let main_v6 : IVec S_ 1 := andi main_v2 main_v5
  let main_v7 : IVec S1 32 := (extractStridedSlice S1 ![2] · slices_S3_S1_2) main_arg11
  let main_v8 : IVec S_ 32 := shapeCast S_ main_v7 shapeCasts_S1_S_
  let main_c_2 : IVec S_ 32 := constantI S_ 32 16384#32
  let main_v9 : IVec S_ 1 := cmpi .sge main_v8 main_c_2
  let main_v10 : IVec S_ 1 := andi main_v6 main_v9
  let main_v11 : FVec F S16384x2 .f32 := Host.absf main_arg3
  let main_cst : FVec F S_ .f32 := constant S_ .f32 0x7F800000#32
  let main_v12 : FVec F S16384x2 .f32 := broadcastInDim S16384x2 ![] bcast_S_S16384x2 main_cst
  let main_v13 : IVec S16384x2 1 := cmpf .olt main_v11 main_v12
  let main_c_3 : IVec S_ 1 := constantI S_ 1 1#1
  let main_v14 : IVec S_ 1 := (fun x v => Host.reduce IntOp.andi x v reducesTo_S16384x2_S_d0_1 h_S_) main_v13 main_c_3
  let main_v15 : IVec S_ 1 := andi main_v10 main_v14
  let main_v16 : FVec F S16384x1 .f32 := Host.absf main_arg4
  let main_cst_4 : FVec F S_ .f32 := constant S_ .f32 0x7F800000#32
  fn_part1 (F := F) main_arg5 main_arg7 main_arg8 main_arg9 main_v15 main_v16 main_cst_4
-- ==== Kernel.lean ====
abbrev S16384x1 : Shape := ⟨2, ![16384, 1]⟩
abbrev S16384x2 : Shape := ⟨2, ![16384, 2]⟩
abbrev S16384x6 : Shape := ⟨2, ![16384, 6]⟩
abbrev S3 : Shape := ⟨1, ![3]⟩
abbrev S16384x3 : Shape := ⟨2, ![16384, 3]⟩
abbrev S1x1 : Shape := ⟨2, ![1, 1]⟩
abbrev S1024x1 : Shape := ⟨2, ![1024, 1]⟩
abbrev S1024x2 : Shape := ⟨2, ![1024, 2]⟩
abbrev S1024x6 : Shape := ⟨2, ![1024, 6]⟩
abbrev S1024x3 : Shape := ⟨2, ![1024, 3]⟩
abbrev S1x512 : Shape := ⟨2, ![1, 512]⟩
abbrev S2 : Shape := ⟨1, ![2]⟩
abbrev S1 : Shape := ⟨1, ![1]⟩
abbrev S1024x512 : Shape := ⟨2, ![1024, 512]⟩
abbrev S512 : Shape := ⟨1, ![512]⟩
abbrev S1x1024x1 : Shape := ⟨3, ![1, 1024, 1]⟩
abbrev S1x1x1 : Shape := ⟨3, ![1, 1, 1]⟩
abbrev S1024 : Shape := ⟨1, ![1024]⟩
abbrev S1x1x512 : Shape := ⟨3, ![1, 1, 512]⟩
abbrev S_ : Shape := ⟨0, ![]⟩

abbrev nBuf : Space → Nat
  | .hbm => 15
  | .vmem => 27
  | .smem => 2
  | _ => 0

abbrev bufTy : (tb : Table) → Fin (tcTables nBuf tb) → BufTy
  | .hbm, ⟨0, _⟩ => ⟨S16384x1, .f32⟩
  | .hbm, ⟨1, _⟩ => ⟨S16384x2, .f32⟩
  | .hbm, ⟨2, _⟩ => ⟨S16384x1, .f32⟩
  | .hbm, ⟨3, _⟩ => ⟨S16384x2, .f32⟩
  | .hbm, ⟨4, _⟩ => ⟨S16384x1, .f32⟩
  | .hbm, ⟨5, _⟩ => ⟨S16384x6, .f32⟩
  | .hbm, ⟨6, _⟩ => ⟨S16384x1, .i32⟩
  | .hbm, ⟨7, _⟩ => ⟨S16384x1, .f32⟩
  | .hbm, ⟨8, _⟩ => ⟨S16384x2, .f32⟩
  | .hbm, ⟨9, _⟩ => ⟨S16384x1, .f32⟩
  | .hbm, ⟨10, _⟩ => ⟨S16384x1, .f32⟩
  | .hbm, ⟨11, _⟩ => ⟨S3, .i32⟩
  | .hbm, ⟨12, _⟩ => ⟨S16384x3, .f32⟩
  | .hbm, ⟨13, _⟩ => ⟨S1x1, .f32⟩
  | .hbm, ⟨14, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1024x2, .f32⟩
  | .local _ .vmem, ⟨3, _⟩ => ⟨S1024x2, .f32⟩
  | .local _ .vmem, ⟨4, _⟩ => ⟨S1024x1, .f32⟩
  | .local _ .vmem, ⟨5, _⟩ => ⟨S1024x1, .f32⟩
  | .local _ .vmem, ⟨6, _⟩ => ⟨S1024x2, .f32⟩
  | .local _ .vmem, ⟨7, _⟩ => ⟨S1024x2, .f32⟩
  | .local _ .vmem, ⟨8, _⟩ => ⟨S1024x1, .f32⟩
  | .local _ .vmem, ⟨9, _⟩ => ⟨S1024x1, .f32⟩
  | .local _ .vmem, ⟨10, _⟩ => ⟨S1024x6, .f32⟩
  | .local _ .vmem, ⟨11, _⟩ => ⟨S1024x6, .f32⟩
  | .local _ .vmem, ⟨12, _⟩ => ⟨S1024x1, .i32⟩
  | .local _ .vmem, ⟨13, _⟩ => ⟨S1024x1, .i32⟩
  | .local _ .vmem, ⟨14, _⟩ => ⟨S1024x1, .f32⟩
  | .local _ .vmem, ⟨15, _⟩ => ⟨S1024x1, .f32⟩
  | .local _ .vmem, ⟨16, _⟩ => ⟨S1024x3, .f32⟩
  | .local _ .vmem, ⟨17, _⟩ => ⟨S1024x3, .f32⟩
  | .local _ .vmem, ⟨18, _⟩ => ⟨S1x1, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .smem, ⟨0, _⟩ => ⟨S3, .i32⟩
  | .local _ .smem, ⟨1, _⟩ => ⟨S2, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_stg0_0 : Ref sig .tc := ⟨.smem, 0, rfl⟩
abbrev cc0_scratch8 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg0 : BitVec 32 := BitVec.ofNat 32 (i 0).val
  let c1_i32 : BitVec 32 := 1#32
  let v30 : BitVec 1 := Scalar.cmpi .eq arg0 c1_i32
  let v31 : BitVec 32 := Scalar.extui v30
  let c0_i32_10 : BitVec 32 := 0#32
  let v32 : BitVec 1 := Scalar.cmpi .ne v31 c0_i32_10
  v32

def k0_cond5 (i : grid0.Coords) : BitVec 1 :=
  let arg1 : BitVec 32 := BitVec.ofNat 32 (i 1).val
  let c15_i32 : BitVec 32 := 15#32
  let v194 : BitVec 1 := Scalar.cmpi .eq arg1 c15_i32
  let v195 : BitVec 32 := Scalar.extui v194
  let c0_i32_85 : BitVec 32 := 0#32
  let v196 : BitVec 1 := Scalar.cmpi .ne v195 c0_i32_85
  v196

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x6 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "cls" => some ((11258999 / 6755399441055744 : ℝ) : EReal)
  | _ => none
-- ==== ReferenceIdeal.lean ====
abbrev S16384x1 : Shape := ⟨2, ![16384, 1]⟩
abbrev S16384x2 : Shape := ⟨2, ![16384, 2]⟩
abbrev S16384x6 : Shape := ⟨2, ![16384, 6]⟩
abbrev S3 : Shape := ⟨1, ![3]⟩
abbrev S_ : Shape := ⟨0, ![]⟩
abbrev S16384 : Shape := ⟨1, ![16384]⟩
abbrev S16384x4 : Shape := ⟨2, ![16384, 4]⟩
abbrev S1x3 : Shape := ⟨2, ![1, 3]⟩
abbrev S16384x3 : Shape := ⟨2, ![16384, 3]⟩
abbrev S1x512 : Shape := ⟨2, ![1, 512]⟩
abbrev S16384x512 : Shape := ⟨2, ![16384, 512]⟩
abbrev S512 : Shape := ⟨1, ![512]⟩
abbrev S512x1 : Shape := ⟨2, ![512, 1]⟩
abbrev S512x2 : Shape := ⟨2, ![512, 2]⟩
abbrev S16384x1x2 : Shape := ⟨3, ![16384, 1, 2]⟩
abbrev S1x512x2 : Shape := ⟨3, ![1, 512, 2]⟩
abbrev S16384x512x2 : Shape := ⟨3, ![16384, 512, 2]⟩
abbrev S512x16384 : Shape := ⟨2, ![512, 16384]⟩
abbrev S512x4 : Shape := ⟨2, ![512, 4]⟩

abbrev nBuf : Space → Nat
  | .hbm => 289
  | .vmem => 0
  | .smem => 0
  | _ => 0

abbrev hbmTy0_0 (i : Nat) : BufTy := match i % 128 with
  | 0 => ⟨S16384x1, .f32⟩
  | 1 => ⟨S16384x2, .f32⟩
  | 2 => ⟨S16384x1, .f32⟩
  | 3 => ⟨S16384x2, .f32⟩
  | 4 => ⟨S16384x1, .f32⟩
  | 5 => ⟨S16384x6, .f32⟩
  | 6 => ⟨S16384x1, .i32⟩
  | 7 => ⟨S16384x1, .f32⟩
  | 8 => ⟨S16384x2, .f32⟩
  | 9 => ⟨S16384x1, .f32⟩
  | 10 => ⟨S16384x1, .f32⟩
  | 11 => ⟨S3, .i32⟩
  | 12 => ⟨S_, .f32⟩
  | 13 => ⟨S16384x1, .f32⟩
  | 14 => ⟨S16384x1, .i1⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S_, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384x1, .f32⟩
  | 32 => ⟨S16384x1, .f32⟩
  | 33 => ⟨S16384x1, .f32⟩
  | 34 => ⟨S_, .f32⟩
  | 35 => ⟨S16384x1, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1, .f32⟩
  | 42 => ⟨S16384x1, .i1⟩
  | 43 => ⟨S_, .f32⟩
  | 44 => ⟨S16384x1, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S16384x1, .f32⟩
  | 51 => ⟨S16384x1, .f32⟩
  | 52 => ⟨S16384x1, .f32⟩
  | 53 => ⟨S16384x2, .f32⟩
  | 54 => ⟨S16384x2, .f32⟩
  | 55 => ⟨S_, .f32⟩
  | 56 => ⟨S16384, .f32⟩
  | 57 => ⟨S16384x1, .f32⟩
  | 58 => ⟨S_, .f32⟩
  | 59 => ⟨S16384x1, .f32⟩
  | 60 => ⟨S16384x1, .f32⟩
  | 61 => ⟨S_, .f32⟩
  | 62 => ⟨S16384x1, .f32⟩
  | 63 => ⟨S16384x1, .f32⟩
  | 64 => ⟨S16384x1, .f32⟩
  | 65 => ⟨S16384x1, .f32⟩
  | 66 => ⟨S16384x6, .f32⟩
  | 67 => ⟨S_, .f32⟩
  | 68 => ⟨S16384, .f32⟩
  | 69 => ⟨S16384x1, .f32⟩
  | 70 => ⟨S_, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S16384x4, .f32⟩
  | 77 => ⟨S16384, .i32⟩
  | 78 => ⟨S16384, .f32⟩
  | 79 => ⟨S_, .f32⟩
  | 80 => ⟨S_, .f32⟩
  | 81 => ⟨S_, .f32⟩
  | 82 => ⟨S16384, .f32⟩
  | 83 => ⟨S16384, .f32⟩
  | 84 => ⟨S_, .f32⟩
  | 85 => ⟨S16384, .f32⟩
  | 86 => ⟨S16384, .f32⟩
  | 87 => ⟨S16384, .f32⟩
  | 88 => ⟨S16384, .f32⟩
  | 89 => ⟨S_, .f32⟩
  | 90 => ⟨S16384, .f32⟩
  | 91 => ⟨S16384, .f32⟩
  | 92 => ⟨S1x3, .i32⟩
  | 93 => ⟨S16384, .i32⟩
  | 94 => ⟨S16384x1, .i32⟩
  | 95 => ⟨S16384x3, .i32⟩
  | 96 => ⟨S16384x3, .i32⟩
  | 97 => ⟨S16384x3, .i1⟩
  | 98 => ⟨S16384x3, .i32⟩
  | 99 => ⟨S_, .i32⟩
  | 100 => ⟨S16384, .i32⟩
  | 101 => ⟨S_, .i32⟩
  | 102 => ⟨S16384, .i32⟩
  | 103 => ⟨S16384, .i32⟩
  | 104 => ⟨S_, .i32⟩
  | 105 => ⟨S16384, .i32⟩
  | 106 => ⟨S16384, .i1⟩
  | 107 => ⟨S_, .i32⟩
  | 108 => ⟨S16384, .i32⟩
  | 109 => ⟨S16384, .i32⟩
  | 110 => ⟨S16384, .i32⟩
  | 111 => ⟨S_, .i32⟩
  | 112 => ⟨S_, .i32⟩
  | 113 => ⟨S16384, .i32⟩
  | 114 => ⟨S16384, .i32⟩
  | 115 => ⟨S16384x1, .i32⟩
  | 116 => ⟨S1x512, .i32⟩
  | 117 => ⟨S16384x512, .i32⟩
  | 118 => ⟨S16384x512, .i32⟩
  | 119 => ⟨S16384x512, .i1⟩
  | 120 => ⟨S16384x512, .f32⟩
  | 121 => ⟨S_, .f32⟩
  | 122 => ⟨S512, .f32⟩
  | 123 => ⟨S_, .f32⟩
  | 124 => ⟨S512, .f32⟩
  | 125 => ⟨S512, .i1⟩
  | 126 => ⟨S512, .f32⟩
  | 127 => ⟨S16384x1, .f32⟩
  | _ => ⟨S16384x1, .f32⟩

abbrev hbmTy0_1 (i : Nat) : BufTy := match i % 128 with
  | 0 => ⟨S16384x512, .f32⟩
  | 1 => ⟨S16384x512, .f32⟩
  | 2 => ⟨S_, .f32⟩
  | 3 => ⟨S16384x512, .f32⟩
  | 4 => ⟨S16384x512, .f32⟩
  | 5 => ⟨S_, .f32⟩
  | 6 => ⟨S16384x512, .f32⟩
  | 7 => ⟨S16384x512, .f32⟩
  | 8 => ⟨S16384x512, .f32⟩
  | 9 => ⟨S16384x512, .i32⟩
  | 10 => ⟨S_, .f32⟩
  | 11 => ⟨S_, .i32⟩
  | 12 => ⟨S512, .f32⟩
  | 13 => ⟨S512, .i32⟩
  | 14 => ⟨S_, .i32⟩
  | 15 => ⟨S512, .i32⟩
  | 16 => ⟨S512, .i1⟩
  | 17 => ⟨S_, .i32⟩
  | 18 => ⟨S512, .i32⟩
  | 19 => ⟨S512, .i32⟩
  | 20 => ⟨S512, .i32⟩
  | 21 => ⟨S512x1, .i32⟩
  | 22 => ⟨S512x2, .f32⟩
  | 23 => ⟨S_, .i32⟩
  | 24 => ⟨S512, .i32⟩
  | 25 => ⟨S512, .i1⟩
  | 26 => ⟨S_, .i32⟩
  | 27 => ⟨S512, .i32⟩
  | 28 => ⟨S512, .i32⟩
  | 29 => ⟨S512, .i32⟩
  | 30 => ⟨S512x1, .i32⟩
  | 31 => ⟨S512, .f32⟩
  | 32 => ⟨S_, .i32⟩
  | 33 => ⟨S512, .i32⟩
  | 34 => ⟨S512, .i1⟩
  | 35 => ⟨S_, .i32⟩
  | 36 => ⟨S512, .i32⟩
  | 37 => ⟨S512, .i32⟩
  | 38 => ⟨S512, .i32⟩
  | 39 => ⟨S512x1, .i32⟩
  | 40 => ⟨S512, .f32⟩
  | 41 => ⟨S_, .i32⟩
  | 42 => ⟨S512, .i32⟩
  | 43 => ⟨S512, .i1⟩
  | 44 => ⟨S_, .i32⟩
  | 45 => ⟨S512, .i32⟩
  | 46 => ⟨S512, .i32⟩
  | 47 => ⟨S512, .i32⟩
  | 48 => ⟨S512x1, .i32⟩
  | 49 => ⟨S512, .i32⟩
  | 50 => ⟨S16384x1, .i32⟩
  | 51 => ⟨S1x512, .i32⟩
  | 52 => ⟨S16384x512, .i32⟩
  | 53 => ⟨S16384x512, .i32⟩
  | 54 => ⟨S16384x512, .i1⟩
  | 55 => ⟨S16384x512, .f32⟩
  | 56 => ⟨S16384x1x2, .f32⟩
  | 57 => ⟨S1x512x2, .f32⟩
  | 58 => ⟨S16384x512x2, .f32⟩
  | 59 => ⟨S16384x512x2, .f32⟩
  | 60 => ⟨S16384x512x2, .f32⟩
  | 61 => ⟨S16384x512x2, .f32⟩
  | 62 => ⟨S_, .f32⟩
  | 63 => ⟨S16384x512, .f32⟩
  | 64 => ⟨S_, .f32⟩
  | 65 => ⟨S16384x512, .f32⟩
  | 66 => ⟨S16384x512, .f32⟩
  | 67 => ⟨S16384x512, .f32⟩
  | 68 => ⟨S16384x1, .f32⟩
  | 69 => ⟨S1x512, .f32⟩
  | 70 => ⟨S16384x512, .f32⟩
  | 71 => ⟨S16384x512, .f32⟩
  | 72 => ⟨S16384x512, .f32⟩
  | 73 => ⟨S16384x512, .f32⟩
  | 74 => ⟨S16384x512, .f32⟩
  | 75 => ⟨S1x512, .f32⟩
  | 76 => ⟨S16384x512, .f32⟩
  | 77 => ⟨S16384x512, .f32⟩
  | 78 => ⟨S_, .f32⟩
  | 79 => ⟨S_, .f32⟩
  | 80 => ⟨S_, .f32⟩
  | 81 => ⟨S_, .f32⟩
  | 82 => ⟨S_, .f32⟩
  | 83 => ⟨S16384x512, .f32⟩
  | 84 => ⟨S16384x512, .f32⟩
  | 85 => ⟨S16384x512, .f32⟩
  | 86 => ⟨S1x512, .f32⟩
  | 87 => ⟨S16384x512, .f32⟩
  | 88 => ⟨S16384x512, .f32⟩
  | 89 => ⟨S16384x512, .f32⟩
  | 90 => ⟨S_, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S16384x512, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S512, .f32⟩
  | 107 => ⟨S512, .f32⟩
  | 108 => ⟨S512, .f32⟩
  | 109 => ⟨S_, .f32⟩
  | 110 => ⟨S_, .f32⟩
  | 111 => ⟨S_, .f32⟩
  | 112 => ⟨S_, .i32⟩
  | 113 => ⟨S16384, .i32⟩
  | 114 => ⟨S16384, .i1⟩
  | 115 => ⟨S16384, .f32⟩
  | 116 => ⟨S16384, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S16384x1, .f32⟩
  | 127 => ⟨S16384x512, .f32⟩
  | _ => ⟨S16384x1, .f32⟩

abbrev hbmTy0_2 (i : Nat) : BufTy := match i % 128 with
  | 0 => ⟨S16384x512, .f32⟩
  | 1 => ⟨S16384x1, .f32⟩
  | 2 => ⟨S1x512, .f32⟩
  | 3 => ⟨S_, .f32⟩
  | 4 => ⟨S1x512, .f32⟩
  | 5 => ⟨S1x512, .f32⟩
  | 6 => ⟨S16384x512, .f32⟩
  | 7 => ⟨S16384x512, .f32⟩
  | 8 => ⟨S16384x512, .i1⟩
  | 9 => ⟨S16384x512, .f32⟩
  | 10 => ⟨S16384x512, .f32⟩
  | 11 => ⟨S16384x4, .f32⟩
  | 12 => ⟨S16384x4, .f32⟩
  | 13 => ⟨S512x16384, .f32⟩
  | 14 => ⟨S512x4, .f32⟩
  | 15 => ⟨S_, .f32⟩
  | 16 => ⟨S512, .f32⟩
  | 17 => ⟨S512x1, .f32⟩
  | 18 => ⟨S_, .f32⟩
  | 19 => ⟨S512x1, .f32⟩
  | 20 => ⟨S512x1, .f32⟩
  | 21 => ⟨S512x4, .f32⟩
  | 22 => ⟨S512x4, .f32⟩
  | 23 => ⟨S512x1, .f32⟩
  | 24 => ⟨S512x4, .f32⟩
  | 25 => ⟨S512x4, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | _ => ⟨S16384x1, .f32⟩

abbrev hbmTy (i : Nat) : BufTy := match i / 128 with
  | 0 => hbmTy0_0 i
  | 1 => hbmTy0_1 i
  | 2 => hbmTy0_2 i
  | _ => ⟨S16384x1, .f32⟩

abbrev bufTy : (tb : Table) → Fin (tcTables nBuf tb) → BufTy
  | .hbm, ⟨i, _⟩ => hbmTy i
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_cst_4 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_7 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_8 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_cst_10 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_12 : Ref sig .tc := ⟨.hbm, 67, rfl⟩
abbrev main_v40 : Ref sig .tc := ⟨.hbm, 68, rfl⟩
abbrev main_v41 : Ref sig .tc := ⟨.hbm, 69, rfl⟩
abbrev main_cst_13 : Ref sig .tc := ⟨.hbm, 70, rfl⟩
abbrev main_v42 : Ref sig .tc := ⟨.hbm, 71, rfl⟩
abbrev main_v43 : Ref sig .tc := ⟨.hbm, 72, rfl⟩
abbrev main_cst_14 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_15 : Ref sig .tc := ⟨.hbm, 79, rfl⟩
abbrev main_cst_16 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_17 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c : Ref sig .tc := ⟨.hbm, 99, rfl⟩
abbrev main_v61 : Ref sig .tc := ⟨.hbm, 100, rfl⟩
abbrev main_c_18 : Ref sig .tc := ⟨.hbm, 101, rfl⟩
abbrev main_v62 : Ref sig .tc := ⟨.hbm, 102, rfl⟩
abbrev main_v63 : Ref sig .tc := ⟨.hbm, 103, rfl⟩
abbrev main_c_19 : Ref sig .tc := ⟨.hbm, 104, rfl⟩
abbrev main_v64 : Ref sig .tc := ⟨.hbm, 105, rfl⟩
abbrev main_v65 : Ref sig .tc := ⟨.hbm, 106, rfl⟩
abbrev main_c_20 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_21 : Ref sig .tc := ⟨.hbm, 111, rfl⟩
abbrev main_call3_v0 : Ref sig .tc := ⟨.hbm, 112, rfl⟩
abbrev main_call3_v1 : Ref sig .tc := ⟨.hbm, 113, rfl⟩
abbrev main_v69 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_v70 : Ref sig .tc := ⟨.hbm, 120, rfl⟩
abbrev main_cst_22 : Ref sig .tc := ⟨.hbm, 121, rfl⟩
abbrev main_v71 : Ref sig .tc := ⟨.hbm, 122, rfl⟩
abbrev main_cst_23 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_24 : Ref sig .tc := ⟨.hbm, 130, rfl⟩
abbrev main_v78 : Ref sig .tc := ⟨.hbm, 131, rfl⟩
abbrev main_v79 : Ref sig .tc := ⟨.hbm, 132, rfl⟩
abbrev main_cst_25 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_call5_v0 : Ref sig .tc := ⟨.hbm, 137, rfl⟩
abbrev main_call5_cst : Ref sig .tc := ⟨.hbm, 138, rfl⟩
abbrev main_call5_c : Ref sig .tc := ⟨.hbm, 139, rfl⟩
abbrev main_call5_v1_0 : Ref sig .tc := ⟨.hbm, 140, rfl⟩
abbrev main_v83 : Ref sig .tc := ⟨.hbm, 141, rfl⟩
abbrev main_c_26 : Ref sig .tc := ⟨.hbm, 142, rfl⟩
abbrev main_v84 : Ref sig .tc := ⟨.hbm, 143, rfl⟩
abbrev main_v85 : Ref sig .tc := ⟨.hbm, 144, rfl⟩
abbrev main_c_27 : Ref sig .tc := ⟨.hbm, 145, rfl⟩
abbrev main_v86 : Ref sig .tc := ⟨.hbm, 146, rfl⟩
abbrev main_v87 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_c_28 : Ref sig .tc := ⟨.hbm, 151, rfl⟩
abbrev main_v91 : Ref sig .tc := ⟨.hbm, 152, rfl⟩
abbrev main_v92 : Ref sig .tc := ⟨.hbm, 153, rfl⟩
abbrev main_c_29 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_c_30 : Ref sig .tc := ⟨.hbm, 160, rfl⟩
abbrev main_v98 : Ref sig .tc := ⟨.hbm, 161, rfl⟩
abbrev main_v99 : Ref sig .tc := ⟨.hbm, 162, rfl⟩
abbrev main_c_31 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_c_32 : Ref sig .tc := ⟨.hbm, 169, rfl⟩
abbrev main_v105 : Ref sig .tc := ⟨.hbm, 170, rfl⟩
abbrev main_v106 : Ref sig .tc := ⟨.hbm, 171, rfl⟩
abbrev main_c_33 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_cst_34 : Ref sig .tc := ⟨.hbm, 190, rfl⟩
abbrev main_v124 : Ref sig .tc := ⟨.hbm, 191, rfl⟩
abbrev main_cst_35 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_36 : Ref sig .tc := ⟨.hbm, 206, rfl⟩
abbrev main_v138 : Ref sig .tc := ⟨.hbm, 207, rfl⟩
abbrev main_cst_37 : Ref sig .tc := ⟨.hbm, 208, rfl⟩
abbrev main_v139 : Ref sig .tc := ⟨.hbm, 209, rfl⟩
abbrev main_cst_38 : Ref sig .tc := ⟨.hbm, 210, rfl⟩
abbrev main_v140 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_39 : Ref sig .tc := ⟨.hbm, 218, rfl⟩
abbrev main_v147 : Ref sig .tc := ⟨.hbm, 219, rfl⟩
abbrev main_v148 : Ref sig .tc := ⟨.hbm, 220, rfl⟩
abbrev main_call6_cst : Ref sig .tc := ⟨.hbm, 221, rfl⟩
abbrev main_call6_v0 : Ref sig .tc := ⟨.hbm, 222, rfl⟩
abbrev main_v149 : Ref sig .tc := ⟨.hbm, 223, rfl⟩
abbrev main_v150 : Ref sig .tc := ⟨.hbm, 224, rfl⟩
abbrev main_cst_40 : Ref sig .tc := ⟨.hbm, 225, rfl⟩
abbrev main_v151 : Ref sig .tc := ⟨.hbm, 226, rfl⟩
abbrev main_cst_41 : Ref sig .tc := ⟨.hbm, 227, rfl⟩
abbrev main_v152 : Ref sig .tc := ⟨.hbm, 228, rfl⟩
abbrev main_cst_42 : Ref sig .tc := ⟨.hbm, 229, rfl⟩
abbrev main_v153 : Ref sig .tc := ⟨.hbm, 230, rfl⟩
abbrev main_cst_43 : Ref sig .tc := ⟨.hbm, 231, rfl⟩
abbrev main_v154 : Ref sig .tc := ⟨.hbm, 232, rfl⟩
abbrev main_cst_44 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_45 : Ref sig .tc := ⟨.hbm, 237, rfl⟩
abbrev main_v158 : Ref sig .tc := ⟨.hbm, 238, rfl⟩
abbrev main_v159 : Ref sig .tc := ⟨.hbm, 239, rfl⟩
abbrev main_c_46 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_cst_47 : Ref sig .tc := ⟨.hbm, 245, rfl⟩
abbrev main_v164 : Ref sig .tc := ⟨.hbm, 246, rfl⟩
abbrev main_cst_48 : Ref sig .tc := ⟨.hbm, 247, rfl⟩
abbrev main_v165 : Ref sig .tc := ⟨.hbm, 248, rfl⟩
abbrev main_cst_49 : Ref sig .tc := ⟨.hbm, 249, rfl⟩
abbrev main_v166 : Ref sig .tc := ⟨.hbm, 250, rfl⟩
abbrev main_cst_50 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_cst_51 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_cst_52 : Ref sig .tc := ⟨.hbm, 271, rfl⟩
abbrev main_v185 : Ref sig .tc := ⟨.hbm, 272, rfl⟩
abbrev main_v186 : Ref sig .tc := ⟨.hbm, 273, rfl⟩
abbrev main_cst_53 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_cst_54 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩

abbrev nD : Nat := 1
abbrev τ : Topo := Topo.v7x

variable {F : FTy → Type} [FloatOps F]
-- ==== Proof.KernelIdeal.State.lean ====
module

public import proofs.«01_k».proof.Proof.Gen.KernelIdeal.Frame
public import proofs.«01_k».proof.Proof.Gen.KernelIdeal.Skeleton
public import Idealize.ShloMosaic.Lib.Pointwise
public import Idealize.ShloMosaic.Lib.VecWindow
public import Idealize.ShloMosaic.Lib.WritesUnit

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The ten input blocks of one grid point: the row splits, the clustering weights, the cluster coordinates, the energy,
the position, the time and the class predictions, the object numbers, the true energies and the three true columns. -/
structure Blk (F : FTy → Type) [FloatOps F] where
  x0 : Vec F S3 .i32
  x1 : Vec F S1024x1 .f32
  x2 : Vec F S1024x2 .f32
  x3 : Vec F S1024x1 .f32
  x4 : Vec F S1024x2 .f32
  x5 : Vec F S1024x1 .f32
  x6 : Vec F S1024x6 .f32
  x7 : Vec F S1024x1 .i32
  x8 : Vec F S1024x1 .f32
  x9 : Vec F S1024x3 .f32

/-- What the carried scratch holds between two grid points: per object the largest weight, the two coordinates of the
point it sits at, its charge, its weight threshold, and the three running sums; and the two noise sums. -/
@[ext] structure St (F : FTy → Type) [FloatOps F] where
  mb : Vec F S1x512 .f32
  mx0 : Vec F S1x512 .f32
  mx1 : Vec F S1x512 .f32
  qa : Vec F S1x512 .f32
  thr : Vec F S1x512 .f32
  acc : Vec F S1x512 .f32
  pws : Vec F S1x512 .f32
  pww : Vec F S1x512 .f32
  ss : Vec F S2 .f32

/-- The two noise sums as the contents of their two-word buffer. -/
def pair (a b : F .f32) : Vec F S2 .f32 := fun j => if (j 0).val = 0 then a else b

/-- The columns of a block, as the body's loads read them. -/
abbrev c0of (x : Vec F S1024x2 .f32) : Vec F S1024x1 .f32 := fun j => x (ix2 (j 0) 0)
abbrev c1of (x : Vec F S1024x2 .f32) : Vec F S1024x1 .f32 := fun j => x (ix2 (j 0) 1)
abbrev t0of (x : Vec F S1024x3 .f32) : Vec F S1024x1 .f32 := fun j => x (ix2 (j 0) 0)
abbrev t1of (x : Vec F S1024x3 .f32) : Vec F S1024x1 .f32 := fun j => x (ix2 (j 0) 1)
abbrev t2of (x : Vec F S1024x3 .f32) : Vec F S1024x1 .f32 := fun j => x (ix2 (j 0) 2)

/-- The scalar word `k` of a three-word buffer. -/
abbrev rs1 (x : Vec F S3 .i32) : Elt F .i32 := x (ix1 1)

/-- One block of the first pass folded into the carried scratch. -/
def ph0 (i : grid0.Coords) (X : Blk F) (s : St F) : St F :=
  let v21 := k0_pay2 X.x1
  let v24 := k0_pay3 (F := F) i (rs1 X.x0) X.x7
  { s with
    mb := k0_pay22 v21 v24 s.mb s.mb
    mx0 := k0_pay4 (k0_pay19 v21 v24 (c0of X.x2)) (k0_pay21 v21 v24 s.mb) s.mx0
    mx1 := k0_pay5 (k0_pay20 v21 v24 (c1of X.x2)) (k0_pay21 v21 v24 s.mb) s.mx1
    ss := pair (k0_pay7 X.x7 X.x1 (s.ss (ix1 0))) (k0_pay8 X.x7 (s.ss (ix1 1))) }

/-- The accumulators at the start of the first pass. -/
def init (s : St F) : St F :=
  { s with
    mb := k0_pay10
    mx0 := k0_pay11
    mx1 := k0_pay12
    acc := k0_pay13
    pws := k0_pay14
    pww := k0_pay15
    ss := pair (Scalar.ofBits .f32 0x00000000#32) (Scalar.ofBits .f32 0x00000000#32) }

/-- The charge and the threshold of every object, set at the start of the second pass. -/
def prep (s : St F) : St F := { s with qa := k0_pay32 s.mb, thr := k0_pay33 s.mb }

/-- One block of the second pass folded into the carried scratch. -/
def ph1 (i : grid0.Coords) (X : Blk F) (s : St F) : St F :=
  let v0 : IVec S1x512 32 := iota .tc S1x512 32 [1] iota_S1x512_d1_w32
  let v21 := k0_pay2 X.x1
  let v24 := k0_pay3 (F := F) i (rs1 X.x0) X.x7
  { s with
    acc := k0_pay39 (k0_pay1 (F := F) i (rs1 X.x0)) v21 v24 (k0_pay34 (c0of X.x2) (c1of X.x2) s.mx0 s.mx1)
      (k0_pay35 (c0of X.x2) (c1of X.x2) s.mx0 s.mx1) (k0_pay36 v0) (k0_pay37 v0) k0_pay38 s.acc s.qa
    pws := k0_pay47 v21 v24 s.thr s.pws
    pww := k0_pay48 v21 v24 (k0_pay42 (k0_pay40 X.x8) (k0_pay41 X.x8) (Scalar.ofBits .f32 0x3F800000#32))
      (k0_pay43 X.x8 X.x3) (k0_pay44 (t1of X.x9) (c0of X.x4) (t2of X.x9) (c1of X.x4)) (k0_pay45 (t0of X.x9))
      X.x5 X.x6 X.x6 s.thr s.pww }

/-- The result, from the scratch after the last block. -/
def fin (s : St F) : FVec F S1x1 .f32 :=
  k0_pay9 (k0_pay25 s.mb) (k0_pay26 s.mb s.pww s.pws) (k0_pay27 s.acc) (k0_pay28 (s.ss (ix1 0))) (k0_pay29 (s.ss (ix1 1)))

/-- The first pass runs at the points whose first coordinate is zero. -/
abbrev c0 (i : grid0.Coords) : Prop := (Scalar.cmpi .ne (Scalar.extui (Scalar.cmpi .eq (BitVec.ofNat 32 (i 0).val) 0#32)) 0#32) = 1#1
/-- A pass starts at the points whose second coordinate is zero. -/
abbrev c1 (i : grid0.Coords) : Prop := (Scalar.cmpi .ne (Scalar.extui (Scalar.cmpi .eq (BitVec.ofNat 32 (i 1).val) 0#32)) 0#32) = 1#1
/-- The second pass runs at the points whose first coordinate is one. -/
abbrev c2 (i : grid0.Coords) : Prop := k0_cond3 i = 1#1
/-- The result is stored at the points whose second coordinate is fifteen. -/
abbrev c4 (i : grid0.Coords) : Prop := k0_cond5 i = 1#1

/-! What a load of a whole buffer, of one column or of one word reads, when the buffer holds `x`. -/

section Loads

variable {sp : Space} {e : EltTy}

theorem load_1024x1 (a : Memref sig .tc sp S1024x1 e) (h : a.IsWhole) (x : Vec F S1024x1 e) :
    a.view.readAt (Elt F) (Rect.unit ![0, 0] ![1024, 1] inb_S1024x1_S1024x1_0_0).toLoadRect (h.unread x) = x :=
  (View.readAt_full a.view (h.unread x) inb_S1024x1_S1024x1_0_0).trans (h.read_unread x)

theorem load_1x512 (a : Memref sig .tc sp S1x512 e) (h : a.IsWhole) (x : Vec F S1x512 e) :
    a.view.readAt (Elt F) (Rect.unit ![0, 0] ![1, 512] inb_S1x512_S1x512_0_0).toLoadRect (h.unread x) = x :=
  (View.readAt_full a.view (h.unread x) inb_S1x512_S1x512_0_0).trans (h.read_unread x)

theorem load_1024x6 (a : Memref sig .tc sp S1024x6 e) (h : a.IsWhole) (x : Vec F S1024x6 e) :
    a.view.readAt (Elt F) (Rect.unit ![0, 0] ![1024, 6] inb_S1024x6_S1024x6_0_0).toLoadRect (h.unread x) = x :=
  (View.readAt_full a.view (h.unread x) inb_S1024x6_S1024x6_0_0).trans (h.read_unread x)

theorem load_c0of (a : Memref sig .tc sp S1024x2 .f32) (h : a.IsWhole) (x : Vec F S1024x2 .f32) :
    a.view.readAt (Elt F) (Rect.unit ![0, 0] ![1024, 1] inb_S1024x2_S1024x1_0_0).toLoadRect (h.unread x) = c0of x := by
  funext y
  refine (congrFun (h.read_unread x) _).trans (congrArg x (funext fun d => ?_))
  match d with
  | ⟨0, _⟩ => exact Fin.ext (by show 0 + 1 * (y 0).val = (y 0).val; omega)
  | ⟨1, _⟩ => exact Fin.ext (by have h1 : (y 1).val < 1 := (y 1).isLt; show 0 + 1 * (y 1).val = 0; omega)

theorem load_c1of (a : Memref sig .tc sp S1024x2 .f32) (h : a.IsWhole) (x : Vec F S1024x2 .f32) :
    a.view.readAt (Elt F) (Rect.unit ![0, 1] ![1024, 1] inb_S1024x2_S1024x1_0_1).toLoadRect (h.unread x) = c1of x := by
  funext y
  refine (congrFun (h.read_unread x) _).trans (congrArg x (funext fun d => ?_))
  match d with
  | ⟨0, _⟩ => exact Fin.ext (by show 0 + 1 * (y 0).val = (y 0).val; omega)
  | ⟨1, _⟩ => exact Fin.ext (by have h1 : (y 1).val < 1 := (y 1).isLt; show 1 + 1 * (y 1).val = 1; omega)

theorem load_t0of (a : Memref sig .tc sp S1024x3 .f32) (h : a.IsWhole) (x : Vec F S1024x3 .f32) :
    a.view.readAt (Elt F) (Rect.unit ![0, 0] ![1024, 1] inb_S1024x3_S1024x1_0_0).toLoadRect (h.unread x) = t0of x := by
  funext y
  refine (congrFun (h.read_unread x) _).trans (congrArg x (funext fun d => ?_))
  match d with
  | ⟨0, _⟩ => exact Fin.ext (by show 0 + 1 * (y 0).val = (y 0).val; omega)
  | ⟨1, _⟩ => exact Fin.ext (by have h1 : (y 1).val < 1 := (y 1).isLt; show 0 + 1 * (y 1).val = 0; omega)

theorem load_t1of (a : Memref sig .tc sp S1024x3 .f32) (h : a.IsWhole) (x : Vec F S1024x3 .f32) :
    a.view.readAt (Elt F) (Rect.unit ![0, 1] ![1024, 1] inb_S1024x3_S1024x1_0_1).toLoadRect (h.unread x) = t1of x := by
  funext y
  refine (congrFun (h.read_unread x) _).trans (congrArg x (funext fun d => ?_))
  match d with
  | ⟨0, _⟩ => exact Fin.ext (by show 0 + 1 * (y 0).val = (y 0).val; omega)
  | ⟨1, _⟩ => exact Fin.ext (by have h1 : (y 1).val < 1 := (y 1).isLt; show 1 + 1 * (y 1).val = 1; omega)

theorem load_t2of (a : Memref sig .tc sp S1024x3 .f32) (h : a.IsWhole) (x : Vec F S1024x3 .f32) :
    a.view.readAt (Elt F) (Rect.unit ![0, 2] ![1024, 1] inb_S1024x3_S1024x1_0_2).toLoadRect (h.unread x) = t2of x := by
  funext y
  refine (congrFun (h.read_unread x) _).trans (congrArg x (funext fun d => ?_))
  match d with
  | ⟨0, _⟩ => exact Fin.ext (by show 0 + 1 * (y 0).val = (y 0).val; omega)
  | ⟨1, _⟩ => exact Fin.ext (by have h1 : (y 1).val < 1 := (y 1).isLt; show 2 + 1 * (y 1).val = 2; omega)

theorem load_S3_1 (a : Memref sig .tc sp S3 .i32) (h : a.IsWhole) (x : Vec F S3 .i32) (y) :
    a.view.readAt (Elt F) (Rect.unit ![1] ![1] inb_S3_S1_1).toLoadRect (h.unread x) y = x (ix1 1) := by
  refine (congrFun (h.read_unread x) _).trans (congrArg x (funext fun d => ?_))
  match d with
  | ⟨0, _⟩ => exact Fin.ext (by have h1 : (y 0).val < 1 := (y 0).isLt; show 1 + 1 * (y 0).val = 1; omega)

theorem load_S2_0 (a : Memref sig .tc sp S2 .f32) (h : a.IsWhole) (x : Vec F S2 .f32) (y) :
    a.view.readAt (Elt F) (Rect.unit ![0] ![1] inb_S2_S1_0).toLoadRect (h.unread x) y = x (ix1 0) := by
  refine (congrFun (h.read_unread x) _).trans (congrArg x (funext fun d => ?_))
  match d with
  | ⟨0, _⟩ => exact Fin.ext (by have h1 : (y 0).val < 1 := (y 0).isLt; show 0 + 1 * (y 0).val = 0; omega)

theorem load_S2_1 (a : Memref sig .tc sp S2 .f32) (h : a.IsWhole) (x : Vec F S2 .f32) (y) :
    a.view.readAt (Elt F) (Rect.unit ![1] ![1] inb_S2_S1_1).toLoadRect (h.unread x) y = x (ix1 1) := by
  refine (congrFun (h.read_unread x) _).trans (congrArg x (funext fun d => ?_))
  match d with
  | ⟨0, _⟩ => exact Fin.ext (by have h1 : (y 0).val < 1 := (y 0).isLt; show 1 + 1 * (y 0).val = 1; omega)

theorem again_1x512 (v : View sig .tc sp S1x512 e) (w : Vec F S1x512 e) (L : List (View.Piece (Elt F) S1x512 e)) :
    v.readCov (⟨Rect.unit ![0, 0] ![1, 512] inb_S1x512_S1x512_0_0, w⟩ :: L) (Rect.unit ![0, 0] ![1, 512] inb_S1x512_S1x512_0_0).toLoadRect = w :=
  View.readCov_full v inb_S1x512_S1x512_0_0 inb_S1x512_S1x512_0_0 w L

theorem store_1x512 (v : View sig .tc sp S1x512 e) (f : v.ty.Contents (Elt F)) (w : Vec F S1x512 e) (L : List (View.Piece (Elt F) S1x512 e)) :
    v.read (Elt F) (v.writes (Elt F) f (⟨Rect.unit ![0, 0] ![1, 512] inb_S1x512_S1x512_0_0, w⟩ :: L)) = w :=
  View.read_writes_full v f inb_S1x512_S1x512_0_0 w L

theorem store_1x1 (v : View sig .tc sp S1x1 e) (f : v.ty.Contents (Elt F)) (w : Vec F S1x1 e) (L : List (View.Piece (Elt F) S1x1 e)) :
    v.read (Elt F) (v.writes (Elt F) f (⟨Rect.unit ![0, 0] ![1, 1] inb_S1x1_S1x1_0_0, w⟩ :: L)) = w :=
  View.read_writes_full v f inb_S1x1_S1x1_0_0 w L

theorem store_pair (a : Memref sig .tc sp S2 .f32) (f : a.view.ty.Contents (Elt F)) (p q : F .f32) (L : List (View.Piece (Elt F) S2 .f32)) :
    a.view.read (Elt F) (a.view.writes (Elt F) f (⟨Rect.unit ![1] ![1] inb_S2_S1_1, fun _ => q⟩ :: ⟨Rect.unit ![0] ![1] inb_S2_S1_0, fun _ => p⟩ :: L)) = pair p q := by
  funext y
  by_cases hy : (y 0).val = 0
  · rw [View.read_writes_cons_unit_of_not_mem a.view f inb_S2_S1_1 _ _ y rfl 0 (Or.inl (by show (y 0).val < 1; omega))]
    rw [View.read_writes_cons_unit_of_mem a.view f inb_S2_S1_0 _ _ y (ix1 0) rfl (fun d => by
      match d with
      | ⟨0, _⟩ => show (y 0).val = 0 + 0; omega)]
    exact (if_pos hy).symm
  · have h2 : (y 0).val < 2 := (y 0).isLt
    rw [View.read_writes_cons_unit_of_mem a.view f inb_S2_S1_1 _ _ y (ix1 0) rfl (fun d => by
      match d with
      | ⟨0, _⟩ => show (y 0).val = 1 + 0; omega)]
    exact (if_neg hy).symm

end Loads

end Cert.KernelIdeal.Loss

end
-- ==== Proof.KernelIdeal.RunA.lean ====
module

public import proofs.«01_k».proof.Proof.KernelIdeal.State

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .smem S3 .i32) (harg2 : arg2.IsWhole)
variable (arg3 : Memref sig .tc .vmem S1024x1 .f32) (harg3 : arg3.IsWhole)
variable (arg4 : Memref sig .tc .vmem S1024x2 .f32) (harg4 : arg4.IsWhole)
variable (arg5 : Memref sig .tc .vmem S1024x1 .f32) (harg5 : arg5.IsWhole)
variable (arg6 : Memref sig .tc .vmem S1024x2 .f32) (harg6 : arg6.IsWhole)
variable (arg7 : Memref sig .tc .vmem S1024x1 .f32) (harg7 : arg7.IsWhole)
variable (arg8 : Memref sig .tc .vmem S1024x6 .f32) (harg8 : arg8.IsWhole)
variable (arg9 : Memref sig .tc .vmem S1024x1 .i32) (harg9 : arg9.IsWhole)
variable (arg10 : Memref sig .tc .vmem S1024x1 .f32) (harg10 : arg10.IsWhole)
variable (arg11 : Memref sig .tc .vmem S1024x3 .f32) (harg11 : arg11.IsWhole)
variable (arg12 : Memref sig .tc .vmem S1x1 .f32) (harg12 : arg12.IsWhole)
variable (arg13 : Memref sig .tc .vmem S1x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S1x512 .f32) (harg16 : arg16.IsWhole)
variable (arg17 : Memref sig .tc .vmem S1x512 .f32) (harg17 : arg17.IsWhole)
variable (arg18 : Memref sig .tc .vmem S1x512 .f32) (harg18 : arg18.IsWhole)
variable (arg19 : Memref sig .tc .vmem S1x512 .f32) (harg19 : arg19.IsWhole)
variable (arg20 : Memref sig .tc .vmem S1x512 .f32) (harg20 : arg20.IsWhole)
variable (arg21 : Memref sig .tc .smem S2 .f32) (harg21 : arg21.IsWhole)

set_option maxHeartbeats 1600000 in
/-- At the first point of the first pass (the accumulators are set, then the block is folded in), the body takes the carried scratch from `s` to `ph0 i X (init s)` and leaves its inputs as they were. -/
theorem runA (c : Dev nD) (i : grid0.Coords) (hc0 : c0 i) (hc1 : c1 i) (hc2 : ¬c2 i) (X : Blk F) (s : St F) (d10 : Vec F S1x1 .f32) (E : Set ℕ) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare d10 ∗ owns (c : Thread nD τ) arg13 fullShare s.mb ∗ owns (c : Thread nD τ) arg14 fullShare s.mx0 ∗ owns (c : Thread nD τ) arg15 fullShare s.mx1 ∗ owns (c : Thread nD τ) arg16 fullShare s.qa ∗ owns (c : Thread nD τ) arg17 fullShare s.thr ∗ owns (c : Thread nD τ) arg18 fullShare s.acc ∗ owns (c : Thread nD τ) arg19 fullShare s.pws ∗ owns (c : Thread nD τ) arg20 fullShare s.pww ∗ owns (c : Thread nD τ) arg21 fullShare s.ss
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare d10 ∗ owns (c : Thread nD τ) arg13 fullShare (ph0 i X (init s)).mb ∗ owns (c : Thread nD τ) arg14 fullShare (ph0 i X (init s)).mx0 ∗ owns (c : Thread nD τ) arg15 fullShare (ph0 i X (init s)).mx1 ∗ owns (c : Thread nD τ) arg16 fullShare (ph0 i X (init s)).qa ∗ owns (c : Thread nD τ) arg17 fullShare (ph0 i X (init s)).thr ∗ owns (c : Thread nD τ) arg18 fullShare (ph0 i X (init s)).acc ∗ owns (c : Thread nD τ) arg19 fullShare (ph0 i X (init s)).pws ∗ owns (c : Thread nD τ) arg20 fullShare (ph0 i X (init s)).pww ∗ owns (c : Thread nD τ) arg21 fullShare (ph0 i X (init s)).ss) -∗ K ⟨⟩))
    ⊢ wp frame (wpE (defs₀ (F := F)) Variants.none c none) E (cc0__oc_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__oc_kernel_eq_skeleton]; unfold cc0__oc_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg13.eq_unread hfs0
  obtain rfl := harg14.eq_unread hfs1
  obtain rfl := harg15.eq_unread hfs2
  obtain rfl := harg16.eq_unread hfs3
  obtain rfl := harg17.eq_unread hfs4
  obtain rfl := harg18.eq_unread hfs5
  obtain rfl := harg19.eq_unread hfs6
  obtain rfl := harg20.eq_unread hfs7
  obtain rfl := harg21.eq_unread hfs8
  sl_exec (disch := first | sl_exact hc0 | sl_exact hc1 | sl_exact hc2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists f10; isplitr
    · ipureintro; exact hf10
    iexact H10
  isplitl [HS0]
  · iexists _; isplitr
    rotate_left; iexact HS0
    ipureintro; refine (store_1x512 _ _ _ _).trans ?_
    repeat delta runA.sl.HS0_1 runA.sl.HS1_1 runA.sl.HS2_1 runA.sl.cst_60 runA.sl.f runA.sl.r runA.sl.r_1 runA.sl.r_2 runA.sl.r_3 runA.sl.r_4 runA.sl.r_5 runA.sl.v65 runA.sl.v72 runA.sl.v77
    try simp only [load_1024x1, load_1x512, load_1024x6, load_c0of, load_c1of, load_t0of, load_t1of, load_t2of, load_S3_1, load_S2_0, load_S2_1, again_1x512]
    rfl
  isplitl [HS1]
  · iexists _; isplitr
    rotate_left; iexact HS1
    ipureintro; refine (store_1x512 _ _ _ _).trans ?_
    repeat delta runA.sl.HS0_1 runA.sl.HS1_1 runA.sl.HS2_1 runA.sl.cst_60 runA.sl.f runA.sl.r runA.sl.r_1 runA.sl.r_2 runA.sl.r_3 runA.sl.r_4 runA.sl.r_5 runA.sl.v65 runA.sl.v72 runA.sl.v77
    try simp only [load_1024x1, load_1x512, load_1024x6, load_c0of, load_c1of, load_t0of, load_t1of, load_t2of, load_S3_1, load_S2_0, load_S2_1, again_1x512]
    rfl
  isplitl [HS2]
  · iexists _; isplitr
    rotate_left; iexact HS2
    ipureintro; refine (store_1x512 _ _ _ _).trans ?_
    repeat delta runA.sl.HS0_1 runA.sl.HS1_1 runA.sl.HS2_1 runA.sl.cst_60 runA.sl.f runA.sl.r runA.sl.r_1 runA.sl.r_2 runA.sl.r_3 runA.sl.r_4 runA.sl.r_5 runA.sl.v65 runA.sl.v72 runA.sl.v77
    try simp only [load_1024x1, load_1x512, load_1024x6, load_c0of, load_c1of, load_t0of, load_t1of, load_t2of, load_S3_1, load_S2_0, load_S2_1, again_1x512]
    rfl
  isplitl [HS3]
  · iexists _; isplitr
    · ipureintro; exact harg16.read_unread _
    iexact HS3
  isplitl [HS4]
  · iexists _; isplitr
    · ipureintro; exact harg17.read_unread _
    iexact HS4
  isplitl [HS5]
  · iexists _; isplitr
    rotate_left; iexact HS5
    ipureintro; refine (store_1x512 _ _ _ _).trans ?_
    repeat delta runA.sl.HS0_1 runA.sl.HS1_1 runA.sl.HS2_1 runA.sl.cst_60 runA.sl.f runA.sl.r runA.sl.r_1 runA.sl.r_2 runA.sl.r_3 runA.sl.r_4 runA.sl.r_5 runA.sl.v65 runA.sl.v72 runA.sl.v77
    try simp only [load_1024x1, load_1x512, load_1024x6, load_c0of, load_c1of, load_t0of, load_t1of, load_t2of, load_S3_1, load_S2_0, load_S2_1, again_1x512]
    rfl
  isplitl [HS6]
  · iexists _; isplitr
    rotate_left; iexact HS6
    ipureintro; refine (store_1x512 _ _ _ _).trans ?_
    repeat delta runA.sl.HS0_1 runA.sl.HS1_1 runA.sl.HS2_1 runA.sl.cst_60 runA.sl.f runA.sl.r runA.sl.r_1 runA.sl.r_2 runA.sl.r_3 runA.sl.r_4 runA.sl.r_5 runA.sl.v65 runA.sl.v72 runA.sl.v77
    try simp only [load_1024x1, load_1x512, load_1024x6, load_c0of, load_c1of, load_t0of, load_t1of, load_t2of, load_S3_1, load_S2_0, load_S2_1, again_1x512]
    rfl
  isplitl [HS7]
  · iexists _; isplitr
    rotate_left; iexact HS7
    ipureintro; refine (store_1x512 _ _ _ _).trans ?_
    repeat delta runA.sl.HS0_1 runA.sl.HS1_1 runA.sl.HS2_1 runA.sl.cst_60 runA.sl.f runA.sl.r runA.sl.r_1 runA.sl.r_2 runA.sl.r_3 runA.sl.r_4 runA.sl.r_5 runA.sl.v65 runA.sl.v72 runA.sl.v77
    try simp only [load_1024x1, load_1x512, load_1024x6, load_c0of, load_c1of, load_t0of, load_t1of, load_t2of, load_S3_1, load_S2_0, load_S2_1, again_1x512]
    rfl
  iexists _; isplitr
  rotate_left; iexact HS8
  ipureintro; repeat delta runA.sl.HS0_1 runA.sl.HS1_1 runA.sl.HS2_1 runA.sl.cst_60 runA.sl.f runA.sl.r runA.sl.r_1 runA.sl.r_2 runA.sl.r_3 runA.sl.r_4 runA.sl.r_5 runA.sl.v65 runA.sl.v72 runA.sl.v77
  simp only [load_1024x1, load_1x512, load_1024x6, load_c0of, load_c1of, load_t0of, load_t1of, load_t2of, load_S3_1, load_S2_0, load_S2_1, again_1x512]
  exact store_pair (F := F) _ _ _ _ _

end Cert.KernelIdeal.Loss

end
-- ==== Proof.KernelIdeal.RunB.lean ====
module

public import proofs.«01_k».proof.Proof.KernelIdeal.RunA

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .smem S3 .i32) (harg2 : arg2.IsWhole)
variable (arg3 : Memref sig .tc .vmem S1024x1 .f32) (harg3 : arg3.IsWhole)
variable (arg4 : Memref sig .tc .vmem S1024x2 .f32) (harg4 : arg4.IsWhole)
variable (arg5 : Memref sig .tc .vmem S1024x1 .f32) (harg5 : arg5.IsWhole)
variable (arg6 : Memref sig .tc .vmem S1024x2 .f32) (harg6 : arg6.IsWhole)
variable (arg7 : Memref sig .tc .vmem S1024x1 .f32) (harg7 : arg7.IsWhole)
variable (arg8 : Memref sig .tc .vmem S1024x6 .f32) (harg8 : arg8.IsWhole)
variable (arg9 : Memref sig .tc .vmem S1024x1 .i32) (harg9 : arg9.IsWhole)
variable (arg10 : Memref sig .tc .vmem S1024x1 .f32) (harg10 : arg10.IsWhole)
variable (arg11 : Memref sig .tc .vmem S1024x3 .f32) (harg11 : arg11.IsWhole)
variable (arg12 : Memref sig .tc .vmem S1x1 .f32) (harg12 : arg12.IsWhole)
variable (arg13 : Memref sig .tc .vmem S1x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S1x512 .f32) (harg16 : arg16.IsWhole)
variable (arg17 : Memref sig .tc .vmem S1x512 .f32) (harg17 : arg17.IsWhole)
variable (arg18 : Memref sig .tc .vmem S1x512 .f32) (harg18 : arg18.IsWhole)
variable (arg19 : Memref sig .tc .vmem S1x512 .f32) (harg19 : arg19.IsWhole)
variable (arg20 : Memref sig .tc .vmem S1x512 .f32) (harg20 : arg20.IsWhole)
variable (arg21 : Memref sig .tc .smem S2 .f32) (harg21 : arg21.IsWhole)

set_option maxHeartbeats 1600000 in
/-- At a later point of the first pass, the body takes the carried scratch from `s` to `ph0 i X s` and leaves its inputs as they were. -/
theorem runB (c : Dev nD) (i : grid0.Coords) (hc0 : c0 i) (hc1 : ¬c1 i) (hc2 : ¬c2 i) (X : Blk F) (s : St F) (d10 : Vec F S1x1 .f32) (E : Set ℕ) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare d10 ∗ owns (c : Thread nD τ) arg13 fullShare s.mb ∗ owns (c : Thread nD τ) arg14 fullShare s.mx0 ∗ owns (c : Thread nD τ) arg15 fullShare s.mx1 ∗ owns (c : Thread nD τ) arg16 fullShare s.qa ∗ owns (c : Thread nD τ) arg17 fullShare s.thr ∗ owns (c : Thread nD τ) arg18 fullShare s.acc ∗ owns (c : Thread nD τ) arg19 fullShare s.pws ∗ owns (c : Thread nD τ) arg20 fullShare s.pww ∗ owns (c : Thread nD τ) arg21 fullShare s.ss
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare d10 ∗ owns (c : Thread nD τ) arg13 fullShare (ph0 i X s).mb ∗ owns (c : Thread nD τ) arg14 fullShare (ph0 i X s).mx0 ∗ owns (c : Thread nD τ) arg15 fullShare (ph0 i X s).mx1 ∗ owns (c : Thread nD τ) arg16 fullShare (ph0 i X s).qa ∗ owns (c : Thread nD τ) arg17 fullShare (ph0 i X s).thr ∗ owns (c : Thread nD τ) arg18 fullShare (ph0 i X s).acc ∗ owns (c : Thread nD τ) arg19 fullShare (ph0 i X s).pws ∗ owns (c : Thread nD τ) arg20 fullShare (ph0 i X s).pww ∗ owns (c : Thread nD τ) arg21 fullShare (ph0 i X s).ss) -∗ K ⟨⟩))
    ⊢ wp frame (wpE (defs₀ (F := F)) Variants.none c none) E (cc0__oc_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__oc_kernel_eq_skeleton]; unfold cc0__oc_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg13.eq_unread hfs0
  obtain rfl := harg14.eq_unread hfs1
  obtain rfl := harg15.eq_unread hfs2
  obtain rfl := harg16.eq_unread hfs3
  obtain rfl := harg17.eq_unread hfs4
  obtain rfl := harg18.eq_unread hfs5
  obtain rfl := harg19.eq_unread hfs6
  obtain rfl := harg20.eq_unread hfs7
  obtain rfl := harg21.eq_unread hfs8
  sl_exec (disch := first | sl_exact hc0 | sl_exact hc1 | sl_exact hc2)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists f10; isplitr
    · ipureintro; exact hf10
    iexact H10
  isplitl [HS0]
  · iexists _; isplitr
    rotate_left; iexact HS0
    ipureintro; refine (store_1x512 _ _ _ _).trans ?_
    repeat delta runB.sl.f runB.sl.r runB.sl.r_1 runB.sl.r_2 runB.sl.r_3 runB.sl.r_4 runB.sl.r_5 runB.sl.r_6
    try simp only [load_1024x1, load_1x512, load_1024x6, load_c0of, load_c1of, load_t0of, load_t1of, load_t2of, load_S3_1, load_S2_0, load_S2_1, again_1x512]
    rfl
  isplitl [HS1]
  · iexists _; isplitr
    rotate_left; iexact HS1
    ipureintro; refine (store_1x512 _ _ _ _).trans ?_
    repeat delta runB.sl.f runB.sl.r runB.sl.r_1 runB.sl.r_2 runB.sl.r_3 runB.sl.r_4 runB.sl.r_5 runB.sl.r_6
    try simp only [load_1024x1, load_1x512, load_1024x6, load_c0of, load_c1of, load_t0of, load_t1of, load_t2of, load_S3_1, load_S2_0, load_S2_1, again_1x512]
    rfl
  isplitl [HS2]
  · iexists _; isplitr
    rotate_left; iexact HS2
    ipureintro; refine (store_1x512 _ _ _ _).trans ?_
    repeat delta runB.sl.f runB.sl.r runB.sl.r_1 runB.sl.r_2 runB.sl.r_3 runB.sl.r_4 runB.sl.r_5 runB.sl.r_6
    try simp only [load_1024x1, load_1x512, load_1024x6, load_c0of, load_c1of, load_t0of, load_t1of, load_t2of, load_S3_1, load_S2_0, load_S2_1, again_1x512]
    rfl
  isplitl [HS3]
  · iexists _; isplitr
    · ipureintro; exact harg16.read_unread _
    iexact HS3
  isplitl [HS4]
  · iexists _; isplitr
    · ipureintro; exact harg17.read_unread _
    iexact HS4
  isplitl [HS5]
  · iexists _; isplitr
    · ipureintro; exact harg18.read_unread _
    iexact HS5
  isplitl [HS6]
  · iexists _; isplitr
    · ipureintro; exact harg19.read_unread _
    iexact HS6
  isplitl [HS7]
  · iexists _; isplitr
    · ipureintro; exact harg20.read_unread _
    iexact HS7
  iexists _; isplitr
  rotate_left; iexact HS8
  ipureintro; repeat delta runB.sl.f runB.sl.r runB.sl.r_1 runB.sl.r_2 runB.sl.r_3 runB.sl.r_4 runB.sl.r_5 runB.sl.r_6
  simp only [load_1024x1, load_1x512, load_1024x6, load_c0of, load_c1of, load_t0of, load_t1of, load_t2of, load_S3_1, load_S2_0, load_S2_1, again_1x512]
  exact store_pair (F := F) _ _ _ _ _

end Cert.KernelIdeal.Loss

end
-- ==== Proof.KernelIdeal.RunC.lean ====
module

public import proofs.«01_k».proof.Proof.KernelIdeal.RunB

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .smem S3 .i32) (harg2 : arg2.IsWhole)
variable (arg3 : Memref sig .tc .vmem S1024x1 .f32) (harg3 : arg3.IsWhole)
variable (arg4 : Memref sig .tc .vmem S1024x2 .f32) (harg4 : arg4.IsWhole)
variable (arg5 : Memref sig .tc .vmem S1024x1 .f32) (harg5 : arg5.IsWhole)
variable (arg6 : Memref sig .tc .vmem S1024x2 .f32) (harg6 : arg6.IsWhole)
variable (arg7 : Memref sig .tc .vmem S1024x1 .f32) (harg7 : arg7.IsWhole)
variable (arg8 : Memref sig .tc .vmem S1024x6 .f32) (harg8 : arg8.IsWhole)
variable (arg9 : Memref sig .tc .vmem S1024x1 .i32) (harg9 : arg9.IsWhole)
variable (arg10 : Memref sig .tc .vmem S1024x1 .f32) (harg10 : arg10.IsWhole)
variable (arg11 : Memref sig .tc .vmem S1024x3 .f32) (harg11 : arg11.IsWhole)
variable (arg12 : Memref sig .tc .vmem S1x1 .f32) (harg12 : arg12.IsWhole)
variable (arg13 : Memref sig .tc .vmem S1x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S1x512 .f32) (harg16 : arg16.IsWhole)
variable (arg17 : Memref sig .tc .vmem S1x512 .f32) (harg17 : arg17.IsWhole)
variable (arg18 : Memref sig .tc .vmem S1x512 .f32) (harg18 : arg18.IsWhole)
variable (arg19 : Memref sig .tc .vmem S1x512 .f32) (harg19 : arg19.IsWhole)
variable (arg20 : Memref sig .tc .vmem S1x512 .f32) (harg20 : arg20.IsWhole)
variable (arg21 : Memref sig .tc .smem S2 .f32) (harg21 : arg21.IsWhole)

set_option maxHeartbeats 1600000 in
/-- At the first point of the second pass, the body takes the carried scratch from `s` to `ph1 i X (prep s)` and leaves its inputs as they were. -/
theorem runC (c : Dev nD) (i : grid0.Coords) (hc0 : ¬c0 i) (hc2 : c2 i) (hc1 : c1 i) (hc4 : ¬c4 i) (X : Blk F) (s : St F) (d10 : Vec F S1x1 .f32) (E : Set ℕ) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare d10 ∗ owns (c : Thread nD τ) arg13 fullShare s.mb ∗ owns (c : Thread nD τ) arg14 fullShare s.mx0 ∗ owns (c : Thread nD τ) arg15 fullShare s.mx1 ∗ owns (c : Thread nD τ) arg16 fullShare s.qa ∗ owns (c : Thread nD τ) arg17 fullShare s.thr ∗ owns (c : Thread nD τ) arg18 fullShare s.acc ∗ owns (c : Thread nD τ) arg19 fullShare s.pws ∗ owns (c : Thread nD τ) arg20 fullShare s.pww ∗ owns (c : Thread nD τ) arg21 fullShare s.ss
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare d10 ∗ owns (c : Thread nD τ) arg13 fullShare (ph1 i X (prep s)).mb ∗ owns (c : Thread nD τ) arg14 fullShare (ph1 i X (prep s)).mx0 ∗ owns (c : Thread nD τ) arg15 fullShare (ph1 i X (prep s)).mx1 ∗ owns (c : Thread nD τ) arg16 fullShare (ph1 i X (prep s)).qa ∗ owns (c : Thread nD τ) arg17 fullShare (ph1 i X (prep s)).thr ∗ owns (c : Thread nD τ) arg18 fullShare (ph1 i X (prep s)).acc ∗ owns (c : Thread nD τ) arg19 fullShare (ph1 i X (prep s)).pws ∗ owns (c : Thread nD τ) arg20 fullShare (ph1 i X (prep s)).pww ∗ owns (c : Thread nD τ) arg21 fullShare (ph1 i X (prep s)).ss) -∗ K ⟨⟩))
    ⊢ wp frame (wpE (defs₀ (F := F)) Variants.none c none) E (cc0__oc_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__oc_kernel_eq_skeleton]; unfold cc0__oc_kernel_skel
  simp only [k0_part4_eq_skeleton, k0_part5_eq_skeleton, k0_part6_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg13.eq_unread hfs0
  obtain rfl := harg14.eq_unread hfs1
  obtain rfl := harg15.eq_unread hfs2
  obtain rfl := harg16.eq_unread hfs3
  obtain rfl := harg17.eq_unread hfs4
  obtain rfl := harg18.eq_unread hfs5
  obtain rfl := harg19.eq_unread hfs6
  obtain rfl := harg20.eq_unread hfs7
  obtain rfl := harg21.eq_unread hfs8
  sl_exec (disch := first | sl_exact hc0 | sl_exact hc2 | sl_exact hc1 | sl_exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists f10; isplitr
    · ipureintro; exact hf10
    iexact H10
  isplitl [HS0]
  · iexists _; isplitr
    · ipureintro; exact harg13.read_unread _
    iexact HS0
  isplitl [HS1]
  · iexists _; isplitr
    · ipureintro; exact harg14.read_unread _
    iexact HS1
  isplitl [HS2]
  · iexists _; isplitr
    · ipureintro; exact harg15.read_unread _
    iexact HS2
  isplitl [HS3]
  · iexists _; isplitr
    rotate_left; iexact HS3
    ipureintro; refine (store_1x512 _ _ _ _).trans ?_
    repeat delta runC.sl.HS3_1 runC.sl.HS4_1 runC.sl.cst_45 runC.sl.r runC.sl.r_1 runC.sl.r_10 runC.sl.r_11 runC.sl.r_2 runC.sl.r_3 runC.sl.r_4 runC.sl.r_5 runC.sl.r_6 runC.sl.r_7 runC.sl.r_8 runC.sl.r_9 runC.sl.v169 runC.sl.v96
    try simp only [load_1024x1, load_1x512, load_1024x6, load_c0of, load_c1of, load_t0of, load_t1of, load_t2of, load_S3_1, load_S2_0, load_S2_1, again_1x512]
    rfl
  isplitl [HS4]
  · iexists _; isplitr
    rotate_left; iexact HS4
    ipureintro; refine (store_1x512 _ _ _ _).trans ?_
    repeat delta runC.sl.HS3_1 runC.sl.HS4_1 runC.sl.cst_45 runC.sl.r runC.sl.r_1 runC.sl.r_10 runC.sl.r_11 runC.sl.r_2 runC.sl.r_3 runC.sl.r_4 runC.sl.r_5 runC.sl.r_6 runC.sl.r_7 runC.sl.r_8 runC.sl.r_9 runC.sl.v169 runC.sl.v96
    try simp only [load_1024x1, load_1x512, load_1024x6, load_c0of, load_c1of, load_t0of, load_t1of, load_t2of, load_S3_1, load_S2_0, load_S2_1, again_1x512]
    rfl
  isplitl [HS5]
  · iexists _; isplitr
    rotate_left; iexact HS5
    ipureintro; refine (store_1x512 _ _ _ _).trans ?_
    repeat delta runC.sl.HS3_1 runC.sl.HS4_1 runC.sl.cst_45 runC.sl.r runC.sl.r_1 runC.sl.r_10 runC.sl.r_11 runC.sl.r_2 runC.sl.r_3 runC.sl.r_4 runC.sl.r_5 runC.sl.r_6 runC.sl.r_7 runC.sl.r_8 runC.sl.r_9 runC.sl.v169 runC.sl.v96
    try simp only [load_1024x1, load_1x512, load_1024x6, load_c0of, load_c1of, load_t0of, load_t1of, load_t2of, load_S3_1, load_S2_0, load_S2_1, again_1x512]
    rfl
  isplitl [HS6]
  · iexists _; isplitr
    rotate_left; iexact HS6
    ipureintro; refine (store_1x512 _ _ _ _).trans ?_
    repeat delta runC.sl.HS3_1 runC.sl.HS4_1 runC.sl.cst_45 runC.sl.r runC.sl.r_1 runC.sl.r_10 runC.sl.r_11 runC.sl.r_2 runC.sl.r_3 runC.sl.r_4 runC.sl.r_5 runC.sl.r_6 runC.sl.r_7 runC.sl.r_8 runC.sl.r_9 runC.sl.v169 runC.sl.v96
    try simp only [load_1024x1, load_1x512, load_1024x6, load_c0of, load_c1of, load_t0of, load_t1of, load_t2of, load_S3_1, load_S2_0, load_S2_1, again_1x512]
    rfl
  isplitl [HS7]
  · iexists _; isplitr
    rotate_left; iexact HS7
    ipureintro; refine (store_1x512 _ _ _ _).trans ?_
    repeat delta runC.sl.HS3_1 runC.sl.HS4_1 runC.sl.cst_45 runC.sl.r runC.sl.r_1 runC.sl.r_10 runC.sl.r_11 runC.sl.r_2 runC.sl.r_3 runC.sl.r_4 runC.sl.r_5 runC.sl.r_6 runC.sl.r_7 runC.sl.r_8 runC.sl.r_9 runC.sl.v169 runC.sl.v96
    try simp only [load_1024x1, load_1x512, load_1024x6, load_c0of, load_c1of, load_t0of, load_t1of, load_t2of, load_S3_1, load_S2_0, load_S2_1, again_1x512]
    rfl
  iexists _; isplitr
  · ipureintro; exact harg21.read_unread _
  iexact HS8

end Cert.KernelIdeal.Loss

end
-- ==== Proof.KernelIdeal.RunD.lean ====
module

public import proofs.«01_k».proof.Proof.KernelIdeal.RunC

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .smem S3 .i32) (harg2 : arg2.IsWhole)
variable (arg3 : Memref sig .tc .vmem S1024x1 .f32) (harg3 : arg3.IsWhole)
variable (arg4 : Memref sig .tc .vmem S1024x2 .f32) (harg4 : arg4.IsWhole)
variable (arg5 : Memref sig .tc .vmem S1024x1 .f32) (harg5 : arg5.IsWhole)
variable (arg6 : Memref sig .tc .vmem S1024x2 .f32) (harg6 : arg6.IsWhole)
variable (arg7 : Memref sig .tc .vmem S1024x1 .f32) (harg7 : arg7.IsWhole)
variable (arg8 : Memref sig .tc .vmem S1024x6 .f32) (harg8 : arg8.IsWhole)
variable (arg9 : Memref sig .tc .vmem S1024x1 .i32) (harg9 : arg9.IsWhole)
variable (arg10 : Memref sig .tc .vmem S1024x1 .f32) (harg10 : arg10.IsWhole)
variable (arg11 : Memref sig .tc .vmem S1024x3 .f32) (harg11 : arg11.IsWhole)
variable (arg12 : Memref sig .tc .vmem S1x1 .f32) (harg12 : arg12.IsWhole)
variable (arg13 : Memref sig .tc .vmem S1x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S1x512 .f32) (harg16 : arg16.IsWhole)
variable (arg17 : Memref sig .tc .vmem S1x512 .f32) (harg17 : arg17.IsWhole)
variable (arg18 : Memref sig .tc .vmem S1x512 .f32) (harg18 : arg18.IsWhole)
variable (arg19 : Memref sig .tc .vmem S1x512 .f32) (harg19 : arg19.IsWhole)
variable (arg20 : Memref sig .tc .vmem S1x512 .f32) (harg20 : arg20.IsWhole)
variable (arg21 : Memref sig .tc .smem S2 .f32) (harg21 : arg21.IsWhole)

set_option maxHeartbeats 1600000 in
/-- At a middle point of the second pass, the body takes the carried scratch from `s` to `ph1 i X s` and leaves its inputs as they were. -/
theorem runD (c : Dev nD) (i : grid0.Coords) (hc0 : ¬c0 i) (hc2 : c2 i) (hc1 : ¬c1 i) (hc4 : ¬c4 i) (X : Blk F) (s : St F) (d10 : Vec F S1x1 .f32) (E : Set ℕ) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare d10 ∗ owns (c : Thread nD τ) arg13 fullShare s.mb ∗ owns (c : Thread nD τ) arg14 fullShare s.mx0 ∗ owns (c : Thread nD τ) arg15 fullShare s.mx1 ∗ owns (c : Thread nD τ) arg16 fullShare s.qa ∗ owns (c : Thread nD τ) arg17 fullShare s.thr ∗ owns (c : Thread nD τ) arg18 fullShare s.acc ∗ owns (c : Thread nD τ) arg19 fullShare s.pws ∗ owns (c : Thread nD τ) arg20 fullShare s.pww ∗ owns (c : Thread nD τ) arg21 fullShare s.ss
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare d10 ∗ owns (c : Thread nD τ) arg13 fullShare (ph1 i X s).mb ∗ owns (c : Thread nD τ) arg14 fullShare (ph1 i X s).mx0 ∗ owns (c : Thread nD τ) arg15 fullShare (ph1 i X s).mx1 ∗ owns (c : Thread nD τ) arg16 fullShare (ph1 i X s).qa ∗ owns (c : Thread nD τ) arg17 fullShare (ph1 i X s).thr ∗ owns (c : Thread nD τ) arg18 fullShare (ph1 i X s).acc ∗ owns (c : Thread nD τ) arg19 fullShare (ph1 i X s).pws ∗ owns (c : Thread nD τ) arg20 fullShare (ph1 i X s).pww ∗ owns (c : Thread nD τ) arg21 fullShare (ph1 i X s).ss) -∗ K ⟨⟩))
    ⊢ wp frame (wpE (defs₀ (F := F)) Variants.none c none) E (cc0__oc_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__oc_kernel_eq_skeleton]; unfold cc0__oc_kernel_skel
  simp only [k0_part4_eq_skeleton, k0_part5_eq_skeleton, k0_part6_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg13.eq_unread hfs0
  obtain rfl := harg14.eq_unread hfs1
  obtain rfl := harg15.eq_unread hfs2
  obtain rfl := harg16.eq_unread hfs3
  obtain rfl := harg17.eq_unread hfs4
  obtain rfl := harg18.eq_unread hfs5
  obtain rfl := harg19.eq_unread hfs6
  obtain rfl := harg20.eq_unread hfs7
  obtain rfl := harg21.eq_unread hfs8
  sl_exec (disch := first | sl_exact hc0 | sl_exact hc2 | sl_exact hc1 | sl_exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists f10; isplitr
    · ipureintro; exact hf10
    iexact H10
  isplitl [HS0]
  · iexists _; isplitr
    · ipureintro; exact harg13.read_unread _
    iexact HS0
  isplitl [HS1]
  · iexists _; isplitr
    · ipureintro; exact harg14.read_unread _
    iexact HS1
  isplitl [HS2]
  · iexists _; isplitr
    · ipureintro; exact harg15.read_unread _
    iexact HS2
  isplitl [HS3]
  · iexists _; isplitr
    · ipureintro; exact harg16.read_unread _
    iexact HS3
  isplitl [HS4]
  · iexists _; isplitr
    · ipureintro; exact harg17.read_unread _
    iexact HS4
  isplitl [HS5]
  · iexists _; isplitr
    rotate_left; iexact HS5
    ipureintro; refine (store_1x512 _ _ _ _).trans ?_
    repeat delta runD.sl.cst_45 runD.sl.r runD.sl.r_1 runD.sl.r_10 runD.sl.r_11 runD.sl.r_2 runD.sl.r_3 runD.sl.r_4 runD.sl.r_5 runD.sl.r_6 runD.sl.r_7 runD.sl.r_8 runD.sl.r_9
    try simp only [load_1024x1, load_1x512, load_1024x6, load_c0of, load_c1of, load_t0of, load_t1of, load_t2of, load_S3_1, load_S2_0, load_S2_1, again_1x512]
    rfl
  isplitl [HS6]
  · iexists _; isplitr
    rotate_left; iexact HS6
    ipureintro; refine (store_1x512 _ _ _ _).trans ?_
    repeat delta runD.sl.cst_45 runD.sl.r runD.sl.r_1 runD.sl.r_10 runD.sl.r_11 runD.sl.r_2 runD.sl.r_3 runD.sl.r_4 runD.sl.r_5 runD.sl.r_6 runD.sl.r_7 runD.sl.r_8 runD.sl.r_9
    try simp only [load_1024x1, load_1x512, load_1024x6, load_c0of, load_c1of, load_t0of, load_t1of, load_t2of, load_S3_1, load_S2_0, load_S2_1, again_1x512]
    rfl
  isplitl [HS7]
  · iexists _; isplitr
    rotate_left; iexact HS7
    ipureintro; refine (store_1x512 _ _ _ _).trans ?_
    repeat delta runD.sl.cst_45 runD.sl.r runD.sl.r_1 runD.sl.r_10 runD.sl.r_11 runD.sl.r_2 runD.sl.r_3 runD.sl.r_4 runD.sl.r_5 runD.sl.r_6 runD.sl.r_7 runD.sl.r_8 runD.sl.r_9
    try simp only [load_1024x1, load_1x512, load_1024x6, load_c0of, load_c1of, load_t0of, load_t1of, load_t2of, load_S3_1, load_S2_0, load_S2_1, again_1x512]
    rfl
  iexists _; isplitr
  · ipureintro; exact harg21.read_unread _
  iexact HS8

end Cert.KernelIdeal.Loss

end
-- ==== Proof.KernelIdeal.RunE.lean ====
module

public import proofs.«01_k».proof.Proof.KernelIdeal.RunD

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (arg2 : Memref sig .tc .smem S3 .i32) (harg2 : arg2.IsWhole)
variable (arg3 : Memref sig .tc .vmem S1024x1 .f32) (harg3 : arg3.IsWhole)
variable (arg4 : Memref sig .tc .vmem S1024x2 .f32) (harg4 : arg4.IsWhole)
variable (arg5 : Memref sig .tc .vmem S1024x1 .f32) (harg5 : arg5.IsWhole)
variable (arg6 : Memref sig .tc .vmem S1024x2 .f32) (harg6 : arg6.IsWhole)
variable (arg7 : Memref sig .tc .vmem S1024x1 .f32) (harg7 : arg7.IsWhole)
variable (arg8 : Memref sig .tc .vmem S1024x6 .f32) (harg8 : arg8.IsWhole)
variable (arg9 : Memref sig .tc .vmem S1024x1 .i32) (harg9 : arg9.IsWhole)
variable (arg10 : Memref sig .tc .vmem S1024x1 .f32) (harg10 : arg10.IsWhole)
variable (arg11 : Memref sig .tc .vmem S1024x3 .f32) (harg11 : arg11.IsWhole)
variable (arg12 : Memref sig .tc .vmem S1x1 .f32) (harg12 : arg12.IsWhole)
variable (arg13 : Memref sig .tc .vmem S1x512 .f32) (harg13 : arg13.IsWhole)
variable (arg14 : Memref sig .tc .vmem S1x512 .f32) (harg14 : arg14.IsWhole)
variable (arg15 : Memref sig .tc .vmem S1x512 .f32) (harg15 : arg15.IsWhole)
variable (arg16 : Memref sig .tc .vmem S1x512 .f32) (harg16 : arg16.IsWhole)
variable (arg17 : Memref sig .tc .vmem S1x512 .f32) (harg17 : arg17.IsWhole)
variable (arg18 : Memref sig .tc .vmem S1x512 .f32) (harg18 : arg18.IsWhole)
variable (arg19 : Memref sig .tc .vmem S1x512 .f32) (harg19 : arg19.IsWhole)
variable (arg20 : Memref sig .tc .vmem S1x512 .f32) (harg20 : arg20.IsWhole)
variable (arg21 : Memref sig .tc .smem S2 .f32) (harg21 : arg21.IsWhole)

set_option maxHeartbeats 1600000 in
/-- At the last point of the second pass, which also stores the result, the body takes the carried scratch from `s` to `ph1 i X s` and leaves its inputs as they were. -/
theorem runE (c : Dev nD) (i : grid0.Coords) (hc0 : ¬c0 i) (hc2 : c2 i) (hc1 : ¬c1 i) (hc4 : c4 i) (X : Blk F) (s : St F) (E : Set ℕ) (K : PUnit → sProp 𝕄) :
    iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ (∃ d, owns (c : Thread nD τ) arg12 fullShare d) ∗ owns (c : Thread nD τ) arg13 fullShare s.mb ∗ owns (c : Thread nD τ) arg14 fullShare s.mx0 ∗ owns (c : Thread nD τ) arg15 fullShare s.mx1 ∗ owns (c : Thread nD τ) arg16 fullShare s.qa ∗ owns (c : Thread nD τ) arg17 fullShare s.thr ∗ owns (c : Thread nD τ) arg18 fullShare s.acc ∗ owns (c : Thread nD τ) arg19 fullShare s.pws ∗ owns (c : Thread nD τ) arg20 fullShare s.pww ∗ owns (c : Thread nD τ) arg21 fullShare s.ss
      ∗ (iprop(owns (c : Thread nD τ) arg2 fullShare X.x0 ∗ owns (c : Thread nD τ) arg3 fullShare X.x1 ∗ owns (c : Thread nD τ) arg4 fullShare X.x2 ∗ owns (c : Thread nD τ) arg5 fullShare X.x3 ∗ owns (c : Thread nD τ) arg6 fullShare X.x4 ∗ owns (c : Thread nD τ) arg7 fullShare X.x5 ∗ owns (c : Thread nD τ) arg8 fullShare X.x6 ∗ owns (c : Thread nD τ) arg9 fullShare X.x7 ∗ owns (c : Thread nD τ) arg10 fullShare X.x8 ∗ owns (c : Thread nD τ) arg11 fullShare X.x9 ∗ owns (c : Thread nD τ) arg12 fullShare (fin (ph1 i X s)) ∗ owns (c : Thread nD τ) arg13 fullShare (ph1 i X s).mb ∗ owns (c : Thread nD τ) arg14 fullShare (ph1 i X s).mx0 ∗ owns (c : Thread nD τ) arg15 fullShare (ph1 i X s).mx1 ∗ owns (c : Thread nD τ) arg16 fullShare (ph1 i X s).qa ∗ owns (c : Thread nD τ) arg17 fullShare (ph1 i X s).thr ∗ owns (c : Thread nD τ) arg18 fullShare (ph1 i X s).acc ∗ owns (c : Thread nD τ) arg19 fullShare (ph1 i X s).pws ∗ owns (c : Thread nD τ) arg20 fullShare (ph1 i X s).pww ∗ owns (c : Thread nD τ) arg21 fullShare (ph1 i X s).ss) -∗ K ⟨⟩))
    ⊢ wp frame (wpE (defs₀ (F := F)) Variants.none c none) E (cc0__oc_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__oc_kernel_eq_skeleton]; unfold cc0__oc_kernel_skel
  simp only [k0_part4_eq_skeleton, k0_part5_eq_skeleton, k0_part6_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg11.eq_unread hf9
  obtain rfl := harg13.eq_unread hfs0
  obtain rfl := harg14.eq_unread hfs1
  obtain rfl := harg15.eq_unread hfs2
  obtain rfl := harg16.eq_unread hfs3
  obtain rfl := harg17.eq_unread hfs4
  obtain rfl := harg18.eq_unread hfs5
  obtain rfl := harg19.eq_unread hfs6
  obtain rfl := harg20.eq_unread hfs7
  obtain rfl := harg21.eq_unread hfs8
  sl_exec (disch := first | sl_exact hc0 | sl_exact hc2 | sl_exact hc1 | sl_exact hc4)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    · ipureintro; exact harg7.read_unread _
    iexact H5
  isplitl [H6]
  · iexists _; isplitr
    · ipureintro; exact harg8.read_unread _
    iexact H6
  isplitl [H7]
  · iexists _; isplitr
    · ipureintro; exact harg9.read_unread _
    iexact H7
  isplitl [H8]
  · iexists _; isplitr
    · ipureintro; exact harg10.read_unread _
    iexact H8
  isplitl [H9]
  · iexists _; isplitr
    · ipureintro; exact harg11.read_unread _
    iexact H9
  isplitl [H10]
  · iexists _; isplitr
    rotate_left; iexact H10
    ipureintro; refine (store_1x1 _ _ _ _).trans ?_
    repeat delta runE.sl.HS5_1 runE.sl.HS6_1 runE.sl.HS7_1 runE.sl.cst_45 runE.sl.r runE.sl.r_1 runE.sl.r_10 runE.sl.r_11 runE.sl.r_12 runE.sl.r_13 runE.sl.r_14 runE.sl.r_15 runE.sl.r_16 runE.sl.r_17 runE.sl.r_18 runE.sl.r_2 runE.sl.r_3 runE.sl.r_4 runE.sl.r_5 runE.sl.r_6 runE.sl.r_7 runE.sl.r_8 runE.sl.r_9 runE.sl.v215 runE.sl.v217 runE.sl.v226
    try simp only [load_1024x1, load_1x512, load_1024x6, load_c0of, load_c1of, load_t0of, load_t1of, load_t2of, load_S3_1, load_S2_0, load_S2_1, again_1x512]
    rfl
  isplitl [HS0]
  · iexists _; isplitr
    · ipureintro; exact harg13.read_unread _
    iexact HS0
  isplitl [HS1]
  · iexists _; isplitr
    · ipureintro; exact harg14.read_unread _
    iexact HS1
  isplitl [HS2]
  · iexists _; isplitr
    · ipureintro; exact harg15.read_unread _
    iexact HS2
  isplitl [HS3]
  · iexists _; isplitr
    · ipureintro; exact harg16.read_unread _
    iexact HS3
  isplitl [HS4]
  · iexists _; isplitr
    · ipureintro; exact harg17.read_unread _
    iexact HS4
  isplitl [HS5]
  · iexists _; isplitr
    rotate_left; iexact HS5
    ipureintro; refine (store_1x512 _ _ _ _).trans ?_
    repeat delta runE.sl.HS5_1 runE.sl.HS6_1 runE.sl.HS7_1 runE.sl.cst_45 runE.sl.r runE.sl.r_1 runE.sl.r_10 runE.sl.r_11 runE.sl.r_12 runE.sl.r_13 runE.sl.r_14 runE.sl.r_15 runE.sl.r_16 runE.sl.r_17 runE.sl.r_18 runE.sl.r_2 runE.sl.r_3 runE.sl.r_4 runE.sl.r_5 runE.sl.r_6 runE.sl.r_7 runE.sl.r_8 runE.sl.r_9 runE.sl.v215 runE.sl.v217 runE.sl.v226
    try simp only [load_1024x1, load_1x512, load_1024x6, load_c0of, load_c1of, load_t0of, load_t1of, load_t2of, load_S3_1, load_S2_0, load_S2_1, again_1x512]
    rfl
  isplitl [HS6]
  · iexists _; isplitr
    rotate_left; iexact HS6
    ipureintro; refine (store_1x512 _ _ _ _).trans ?_
    repeat delta runE.sl.HS5_1 runE.sl.HS6_1 runE.sl.HS7_1 runE.sl.cst_45 runE.sl.r runE.sl.r_1 runE.sl.r_10 runE.sl.r_11 runE.sl.r_12 runE.sl.r_13 runE.sl.r_14 runE.sl.r_15 runE.sl.r_16 runE.sl.r_17 runE.sl.r_18 runE.sl.r_2 runE.sl.r_3 runE.sl.r_4 runE.sl.r_5 runE.sl.r_6 runE.sl.r_7 runE.sl.r_8 runE.sl.r_9 runE.sl.v215 runE.sl.v217 runE.sl.v226
    try simp only [load_1024x1, load_1x512, load_1024x6, load_c0of, load_c1of, load_t0of, load_t1of, load_t2of, load_S3_1, load_S2_0, load_S2_1, again_1x512]
    rfl
  isplitl [HS7]
  · iexists _; isplitr
    rotate_left; iexact HS7
    ipureintro; refine (store_1x512 _ _ _ _).trans ?_
    repeat delta runE.sl.HS5_1 runE.sl.HS6_1 runE.sl.HS7_1 runE.sl.cst_45 runE.sl.r runE.sl.r_1 runE.sl.r_10 runE.sl.r_11 runE.sl.r_12 runE.sl.r_13 runE.sl.r_14 runE.sl.r_15 runE.sl.r_16 runE.sl.r_17 runE.sl.r_18 runE.sl.r_2 runE.sl.r_3 runE.sl.r_4 runE.sl.r_5 runE.sl.r_6 runE.sl.r_7 runE.sl.r_8 runE.sl.r_9 runE.sl.v215 runE.sl.v217 runE.sl.v226
    try simp only [load_1024x1, load_1x512, load_1024x6, load_c0of, load_c1of, load_t0of, load_t1of, load_t2of, load_S3_1, load_S2_0, load_S2_1, again_1x512]
    rfl
  iexists _; isplitr
  · ipureintro; exact harg21.read_unread _
  iexact HS8

end Cert.KernelIdeal.Loss

end
-- ==== Proof.KernelIdeal.Frame.lean ====
module

public import proofs.«01_k».proof.Proof.KernelIdeal.RunE
public import Idealize.ShloMosaic.Lib.Pipeline.TableIdle
public import Idealize.ShloMosaic.Lib.Pipeline.KitQuiescent
public import Idealize.ShloMosaic.Lib.Claim

@[expose] public section

set_option maxRecDepth 16384

noncomputable section

namespace Cert.KernelIdeal.Loss

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which points take which branches -/

theorem lt32 (t : Fin cfg0.N) : t.val < 32 := lt_of_lt_of_eq t.isLt N_0

theorem of32 {n : ℕ} (h : n < 32) : n < cfg0.N := lt_of_lt_of_eq h N_0.symm

theorem c0_iff : ∀ t : Fin cfg0.N, c0 (grid0.coords t) ↔ t.val < 16 := by decide +kernel
theorem c1_iff : ∀ t : Fin cfg0.N, c1 (grid0.coords t) ↔ t.val % 16 = 0 := by decide +kernel
theorem c2_iff : ∀ t : Fin cfg0.N, c2 (grid0.coords t) ↔ 16 ≤ t.val := by decide +kernel
theorem c4_iff : ∀ t : Fin cfg0.N, c4 (grid0.coords t) ↔ t.val % 16 = 15 := by decide +kernel

/-- The output is left alone, and not written back, at every point but the last. -/
theorem out_idle : ∀ t : Fin cfg0.N, t.val ≠ 31 → cfg0.idle 10 (grid0.coords t) = true := by decide +kernel
theorem out_unflushed : ∀ t : Fin cfg0.N, t.val ≠ 31 → (cfg0.win 10).flush t = false := by decide +kernel
/-- The last point stores the output. -/
theorem out_live : ∀ t : Fin cfg0.N, t.val = 31 → cfg0.idle 10 (grid0.coords t) = false := by decide +kernel

/-! ## The buffers the body is called with -/

/-- The staging buffer of window 0 at point `t`. -/
abbrev st0 (t : Fin cfg0.N) : Memref sig .tc .smem S3 .i32 := win0_0.stage (cfg0.slots t 0)
/-- The staging buffer of window 1 at point `t`. -/
abbrev st1 (t : Fin cfg0.N) : Memref sig .tc .vmem S1024x1 .f32 := win0_1.stage (cfg0.slots t 1)
/-- The staging buffer of window 2 at point `t`. -/
abbrev st2 (t : Fin cfg0.N) : Memref sig .tc .vmem S1024x2 .f32 := win0_2.stage (cfg0.slots t 2)
/-- The staging buffer of window 3 at point `t`. -/
abbrev st3 (t : Fin cfg0.N) : Memref sig .tc .vmem S1024x1 .f32 := win0_3.stage (cfg0.slots t 3)
/-- The staging buffer of window 4 at point `t`. -/
abbrev st4 (t : Fin cfg0.N) : Memref sig .tc .vmem S1024x2 .f32 := win0_4.stage (cfg0.slots t 4)
/-- The staging buffer of window 5 at point `t`. -/
abbrev st5 (t : Fin cfg0.N) : Memref sig .tc .vmem S1024x1 .f32 := win0_5.stage (cfg0.slots t 5)
/-- The staging buffer of window 6 at point `t`. -/
abbrev st6 (t : Fin cfg0.N) : Memref sig .tc .vmem S1024x6 .f32 := win0_6.stage (cfg0.slots t 6)
/-- The staging buffer of window 7 at point `t`. -/
abbrev st7 (t : Fin cfg0.N) : Memref sig .tc .vmem S1024x1 .i32 := win0_7.stage (cfg0.slots t 7)
/-- The staging buffer of window 8 at point `t`. -/
abbrev st8 (t : Fin cfg0.N) : Memref sig .tc .vmem S1024x1 .f32 := win0_8.stage (cfg0.slots t 8)
/-- The staging buffer of window 9 at point `t`. -/
abbrev st9 (t : Fin cfg0.N) : Memref sig .tc .vmem S1024x3 .f32 := win0_9.stage (cfg0.slots t 9)
/-- The staging buffer of window 10 at point `t`. -/
abbrev st10 (t : Fin cfg0.N) : Memref sig .tc .vmem S1x1 .f32 := win0_10.stage (cfg0.slots t 10)

/-- The scratch buffer `mb` as a memory reference. -/
abbrev sc0 : Memref sig .tc .vmem S1x512 .f32 := Memref.whole cc0_scratch0
/-- The scratch buffer `mx0` as a memory reference. -/
abbrev sc1 : Memref sig .tc .vmem S1x512 .f32 := Memref.whole cc0_scratch1
/-- The scratch buffer `mx1` as a memory reference. -/
abbrev sc2 : Memref sig .tc .vmem S1x512 .f32 := Memref.whole cc0_scratch2
/-- The scratch buffer `qa` as a memory reference. -/
abbrev sc3 : Memref sig .tc .vmem S1x512 .f32 := Memref.whole cc0_scratch3
/-- The scratch buffer `thr` as a memory reference. -/
abbrev sc4 : Memref sig .tc .vmem S1x512 .f32 := Memref.whole cc0_scratch4
/-- The scratch buffer `acc` as a memory reference. -/
abbrev sc5 : Memref sig .tc .vmem S1x512 .f32 := Memref.whole cc0_scratch5
/-- The scratch buffer `pws` as a memory reference. -/
abbrev sc6 : Memref sig .tc .vmem S1x512 .f32 := Memref.whole cc0_scratch6
/-- The scratch buffer `pww` as a memory reference. -/
abbrev sc7 : Memref sig .tc .vmem S1x512 .f32 := Memref.whole cc0_scratch7
/-- The scratch buffer `ss` as a memory reference. -/
abbrev sc8 : Memref sig .tc .smem S2 .f32 := Memref.whole cc0_scratch8

/-- The ten input buffers of point `t` hold `X`. -/
def ins (c : Dev nD) (t : Fin cfg0.N) (X : Blk F) : sProp 𝕄 :=
  iprop(owns (c : Thread nD τ) (st0 t) fullShare (X.x0) ∗ owns (c : Thread nD τ) (st1 t) fullShare (X.x1) ∗ owns (c : Thread nD τ) (st2 t) fullShare (X.x2) ∗ owns (c : Thread nD τ) (st3 t) fullShare (X.x3) ∗ owns (c : Thread nD τ) (st4 t) fullShare (X.x4) ∗ owns (c : Thread nD τ) (st5 t) fullShare (X.x5) ∗ owns (c : Thread nD τ) (st6 t) fullShare (X.x6) ∗ owns (c : Thread nD τ) (st7 t) fullShare (X.x7) ∗ owns (c : Thread nD τ) (st8 t) fullShare (X.x8) ∗ owns (c : Thread nD τ) (st9 t) fullShare (X.x9))

/-- The nine scratch buffers hold `s`. -/
def scr (c : Dev nD) (s : St F) : sProp 𝕄 :=
  iprop(owns (c : Thread nD τ) sc0 fullShare s.mb ∗ owns (c : Thread nD τ) sc1 fullShare s.mx0 ∗ owns (c : Thread nD τ) sc2 fullShare s.mx1 ∗ owns (c : Thread nD τ) sc3 fullShare s.qa ∗ owns (c : Thread nD τ) sc4 fullShare s.thr ∗ owns (c : Thread nD τ) sc5 fullShare s.acc ∗ owns (c : Thread nD τ) sc6 fullShare s.pws ∗ owns (c : Thread nD τ) sc7 fullShare s.pww ∗ owns (c : Thread nD τ) sc8 fullShare s.ss)

/-- What point `t` makes of the carried scratch. -/
def step (t : Fin cfg0.N) (X : Blk F) (s : St F) : St F :=
  if t.val = 0 then ph0 (grid0.coords t) X (init s)
  else if t.val < 16 then ph0 (grid0.coords t) X s
  else if t.val = 16 then ph1 (grid0.coords t) X (prep s)
  else ph1 (grid0.coords t) X s

theorem step_zero (t : Fin cfg0.N) (h : t.val = 0) (X : Blk F) (s : St F) : step t X s = ph0 (grid0.coords t) X (init s) := if_pos h
theorem step_first (t : Fin cfg0.N) (h : 0 < t.val) (h' : t.val < 16) (X : Blk F) (s : St F) : step t X s = ph0 (grid0.coords t) X s :=
  (if_neg (by omega)).trans (if_pos h')
theorem step_turn (t : Fin cfg0.N) (h : t.val = 16) (X : Blk F) (s : St F) : step t X s = ph1 (grid0.coords t) X (prep s) :=
  (if_neg (by omega)).trans ((if_neg (by omega)).trans (if_pos h))
theorem step_second (t : Fin cfg0.N) (h : 16 < t.val) (X : Blk F) (s : St F) : step t X s = ph1 (grid0.coords t) X s :=
  (if_neg (by omega)).trans ((if_neg (by omega)).trans (if_neg (by omega)))

/-- The first point, from any scratch. -/
theorem bodyA (c : Dev nD) (t : Fin cfg0.N) (ht : t.val = 0) (X : Blk F) (s : St F) (d : Vec F S1x1 .f32) (K : PUnit → sProp 𝕄) :
    iprop(ins c t X ∗ owns (c : Thread nD τ) (st10 t) fullShare d ∗ scr c s
      ∗ (iprop(ins c t X ∗ owns (c : Thread nD τ) (st10 t) fullShare d ∗ scr c (step t X s)) -∗ K ⟨⟩))
    ⊢ wp frame (wpE (defs₀ (F := F)) Variants.none c none) Set.univ (bodyAt0 t) K := by
  have hN := lt32 t
  have hs : step t X s = ph0 (grid0.coords t) X (init s) := by
    unfold step
    split_ifs <;> first | rfl | omega
  rw [hs]
  unfold ins scr bodyAt0
  iintro ⟨⟨H0, H1, H2, H3, H4, H5, H6, H7, H8, H9⟩, H10, ⟨HS0, HS1, HS2, HS3, HS4, HS5, HS6, HS7, HS8⟩, Hk⟩
  iapply (runA _ _ _ _ _ _ _ _ _ _ _ _ _ _ _ _ _ _ _ _ _ _ _ _ _ _ _ _ _ _ _ _ _ _ _ _ _ _ _ _ c (grid0.coords t) ((c0_iff t).mpr (by omega)) ((c1_iff t).mpr (by omega)) (fun h => absurd ((c2_iff t).mp h) (by omega)) X s d Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, HS0, HS1, HS2, HS3, HS4, HS5, HS6, HS7, HS8⟩
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iexact HS8

/-- A later point of the first pass. -/
theorem bodyB (c : Dev nD) (t : Fin cfg0.N) (ht : 0 < t.val ∧ t.val < 16) (X : Blk F) (s : St F) (d : Vec F S1x1 .f32) (K : PUnit → sProp 𝕄) :
    iprop(ins c t X ∗ owns (c : Thread nD τ) (st10 t) fullShare d ∗ scr c s
      ∗ (iprop(ins c t X ∗ owns (c : Thread nD τ) (st10 t) fullShare d ∗ scr c (step t X s)) -∗ K ⟨⟩))
    ⊢ wp frame (wpE (defs₀ (F := F)) Variants.none c none) Set.univ (bodyAt0 t) K := by
  have hN := lt32 t
  have hs : step t X s = ph0 (grid0.coords t) X s := by
    unfold step
    split_ifs <;> first | rfl | omega
  rw [hs]
  unfold ins scr bodyAt0
  iintro ⟨⟨H0, H1, H2, H3, H4, H5, H6, H7, H8, H9⟩, H10, ⟨HS0, HS1, HS2, HS3, HS4, HS5, HS6, HS7, HS8⟩, Hk⟩
  iapply (runB _ _ _ _ _ _ _ _ _ _ _ _ _ _ _ _ _ _ _ _ _ _ _ _ _ _ _ _ _ _ _ _ _ _ _ _ _ _ _ _ c (grid0.coords t) ((c0_iff t).mpr (by omega)) (fun h => absurd ((c1_iff t).mp h) (by omega)) (fun h => absurd ((c2_iff t).mp h) (by omega)) X s d Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, HS0, HS1, HS2, HS3, HS4, HS5, HS6, HS7, HS8⟩
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iexact HS8

/-- The first point of the second pass. -/
theorem bodyC (c : Dev nD) (t : Fin cfg0.N) (ht : t.val = 16) (X : Blk F) (s : St F) (d : Vec F S1x1 .f32) (K : PUnit → sProp 𝕄) :
    iprop(ins c t X ∗ owns (c : Thread nD τ) (st10 t) fullShare d ∗ scr c s
      ∗ (iprop(ins c t X ∗ owns (c : Thread nD τ) (st10 t) fullShare d ∗ scr c (step t X s)) -∗ K ⟨⟩))
    ⊢ wp frame (wpE (defs₀ (F := F)) Variants.none c none) Set.univ (bodyAt0 t) K := by
  have hN := lt32 t
  have hs : step t X s = ph1 (grid0.coords t) X (prep s) := by
    unfold step
    split_ifs <;> first | rfl | omega
  rw [hs]
  unfold ins scr bodyAt0
  iintro ⟨⟨H0, H1, H2, H3, H4, H5, H6, H7, H8, H9⟩, H10, ⟨HS0, HS1, HS2, HS3, HS4, HS5, HS6, HS7, HS8⟩, Hk⟩
  iapply (runC _ _ _ _ _ _ _ _ _ _ _ _ _ _ _ _ _ _ _ _ _ _ _ _ _ _ _ _ _ _ _ _ _ _ _ _ _ _ _ _ c (grid0.coords t) (fun h => absurd ((c0_iff t).mp h) (by omega)) ((c2_iff t).mpr (by omega)) ((c1_iff t).mpr (by omega)) (fun h => absurd ((c4_iff t).mp h) (by omega)) X s d Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, HS0, HS1, HS2, HS3, HS4, HS5, HS6, HS7, HS8⟩
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iexact HS8

/-- A middle point of the second pass. -/
theorem bodyD (c : Dev nD) (t : Fin cfg0.N) (ht : 16 < t.val ∧ t.val < 31) (X : Blk F) (s : St F) (d : Vec F S1x1 .f32) (K : PUnit → sProp 𝕄) :
    iprop(ins c t X ∗ owns (c : Thread nD τ) (st10 t) fullShare d ∗ scr c s
      ∗ (iprop(ins c t X ∗ owns (c : Thread nD τ) (st10 t) fullShare d ∗ scr c (step t X s)) -∗ K ⟨⟩))
    ⊢ wp frame (wpE (defs₀ (F := F)) Variants.none c none) Set.univ (bodyAt0 t) K := by
  have hN := lt32 t
  have hs : step t X s = ph1 (grid0.coords t) X s := by
    unfold step
    split_ifs <;> first | rfl | omega
  rw [hs]
  unfold ins scr bodyAt0
  iintro ⟨⟨H0, H1, H2, H3, H4, H5, H6, H7, H8, H9⟩, H10, ⟨HS0, HS1, HS2, HS3, HS4, HS5, HS6, HS7, HS8⟩, Hk⟩
  iapply (runD _ _ _ _ _ _ _ _ _ _ _ _ _ _ _ _ _ _ _ _ _ _ _ _ _ _ _ _ _ _ _ _ _ _ _ _ _ _ _ _ c (grid0.coords t) (fun h => absurd ((c0_iff t).mp h) (by omega)) ((c2_iff t).mpr (by omega)) (fun h => absurd ((c1_iff t).mp h) (by omega)) (fun h => absurd ((c4_iff t).mp h) (by omega)) X s d Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, HS0, HS1, HS2, HS3, HS4, HS5, HS6, HS7, HS8⟩
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iexact HS8

/-- The last point, which stores the result. -/
theorem bodyE (c : Dev nD) (t : Fin cfg0.N) (ht : t.val = 31) (X : Blk F) (s : St F) (K : PUnit → sProp 𝕄) :
    iprop(ins c t X ∗ (∃ d, owns (c : Thread nD τ) (st10 t) fullShare d) ∗ scr c s
      ∗ (iprop(ins c t X ∗ owns (c : Thread nD τ) (st10 t) fullShare (fin (step t X s)) ∗ scr c (step t X s)) -∗ K ⟨⟩))
    ⊢ wp frame (wpE (defs₀ (F := F)) Variants.none c none) Set.univ (bodyAt0 t) K := by
  have hN := lt32 t
  have hs : step t X s = ph1 (grid0.coords t) X s := by
    unfold step
    split_ifs <;> first | rfl | omega
  rw [hs]
  unfold ins scr bodyAt0
  iintro ⟨⟨H0, H1, H2, H3, H4, H5, H6, H7, H8, H9⟩, H10, ⟨HS0, HS1, HS2, HS3, HS4, HS5, HS6, HS7, HS8⟩, Hk⟩
  iapply (runE _ _ _ _ _ _ _ _ _ _ _ _ _ _ _ _ _ _ _ _ _ _ _ _ _ _ _ _ _ _ _ _ _ _ _ _ _ _ _ _ c (grid0.coords t) (fun h => absurd ((c0_iff t).mp h) (by omega)) ((c2_iff t).mpr (by omega)) (fun h => absurd ((c1_iff t).mp h) (by omega)) ((c4_iff t).mpr (by omega)) X s Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  iintro ⟨H0, H1, H2, H3, H4, H5, H6, H7, H8, H9, H10, HS0, HS1, HS2, HS3, HS4, HS5, HS6, HS7, HS8⟩
  iapply Hk
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iexact HS8

/-- Every point but the last. -/
theorem body_early (c : Dev nD) (t : Fin cfg0.N) (ht : t.val ≠ 31) (X : Blk F) (s : St F) (d : Vec F S1x1 .f32) (K : PUnit → sProp 𝕄) :
    iprop(ins c t X ∗ owns (c : Thread nD τ) (st10 t) fullShare d ∗ scr c s
      ∗ (iprop(ins c t X ∗ owns (c : Thread nD τ) (st10 t) fullShare d ∗ scr c (step t X s)) -∗ K ⟨⟩))
    ⊢ wp frame (wpE (defs₀ (F := F)) Variants.none c none) Set.univ (bodyAt0 t) K := by
  have hN := lt32 t
  by_cases h0 : t.val = 0
  · exact bodyA c t h0 X s d K
  by_cases h1 : t.val < 16
  · exact bodyB c t ⟨by omega, h1⟩ X s d K
  by_cases h2 : t.val = 16
  · exact bodyC c t h2 X s d K
  · exact bodyD c t ⟨by omega, by omega⟩ X s d K

/-! ## The scratch from point to point -/

/-- The input blocks of point `t`, as the pipeline hands them to the body. -/
def blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t⟩

/-- The scratch before point `n`, from any scratch `s` at the start. -/
def iter (c : Dev nD) (s : St F) : ℕ → St F
  | 0 => s
  | n + 1 => if h : n < cfg0.N then step ⟨n, h⟩ (blk m c ⟨n, h⟩) (iter c s n) else iter c s n

theorem iter_succ (c : Dev nD) (s : St F) (t : Fin cfg0.N) : iter m c s (t.val + 1) = step t (blk m c t) (iter m c s t.val) :=
  dif_pos t.isLt

/-- Some scratch: what the first point finds does not matter. -/
def zeroSt : St F :=
  ⟨k0_pay11, k0_pay11, k0_pay11, k0_pay11, k0_pay11, k0_pay11, k0_pay11, k0_pay11, pair (Scalar.ofBits .f32 0x00000000#32) (Scalar.ofBits .f32 0x00000000#32)⟩

/-- Two scratches that agree but for the charge and the threshold. -/
def Sim (s s' : St F) : Prop :=
  s.mb = s'.mb ∧ s.mx0 = s'.mx0 ∧ s.mx1 = s'.mx1 ∧ s.acc = s'.acc ∧ s.pws = s'.pws ∧ s.pww = s'.pww ∧ s.ss = s'.ss

/-- In the first pass the scratch depends on where it started in the charge and the threshold alone. -/
theorem iter_sim (c : Dev nD) (s s' : St F) : ∀ n : ℕ, n < 16 → Sim (iter m c s (n + 1)) (iter m c s' (n + 1))
  | 0, _ => by
    have h : 0 < cfg0.N := of32 (by omega)
    rw [iter_succ m c s ⟨0, h⟩, iter_succ m c s' ⟨0, h⟩]
    rw [step_zero ⟨0, h⟩ rfl, step_zero ⟨0, h⟩ rfl]
    exact ⟨rfl, rfl, rfl, rfl, rfl, rfl, rfl⟩
  | n + 1, hn => by
    have h : n + 1 < cfg0.N := of32 (by omega)
    obtain ⟨e0, e1, e2, e3, e4, e5, e6⟩ := iter_sim c s s' n (by omega)
    rw [iter_succ m c s ⟨n + 1, h⟩, iter_succ m c s' ⟨n + 1, h⟩]
    rw [step_first ⟨n + 1, h⟩ n.succ_pos hn, step_first ⟨n + 1, h⟩ n.succ_pos hn]
    refine ⟨?_, ?_, ?_, ?_, ?_, ?_, ?_⟩ <;> simp only [ph0, e0, e1, e2, e3, e4, e5, e6]

/-- From the second pass on the scratch does not depend on where it started. -/
theorem iter_eq (c : Dev nD) (s s' : St F) : ∀ n : ℕ, 16 ≤ n → n < 32 → iter m c s (n + 1) = iter m c s' (n + 1) := by
  intro n hn
  induction n, hn using Nat.le_induction with
  | base =>
    intro _
    have h : 16 < cfg0.N := of32 (by omega)
    obtain ⟨e0, e1, e2, e3, e4, e5, e6⟩ := iter_sim m c s s' 15 (by omega)
    rw [iter_succ m c s ⟨16, h⟩, iter_succ m c s' ⟨16, h⟩]
    rw [step_turn ⟨16, h⟩ rfl, step_turn ⟨16, h⟩ rfl]
    simp only [Nat.reduceAdd] at e0 e1 e2 e3 e4 e5 e6
    simp only [ph1, prep, e0, e1, e2, e3, e4, e5, e6]
  | succ n hn ih =>
    intro hn'
    have h : n + 1 < cfg0.N := of32 (by omega)
    rw [iter_succ m c s ⟨n + 1, h⟩, iter_succ m c s' ⟨n + 1, h⟩, ih (by omega)]

/-- Between the points: the scratch is what the points so far make of some scratch at the start. -/
def Inv (c : Dev nD) (n : ℕ) : sProp 𝕄 := iprop((∃ s : St F, scr c (iter m c s n)) ∗ (∃ r, prngReg c r))

/-! ## The pipeline's proof data -/

/-- Every input's buffer is left at its block, the output's at the result of the scratch after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => fin (iter m c zeroSt (t.val + 1))
  Φ t := Inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = fin (iter m c zeroSt (t.val + 1)) := by dsimp only [dats]

theorem before0 (c : Dev nD) (t : Fin cfg0.N) (d) : (dats m 0 c).before 0 t d = iblk m c 0 t :=
  before0_0_of m (dats m 0 c) (A_eq m c 0) (after0 m c) t d
theorem leaves0 (c : Dev nD) (t : Fin cfg0.N) : (dats m 0 c).leavesExact 0 t = owns (c : Thread nD τ) (st0 t) fullShare (iblk m c 0 t) := by
  unfold Dat.leavesExact
  rw [show cfg0.idle 0 (grid0.coords t) = false from rfl, after0]
theorem before1 (c : Dev nD) (t : Fin cfg0.N) (d) : (dats m 0 c).before 1 t d = iblk m c 1 t :=
  before0_1_of m (dats m 0 c) (A_eq m c 1) (after1 m c) t d
theorem leaves1 (c : Dev nD) (t : Fin cfg0.N) : (dats m 0 c).leavesExact 1 t = owns (c : Thread nD τ) (st1 t) fullShare (iblk m c 1 t) := by
  unfold Dat.leavesExact
  rw [show cfg0.idle 1 (grid0.coords t) = false from rfl, after1]
theorem before2 (c : Dev nD) (t : Fin cfg0.N) (d) : (dats m 0 c).before 2 t d = iblk m c 2 t :=
  before0_2_of m (dats m 0 c) (A_eq m c 2) (after2 m c) t d
theorem leaves2 (c : Dev nD) (t : Fin cfg0.N) : (dats m 0 c).leavesExact 2 t = owns (c : Thread nD τ) (st2 t) fullShare (iblk m c 2 t) := by
  unfold Dat.leavesExact
  rw [show cfg0.idle 2 (grid0.coords t) = false from rfl, after2]
theorem before3 (c : Dev nD) (t : Fin cfg0.N) (d) : (dats m 0 c).before 3 t d = iblk m c 3 t :=
  before0_3_of m (dats m 0 c) (A_eq m c 3) (after3 m c) t d
theorem leaves3 (c : Dev nD) (t : Fin cfg0.N) : (dats m 0 c).leavesExact 3 t = owns (c : Thread nD τ) (st3 t) fullShare (iblk m c 3 t) := by
  unfold Dat.leavesExact
  rw [show cfg0.idle 3 (grid0.coords t) = false from rfl, after3]
theorem before4 (c : Dev nD) (t : Fin cfg0.N) (d) : (dats m 0 c).before 4 t d = iblk m c 4 t :=
  before0_4_of m (dats m 0 c) (A_eq m c 4) (after4 m c) t d
theorem leaves4 (c : Dev nD) (t : Fin cfg0.N) : (dats m 0 c).leavesExact 4 t = owns (c : Thread nD τ) (st4 t) fullShare (iblk m c 4 t) := by
  unfold Dat.leavesExact
  rw [show cfg0.idle 4 (grid0.coords t) = false from rfl, after4]
theorem before5 (c : Dev nD) (t : Fin cfg0.N) (d) : (dats m 0 c).before 5 t d = iblk m c 5 t :=
  before0_5_of m (dats m 0 c) (A_eq m c 5) (after5 m c) t d
theorem leaves5 (c : Dev nD) (t : Fin cfg0.N) : (dats m 0 c).leavesExact 5 t = owns (c : Thread nD τ) (st5 t) fullShare (iblk m c 5 t) := by
  unfold Dat.leavesExact
  rw [show cfg0.idle 5 (grid0.coords t) = false from rfl, after5]
theorem before6 (c : Dev nD) (t : Fin cfg0.N) (d) : (dats m 0 c).before 6 t d = iblk m c 6 t :=
  before0_6_of m (dats m 0 c) (A_eq m c 6) (after6 m c) t d
theorem leaves6 (c : Dev nD) (t : Fin cfg0.N) : (dats m 0 c).leavesExact 6 t = owns (c : Thread nD τ) (st6 t) fullShare (iblk m c 6 t) := by
  unfold Dat.leavesExact
  rw [show cfg0.idle 6 (grid0.coords t) = false from rfl, after6]
theorem before7 (c : Dev nD) (t : Fin cfg0.N) (d) : (dats m 0 c).before 7 t d = iblk m c 7 t :=
  before0_7_of m (dats m 0 c) (A_eq m c 7) (after7 m c) t d
theorem leaves7 (c : Dev nD) (t : Fin cfg0.N) : (dats m 0 c).leavesExact 7 t = owns (c : Thread nD τ) (st7 t) fullShare (iblk m c 7 t) := by
  unfold Dat.leavesExact
  rw [show cfg0.idle 7 (grid0.coords t) = false from rfl, after7]
theorem before8 (c : Dev nD) (t : Fin cfg0.N) (d) : (dats m 0 c).before 8 t d = iblk m c 8 t :=
  before0_8_of m (dats m 0 c) (A_eq m c 8) (after8 m c) t d
theorem leaves8 (c : Dev nD) (t : Fin cfg0.N) : (dats m 0 c).leavesExact 8 t = owns (c : Thread nD τ) (st8 t) fullShare (iblk m c 8 t) := by
  unfold Dat.leavesExact
  rw [show cfg0.idle 8 (grid0.coords t) = false from rfl, after8]
theorem before9 (c : Dev nD) (t : Fin cfg0.N) (d) : (dats m 0 c).before 9 t d = iblk m c 9 t :=
  before0_9_of m (dats m 0 c) (A_eq m c 9) (after9 m c) t d
theorem leaves9 (c : Dev nD) (t : Fin cfg0.N) : (dats m 0 c).leavesExact 9 t = owns (c : Thread nD τ) (st9 t) fullShare (iblk m c 9 t) := by
  unfold Dat.leavesExact
  rw [show cfg0.idle 9 (grid0.coords t) = false from rfl, after9]

/-- The inputs' buffers, one by one, as the bundle of `ins`. -/
theorem ins_blk (c : Dev nD) (t : Fin cfg0.N) :
    ins c t (blk m c t) = iprop(owns (c : Thread nD τ) (st0 t) fullShare (iblk m c 0 t) ∗ owns (c : Thread nD τ) (st1 t) fullShare (iblk m c 1 t) ∗ owns (c : Thread nD τ) (st2 t) fullShare (iblk m c 2 t) ∗ owns (c : Thread nD τ) (st3 t) fullShare (iblk m c 3 t) ∗ owns (c : Thread nD τ) (st4 t) fullShare (iblk m c 4 t) ∗ owns (c : Thread nD τ) (st5 t) fullShare (iblk m c 5 t) ∗ owns (c : Thread nD τ) (st6 t) fullShare (iblk m c 6 t) ∗ owns (c : Thread nD τ) (st7 t) fullShare (iblk m c 7 t) ∗ owns (c : Thread nD τ) (st8 t) fullShare (iblk m c 8 t) ∗ owns (c : Thread nD τ) (st9 t) fullShare (iblk m c 9 t)) := rfl

theorem owes_succ (c : Dev nD) (t : Fin cfg0.N) : (dats m 0 c).owesAt () t.succ = (dats m 0 c).owesAt () t.castSucc := rfl
theorem inv_castSucc (c : Dev nD) (t : Fin cfg0.N) : (dats m 0 c).Φ t.castSucc = Inv m c t.val := by
  dsimp only [dats]; rfl
theorem inv_succ (c : Dev nD) (t : Fin cfg0.N) : (dats m 0 c).Φ t.succ = Inv m c (t.val + 1) := by
  dsimp only [dats]; rfl

/-! ## The body at every point -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 1600000 in
/-- The body, at any point, from what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8, before9, leaves0, leaves1, leaves2, leaves3, leaves4, leaves5, leaves6, leaves7, leaves8, leaves9]
  rw [owes_succ, inv_castSucc, inv_succ]
  unfold Inv
  by_cases ht : t.val = 31
  · rw [show (dats m 0 c).leavesExact 10 t = owns (c : Thread nD τ) (st10 t) fullShare (fin (iter m c zeroSt (t.val + 1))) from by
      unfold Dat.leavesExact; rw [out_live t ht, after10]]
    iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (bodyE c t ht (blk m c t) (iter m c s t.val) _)
    rw [ins_blk, ← iter_succ, iter_eq m c s zeroSt t.val (by omega) (by omega)]
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [HS]; · iexact HS
    iintro ⟨⟨H0, H1, H2, H3, H4, H5, H6, H7, H8, H9⟩, H10, HS⟩
    isplitl [HS Hg]
    · isplitl [HS]
      · iexists zeroSt; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [Dat.leavesExact_idle (dats m 0 c) 10 t (out_idle t ht) (out_unflushed t ht)]
    iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_early c t ht (blk m c t) (iter m c s t.val) ((dats m 0 c).before 10 t d10) _)
    rw [ins_blk, ← iter_succ]
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [HS]; · iexact HS
    iintro ⟨⟨H0, H1, H2, H3, H4, H5, H6, H7, H8, H9⟩, H10, HS⟩
    isplitl [HS Hg]
    · isplitl [HS]
      · iexists s; iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists d10; iexact H10

theorem defs₀_row (t : Fin cfg0.N) : defs₀ (F := F) .tc cfg0.body (cfg0.bodyArgs t (cfg0.slots t)) = bodyAt0 t := by
  unfold defs₀; rw [Defs.onTc_tc]

/-- The same at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch at anything is the launch's own account of it. -/
theorem scratch_any (c : Dev nD) :
    (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc0, sc1, sc2, sc3, sc4, sc5, sc6, sc7, sc8, owns_whole]; rfl

/-- Before the first point the scratch holds anything. -/
theorem inv_first (c : Dev nD) : Pipeline.ΦA spec0 c ⊢ (dats m 0 c).Φ 0 := by
  rw [show (dats m 0 c).Φ 0 = Inv m c 0 from by dsimp only [dats]; rfl, scratch_any]
  unfold Inv scr
  iintro ⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩⟩, Hg⟩
  isplitl [HS0 HS1 HS2 HS3 HS4 HS5 HS6 HS7 HS8]
  · iexists (⟨s0, s1, s2, s3, s4, s5, s6, s7, s8⟩ : St F)
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iexact HS8
  iexact Hg

/-- After the last point what the scratch holds is forgotten. -/
theorem inv_last (c : Dev nD) : (dats m 0 c).Φ (Fin.last cfg0.N) ⊢ Pipeline.ΦA spec0 c := by
  rw [show (dats m 0 c).Φ (Fin.last cfg0.N) = Inv m c cfg0.N from by dsimp only [dats]; rfl, scratch_any]
  unfold Inv scr
  iintro ⟨⟨%s, HS0, HS1, HS2, HS3, HS4, HS5, HS6, HS7, HS8⟩, Hg⟩
  isplitl [HS0 HS1 HS2 HS3 HS4 HS5 HS6 HS7 HS8]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    iexists _; iexact HS8
  iexact Hg

/-! ## The run -/

set_option backward.isDefEq.respectTransparency.types false in
set_option maxHeartbeats 800000 in
/-- Every weakly fair run ends, with every array at what the proof data say, every other buffer at what the lines after
the pipelined call leave, and every counter at zero. -/
theorem run_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_first m) (hout := inv_last m)

/-- The same without the counters. -/
theorem run_ends : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiescent m ρ)

/-- Every argument array ends as it began, and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_ends m ρ)) ((θ_run defs _ _).mono (fun _ h => h.2) (run_quiescent m ρ))

end Cert.KernelIdeal.Loss

end
-- ==== Proof.ReferenceIdeal.Run.lean ====
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.ReferenceIdeal.Loss

open Cert.ReferenceIdeal Cert.ReferenceIdeal.Gen
open Idealize.ShloMosaic Idealize.ShloMosaic.TcCoe Idealize.ShloMosaic.StableHlo
open Idealize.SL.Sem

variable {F : FTy → Type} [FloatOps F]

/-- The four payload losses of every hit side by side. -/
def beside : (main_v28 : Ref sig .tc).ty.Contents (Elt F) → (main_v34 : Ref sig .tc).ty.Contents (Elt F) → (main_v38 : Ref sig .tc).ty.Contents (Elt F) → (main_v45 : Ref sig .tc).ty.Contents (Elt F) → (main_v46 : Ref sig .tc).ty.Contents (Elt F) :=
  (fun u0 u1 u2 u3 => (concatenate S16384x4 1 [⟨S16384x1, (u0 : (⟨S16384x1, .f32⟩ : BufTy).Contents (Elt F))⟩, ⟨S16384x1, (u1 : (⟨S16384x1, .f32⟩ : BufTy).Contents (Elt F))⟩, ⟨S16384x1, (u2 : (⟨S16384x1, .f32⟩ : BufTy).Contents (Elt F))⟩, ⟨S16384x1, (u3 : (⟨S16384x1, .f32⟩ : BufTy).Contents (Elt F))⟩] concatenates_S16384x1_S16384x1_S16384x1_S16384x1_S16384x4_d1 : (⟨S16384x4, .f32⟩ : BufTy).Contents (Elt F)))

/-- The operations of the program's stretch 0, in order. -/
def ops0 : List (HloOp τ sig (Elt F)) :=
  [ nullary main_cst (constant S_ .f32 0x41200000#32),
    unary main_cst main_v0 (broadcastInDim S16384x1 ![] bcast_S_S16384x1 : (⟨S_, .f32⟩ : BufTy).Contents (Elt F) → (⟨S16384x1, .f32⟩ : BufTy).Contents (Elt F)),
    binary main_arg7 main_v0 main_v1 (cmpf .ogt : (⟨S16384x1, .f32⟩ : BufTy).Contents (Elt F) → (⟨S16384x1, .f32⟩ : BufTy).Contents (Elt F) → (⟨S16384x1, .i1⟩ : BufTy).Contents (Elt F)),
    nullary main_cst_0 (constant S_ .f32 0x41200000#32),
    unary main_cst_0 main_v2 (broadcastInDim S16384x1 ![] bcast_S_S16384x1 : (⟨S_, .f32⟩ : BufTy).Contents (Elt F) → (⟨S16384x1, .f32⟩ : BufTy).Contents (Elt F)),
    binary main_arg7 main_v2 main_v3 (Host.divf : (⟨S16384x1, .f32⟩ : BufTy).Contents (Elt F) → (⟨S16384x1, .f32⟩ : BufTy).Contents (Elt F) → (⟨S16384x1, .f32⟩ : BufTy).Contents (Elt F)),
    nullary main_cst_1 (constant S_ .f32 0x3DCCCCCD#32),
    unary main_cst_1 main_v4 (broadcastInDim S16384x1 ![] bcast_S_S16384x1 : (⟨S_, .f32⟩ : BufTy).Contents (Elt F) → (⟨S16384x1, .f32⟩ : BufTy).Contents (Elt F)),
    binary main_v3 main_v4 main_v5 (addf : (⟨S16384x1, .f32⟩ : BufTy).Contents (Elt F) → (⟨S16384x1, .f32⟩ : BufTy).Contents (Elt F) → (⟨S16384x1, .f32⟩ : BufTy).Contents (Elt F)),
    nullary main_cst_2 (constant S_ .f32 0x3F8CCCCD#32),
    unary main_cst_2 main_v6 (broadcastInDim S16384x1 ![] bcast_S_S16384x1 : (⟨S_, .f32⟩ : BufTy).Contents (Elt F) → (⟨S16384x1, .f32⟩ : BufTy).Contents (Elt F)),
    binary main_v5 main_v6 main_v7 (Host.divf : (⟨S16384x1, .f32⟩ : BufTy).Contents (Elt F) → (⟨S16384x1, .f32⟩ : BufTy).Contents (Elt F) → (⟨S16384x1, .f32⟩ : BufTy).Contents (Elt F)),
    nullary main_cst_3 (constant S_ .f32 0x3F800000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S16384x1, .f32⟩) main_call0_v1) (broadcastInDim S16384x1 ![] bcast_S_S16384x1),
    TRef.ternary (TRef.of (T := ⟨S16384x1, .i1⟩) main_v1) (TRef.of (T := ⟨S16384x1, .f32⟩) main_call0_v1) (TRef.of (T := ⟨S16384x1, .f32⟩) main_v7) (TRef.of (T := ⟨S16384x1, .f32⟩) main_v8) select,
    nullary main_cst_4 (constant S_ .f32 0x3A83126F#32),
    unary main_cst_4 main_v9 (broadcastInDim S16384x1 ![] bcast_S_S16384x1 : (⟨S_, .f32⟩ : BufTy).Contents (Elt F) → (⟨S16384x1, .f32⟩ : BufTy).Contents (Elt F)),
    binary main_arg7 main_v9 main_v10 (addf : (⟨S16384x1, .f32⟩ : BufTy).Contents (Elt F) → (⟨S16384x1, .f32⟩ : BufTy).Contents (Elt F) → (⟨S16384x1, .f32⟩ : BufTy).Contents (Elt F)),
    unary main_v10 main_v11 (Host.sqrt : (⟨S16384x1, .f32⟩ : BufTy).Contents (Elt F) → (⟨S16384x1, .f32⟩ : BufTy).Contents (Elt F)),
    binary main_arg7 main_arg2 main_v12 (subf : (⟨S16384x1, .f32⟩ : BufTy).Contents (Elt F) → (⟨S16384x1, .f32⟩ : BufTy).Contents (Elt F) → (⟨S16384x1, .f32⟩ : BufTy).Contents (Elt F)),
    unary main_v12 main_v13 (Host.absf : (⟨S16384x1, .f32⟩ : BufTy).Contents (Elt F) → (⟨S16384x1, .f32⟩ : BufTy).Contents (Elt F)),
    nullary main_cst_5 (constant S_ .f32 0x3F800000#32),
    unary main_cst_5 main_v14 (broadcastInDim S16384x1 ![] bcast_S_S16384x1 : (⟨S_, .f32⟩ : BufTy).Contents (Elt F) → (⟨S16384x1, .f32⟩ : BufTy).Contents (Elt F)),
    binary main_v11 main_v14 main_v15 (addf : (⟨S16384x1, .f32⟩ : BufTy).Contents (Elt F) → (⟨S16384x1, .f32⟩ : BufTy).Contents (Elt F) → (⟨S16384x1, .f32⟩ : BufTy).Contents (Elt F)),
    binary main_v13 main_v15 main_v16 (Host.divf : (⟨S16384x1, .f32⟩ : BufTy).Contents (Elt F) → (⟨S16384x1, .f32⟩ : BufTy).Contents (Elt F) → (⟨S16384x1, .f32⟩ : BufTy).Contents (Elt F)),
    nullary main_cst_6 (constant S_ .f32 0x40000000#32),
    unary main_cst_6 main_v17 (broadcastInDim S16384x1 ![] bcast_S_S16384x1 : (⟨S_, .f32⟩ : BufTy).Contents (Elt F) → (⟨S16384x1, .f32⟩ : BufTy).Contents (Elt F)),
    binary main_v11 main_v17 main_v18 (mulf : (⟨S16384x1, .f32⟩ : BufTy).Contents (Elt F) → (⟨S16384x1, .f32⟩ : BufTy).Contents (Elt F) → (⟨S16384x1, .f32⟩ : BufTy).Contents (Elt F)),
    unary main_v16 main_v19 (Host.absf : (⟨S16384x1, .f32⟩ : BufTy).Contents (Elt F) → (⟨S16384x1, .f32⟩ : BufTy).Contents (Elt F)),
    binary main_v19 main_v18 main_v20 (cmpf .ole : (⟨S16384x1, .f32⟩ : BufTy).Contents (Elt F) → (⟨S16384x1, .f32⟩ : BufTy).Contents (Elt F) → (⟨S16384x1, .i1⟩ : BufTy).Contents (Elt F)),
    nullary main_cst_7 (constant S_ .f32 0x3F000000#32),
    unary main_cst_7 main_v21 (broadcastInDim S16384x1 ![] bcast_S_S16384x1 : (⟨S_, .f32⟩ : BufTy).Contents (Elt F) → (⟨S16384x1, .f32⟩ : BufTy).Contents (Elt F)),
    binary main_v21 main_v16 main_v22 (mulf : (⟨S16384x1, .f32⟩ : BufTy).Contents (Elt F) → (⟨S16384x1, .f32⟩ : BufTy).Contents (Elt F) → (⟨S16384x1, .f32⟩ : BufTy).Contents (Elt F)),
    binary main_v22 main_v16 main_v23 (mulf : (⟨S16384x1, .f32⟩ : BufTy).Contents (Elt F) → (⟨S16384x1, .f32⟩ : BufTy).Contents (Elt F) → (⟨S16384x1, .f32⟩ : BufTy).Contents (Elt F)),
    nullary main_cst_8 (constant S_ .f32 0x3F000000#32),
    unary main_cst_8 main_v24 (broadcastInDim S16384x1 ![] bcast_S_S16384x1 : (⟨S_, .f32⟩ : BufTy).Contents (Elt F) → (⟨S16384x1, .f32⟩ : BufTy).Contents (Elt F)),
    binary main_v24 main_v18 main_v25 (mulf : (⟨S16384x1, .f32⟩ : BufTy).Contents (Elt F) → (⟨S16384x1, .f32⟩ : BufTy).Contents (Elt F) → (⟨S16384x1, .f32⟩ : BufTy).Contents (Elt F)),
    binary main_v19 main_v25 main_v26 (subf : (⟨S16384x1, .f32⟩ : BufTy).Contents (Elt F) → (⟨S16384x1, .f32⟩ : BufTy).Contents (Elt F) → (⟨S16384x1, .f32⟩ : BufTy).Contents (Elt F)),
    binary main_v18 main_v26 main_v27 (mulf : (⟨S16384x1, .f32⟩ : BufTy).Contents (Elt F) → (⟨S16384x1, .f32⟩ : BufTy).Contents (Elt F) → (⟨S16384x1, .f32⟩ : BufTy).Contents (Elt F)),
    TRef.ternary (TRef.of (T := ⟨S16384x1, .i1⟩) main_v20) (TRef.of (T := ⟨S16384x1, .f32⟩) main_v23) (TRef.of (T := ⟨S16384x1, .f32⟩) main_v27) (TRef.of (T := ⟨S16384x1, .f32⟩) main_v28) select,
    binary main_arg8 main_arg3 main_v29 (subf : (⟨S16384x2, .f32⟩ : BufTy).Contents (Elt F) → (⟨S16384x2, .f32⟩ : BufTy).Contents (Elt F) → (⟨S16384x2, .f32⟩ : BufTy).Contents (Elt F)),
    binary main_v29 main_v29 main_v30 (mulf : (⟨S16384x2, .f32⟩ : BufTy).Contents (Elt F) → (⟨S16384x2, .f32⟩ : BufTy).Contents (Elt F) → (⟨S16384x2, .f32⟩ : BufTy).Contents (Elt F)),
    nullary main_cst_9 (constant S_ .f32 0x00000000#32),
    binary main_v30 main_cst_9 main_v31 ((fun x v => Host.reduceAdd x v reducesTo_S16384x2_S16384_d1 h_S_) : (⟨S16384x2, .f32⟩ : BufTy).Contents (Elt F) → (⟨S_, .f32⟩ : BufTy).Contents (Elt F) → (⟨S16384, .f32⟩ : BufTy).Contents (Elt F)),
    unary main_v31 main_v32 (broadcastInDim S16384x1 ![0] bcast_S16384_S16384x1_0 : (⟨S16384, .f32⟩ : BufTy).Contents (Elt F) → (⟨S16384x1, .f32⟩ : BufTy).Contents (Elt F)),
    nullary main_cst_10 (constant S_ .f32 0x42C80000#32),
    unary main_cst_10 main_v33 (broadcastInDim S16384x1 ![] bcast_S_S16384x1 : (⟨S_, .f32⟩ : BufTy).Contents (Elt F) → (⟨S16384x1, .f32⟩ : BufTy).Contents (Elt F)),
    binary main_v32 main_v33 main_v34 (Host.divf : (⟨S16384x1, .f32⟩ : BufTy).Contents (Elt F) → (⟨S16384x1, .f32⟩ : BufTy).Contents (Elt F) → (⟨S16384x1, .f32⟩ : BufTy).Contents (Elt F)),
    nullary main_cst_11 (constant S_ .f32 0x4E6E6B28#32),
    unary main_cst_11 main_v35 (broadcastInDim S16384x1 ![] bcast_S_S16384x1 : (⟨S_, .f32⟩ : BufTy).Contents (Elt F) → (⟨S16384x1, .f32⟩ : BufTy).Contents (Elt F)),
    binary main_arg9 main_v35 main_v36 (mulf : (⟨S16384x1, .f32⟩ : BufTy).Contents (Elt F) → (⟨S16384x1, .f32⟩ : BufTy).Contents (Elt F) → (⟨S16384x1, .f32⟩ : BufTy).Contents (Elt F)),
    binary main_v36 main_arg4 main_v37 (subf : (⟨S16384x1, .f32⟩ : BufTy).Contents (Elt F) → (⟨S16384x1, .f32⟩ : BufTy).Contents (Elt F) → (⟨S16384x1, .f32⟩ : BufTy).Contents (Elt F)),
    binary main_v37 main_v37 main_v38 (mulf : (⟨S16384x1, .f32⟩ : BufTy).Contents (Elt F) → (⟨S16384x1, .f32⟩ : BufTy).Contents (Elt F) → (⟨S16384x1, .f32⟩ : BufTy).Contents (Elt F)),
    binary main_arg5 main_arg5 main_v39 (mulf : (⟨S16384x6, .f32⟩ : BufTy).Contents (Elt F) → (⟨S16384x6, .f32⟩ : BufTy).Contents (Elt F) → (⟨S16384x6, .f32⟩ : BufTy).Contents (Elt F)),
    nullary main_cst_12 (constant S_ .f32 0x00000000#32),
    binary main_v39 main_cst_12 main_v40 ((fun x v => Host.reduceAdd x v reducesTo_S16384x6_S16384_d1 h_S_) : (⟨S16384x6, .f32⟩ : BufTy).Contents (Elt F) → (⟨S_, .f32⟩ : BufTy).Contents (Elt F) → (⟨S16384, .f32⟩ : BufTy).Contents (Elt F)),
    unary main_v40 main_v41 (broadcastInDim S16384x1 ![0] bcast_S16384_S16384x1_0 : (⟨S16384, .f32⟩ : BufTy).Contents (Elt F) → (⟨S16384x1, .f32⟩ : BufTy).Contents (Elt F)),
    nullary main_cst_13 (constant S_ .f32 0x40C00000#32),
    unary main_cst_13 main_v42 (broadcastInDim S16384x1 ![] bcast_S_S16384x1 : (⟨S_, .f32⟩ : BufTy).Contents (Elt F) → (⟨S16384x1, .f32⟩ : BufTy).Contents (Elt F)),
    binary main_v41 main_v42 main_v43 (Host.divf : (⟨S16384x1, .f32⟩ : BufTy).Contents (Elt F) → (⟨S16384x1, .f32⟩ : BufTy).Contents (Elt F) → (⟨S16384x1, .f32⟩ : BufTy).Contents (Elt F)),
    nullary main_cst_14 (constant S_ .f32 0x322BCC77#32) ]

/-- The operations of the program's stretch 1, in order. -/
def ops1 : List (HloOp τ sig (Elt F)) :=
  [ unary main_cst_14 main_v44 (broadcastInDim S16384x1 ![] bcast_S_S16384x1 : (⟨S_, .f32⟩ : BufTy).Contents (Elt F) → (⟨S16384x1, .f32⟩ : BufTy).Contents (Elt F)),
    binary main_v44 main_v43 main_v45 (mulf : (⟨S16384x1, .f32⟩ : BufTy).Contents (Elt F) → (⟨S16384x1, .f32⟩ : BufTy).Contents (Elt F) → (⟨S16384x1, .f32⟩ : BufTy).Contents (Elt F)),
    nary ![main_v28, main_v34, main_v38, main_v45] main_v46 (fun u => beside (F := F) (u 0) (u 1) (u 2) (u 3)),
    reshape main_arg6 main_v47 (rfl : (.i32 : EltTy) = .i32) shapeCasts_S16384x1_S16384,
    reshape main_arg0 main_v48 (rfl : (.f32 : EltTy) = .f32) shapeCasts_S16384x1_S16384,
    nullary main_cst_15 (constant S_ .f32 0x358637BD#32),
    nullary main_cst_16 (constant S_ .f32 0x3F7FF972#32),
    TRef.unary (TRef.of (T := ⟨S_, .f32⟩) main_cst_15) (TRef.of (T := ⟨S_, .f32⟩) main_call2_v0) id,
    TRef.unary (TRef.of (T := ⟨S_, .f32⟩) main_call2_v0) (TRef.of (T := ⟨S16384, .f32⟩) main_call2_v1) (broadcastInDim S16384 ![] bcast_S_S16384),
    TRef.binary (TRef.of (T := ⟨S16384, .f32⟩) main_call2_v1) (TRef.of (T := ⟨S16384, .f32⟩) main_v48) (TRef.of (T := ⟨S16384, .f32⟩) main_call2_v2) maximumf,
    TRef.unary (TRef.of (T := ⟨S_, .f32⟩) main_cst_16) (TRef.of (T := ⟨S_, .f32⟩) main_call2_v3) id,
    TRef.unary (TRef.of (T := ⟨S_, .f32⟩) main_call2_v3) (TRef.of (T := ⟨S16384, .f32⟩) main_call2_v4) (broadcastInDim S16384 ![] bcast_S_S16384),
    TRef.binary (TRef.of (T := ⟨S16384, .f32⟩) main_call2_v4) (TRef.of (T := ⟨S16384, .f32⟩) main_call2_v2) (TRef.of (T := ⟨S16384, .f32⟩) main_v49) minimumf,
    unary main_v49 main_v50 (Host.atanh : (⟨S16384, .f32⟩ : BufTy).Contents (Elt F) → (⟨S16384, .f32⟩ : BufTy).Contents (Elt F)),
    binary main_v50 main_v50 main_v51 (mulf : (⟨S16384, .f32⟩ : BufTy).Contents (Elt F) → (⟨S16384, .f32⟩ : BufTy).Contents (Elt F) → (⟨S16384, .f32⟩ : BufTy).Contents (Elt F)),
    nullary main_cst_17 (constant S_ .f32 0x3F000000#32),
    unary main_cst_17 main_v52 (broadcastInDim S16384 ![] bcast_S_S16384 : (⟨S_, .f32⟩ : BufTy).Contents (Elt F) → (⟨S16384, .f32⟩ : BufTy).Contents (Elt F)),
    binary main_v51 main_v52 main_v53 (addf : (⟨S16384, .f32⟩ : BufTy).Contents (Elt F) → (⟨S16384, .f32⟩ : BufTy).Contents (Elt F) → (⟨S16384, .f32⟩ : BufTy).Contents (Elt F)),
    unary main_arg11 main_v54 (broadcastInDim S1x3 ![1] bcast_S3_S1x3_1 : (⟨S3, .i32⟩ : BufTy).Contents (Elt F) → (⟨S1x3, .i32⟩ : BufTy).Contents (Elt F)),
    nullary main_v55 (iotaInDim S16384 32 0),
    unary main_v55 main_v56 (broadcastInDim S16384x1 ![0] bcast_S16384_S16384x1_0 : (⟨S16384, .i32⟩ : BufTy).Contents (Elt F) → (⟨S16384x1, .i32⟩ : BufTy).Contents (Elt F)),
    unary main_v54 main_v57 (broadcastInDim S16384x3 ![0, 1] bcast_S1x3_S16384x3_0_1 : (⟨S1x3, .i32⟩ : BufTy).Contents (Elt F) → (⟨S16384x3, .i32⟩ : BufTy).Contents (Elt F)),
    unary main_v56 main_v58 (broadcastInDim S16384x3 ![0, 1] bcast_S16384x1_S16384x3_0_1 : (⟨S16384x1, .i32⟩ : BufTy).Contents (Elt F) → (⟨S16384x3, .i32⟩ : BufTy).Contents (Elt F)),
    binary main_v57 main_v58 main_v59 (cmpi .sle : (⟨S16384x3, .i32⟩ : BufTy).Contents (Elt F) → (⟨S16384x3, .i32⟩ : BufTy).Contents (Elt F) → (⟨S16384x3, .i1⟩ : BufTy).Contents (Elt F)),
    unary main_v59 main_v60 ((extui 32 · natLt_1_32) : (⟨S16384x3, .i1⟩ : BufTy).Contents (Elt F) → (⟨S16384x3, .i32⟩ : BufTy).Contents (Elt F)),
    nullary main_c (constantI S_ 32 0#32),
    binary main_v60 main_c main_v61 ((fun x v => Host.reduce IntOp.addi x v reducesTo_S16384x3_S16384_d1 h_S_) : (⟨S16384x3, .i32⟩ : BufTy).Contents (Elt F) → (⟨S_, .i32⟩ : BufTy).Contents (Elt F) → (⟨S16384, .i32⟩ : BufTy).Contents (Elt F)),
    nullary main_c_18 (constantI S_ 32 1#32),
    unary main_c_18 main_v62 (broadcastInDim S16384 ![] bcast_S_S16384 : (⟨S_, .i32⟩ : BufTy).Contents (Elt F) → (⟨S16384, .i32⟩ : BufTy).Contents (Elt F)),
    binary main_v61 main_v62 main_v63 (subi : (⟨S16384, .i32⟩ : BufTy).Contents (Elt F) → (⟨S16384, .i32⟩ : BufTy).Contents (Elt F) → (⟨S16384, .i32⟩ : BufTy).Contents (Elt F)),
    nullary main_c_19 (constantI S_ 32 0#32),
    unary main_c_19 main_v64 (broadcastInDim S16384 ![] bcast_S_S16384 : (⟨S_, .i32⟩ : BufTy).Contents (Elt F) → (⟨S16384, .i32⟩ : BufTy).Contents (Elt F)),
    binary main_v47 main_v64 main_v65 (cmpi .sge : (⟨S16384, .i32⟩ : BufTy).Contents (Elt F) → (⟨S16384, .i32⟩ : BufTy).Contents (Elt F) → (⟨S16384, .i1⟩ : BufTy).Contents (Elt F)),
    nullary main_c_20 (constantI S_ 32 256#32),
    unary main_c_20 main_v66 (broadcastInDim S16384 ![] bcast_S_S16384 : (⟨S_, .i32⟩ : BufTy).Contents (Elt F) → (⟨S16384, .i32⟩ : BufTy).Contents (Elt F)),
    binary main_v63 main_v66 main_v67 (muli : (⟨S16384, .i32⟩ : BufTy).Contents (Elt F) → (⟨S16384, .i32⟩ : BufTy).Contents (Elt F) → (⟨S16384, .i32⟩ : BufTy).Contents (Elt F)),
    binary main_v47 main_v67 main_v68 (addi : (⟨S16384, .i32⟩ : BufTy).Contents (Elt F) → (⟨S16384, .i32⟩ : BufTy).Contents (Elt F) → (⟨S16384, .i32⟩ : BufTy).Contents (Elt F)),
    nullary main_c_21 (constantI S_ 32 4294967295#32),
    TRef.unary (TRef.of (T := ⟨S_, .i32⟩) main_c_21) (TRef.of (T := ⟨S_, .i32⟩) main_call3_v0) id,
    TRef.unary (TRef.of (T := ⟨S_, .i32⟩) main_call3_v0) (TRef.of (T := ⟨S16384, .i32⟩) main_call3_v1) (broadcastInDim S16384 ![] bcast_S_S16384),
    TRef.ternary (TRef.of (T := ⟨S16384, .i1⟩) main_v65) (TRef.of (T := ⟨S16384, .i32⟩) main_v68) (TRef.of (T := ⟨S16384, .i32⟩) main_call3_v1) (TRef.of (T := ⟨S16384, .i32⟩) main_v69) select,
    TRef.unary (TRef.of (T := ⟨S16384, .i32⟩) main_v69) (TRef.of (T := ⟨S16384x1, .i32⟩) main_call4_v0) (broadcastInDim S16384x1 ![0] bcast_S16384_S16384x1_0),
    TRef.nullary (TRef.of (T := ⟨S1x512, .i32⟩) main_call4_v1) (iotaInDim S1x512 32 1),
    TRef.unary (TRef.of (T := ⟨S16384x1, .i32⟩) main_call4_v0) (TRef.of (T := ⟨S16384x512, .i32⟩) main_call4_v2) (broadcastInDim S16384x512 ![0, 1] bcast_S16384x1_S16384x512_0_1),
    TRef.unary (TRef.of (T := ⟨S1x512, .i32⟩) main_call4_v1) (TRef.of (T := ⟨S16384x512, .i32⟩) main_call4_v3) (broadcastInDim S16384x512 ![0, 1] bcast_S1x512_S16384x512_0_1),
    TRef.binary (TRef.of (T := ⟨S16384x512, .i32⟩) main_call4_v2) (TRef.of (T := ⟨S16384x512, .i32⟩) main_call4_v3) (TRef.of (T := ⟨S16384x512, .i1⟩) main_call4_v4) (cmpi .eq),
    TRef.unary (TRef.of (T := ⟨S16384x512, .i1⟩) main_call4_v4) (TRef.of (T := ⟨S16384x512, .f32⟩) main_v70) (uitofp .f32),
    nullary main_cst_22 (constant S_ .f32 0x00000000#32),
    binary main_v70 main_cst_22 main_v71 ((fun x v => Host.reduceAdd x v reducesTo_S16384x512_S512_d0 h_S_) : (⟨S16384x512, .f32⟩ : BufTy).Contents (Elt F) → (⟨S_, .f32⟩ : BufTy).Contents (Elt F) → (⟨S512, .f32⟩ : BufTy).Contents (Elt F)),
    nullary main_cst_23 (constant S_ .f32 0x00000000#32),
    unary main_cst_23 main_v72 (broadcastInDim S512 ![] bcast_S_S512 : (⟨S_, .f32⟩ : BufTy).Contents (Elt F) → (⟨S512, .f32⟩ : BufTy).Contents (Elt F)),
    binary main_v71 main_v72 main_v73 (cmpf .ogt : (⟨S512, .f32⟩ : BufTy).Contents (Elt F) → (⟨S512, .f32⟩ : BufTy).Contents (Elt F) → (⟨S512, .i1⟩ : BufTy).Contents (Elt F)),
    unary main_v73 main_v74 (uitofp .f32 : (⟨S512, .i1⟩ : BufTy).Contents (Elt F) → (⟨S512, .f32⟩ : BufTy).Contents (Elt F)),
    unary main_v49 main_v75 (broadcastInDim S16384x1 ![0] bcast_S16384_S16384x1_0 : (⟨S16384, .f32⟩ : BufTy).Contents (Elt F) → (⟨S16384x1, .f32⟩ : BufTy).Contents (Elt F)),
    unary main_v75 main_v76 (broadcastInDim S16384x512 ![0, 1] bcast_S16384x1_S16384x512_0_1 : (⟨S16384x1, .f32⟩ : BufTy).Contents (Elt F) → (⟨S16384x512, .f32⟩ : BufTy).Contents (Elt F)),
    binary main_v76 main_v70 main_v77 (mulf : (⟨S16384x512, .f32⟩ : BufTy).Contents (Elt F) → (⟨S16384x512, .f32⟩ : BufTy).Contents (Elt F) → (⟨S16384x512, .f32⟩ : BufTy).Contents (Elt F)),
    nullary main_cst_24 (constant S_ .f32 0x3F800000#32),
    unary main_cst_24 main_v78 (broadcastInDim S16384x512 ![] bcast_S_S16384x512 : (⟨S_, .f32⟩ : BufTy).Contents (Elt F) → (⟨S16384x512, .f32⟩ : BufTy).Contents (Elt F)),
    binary main_v78 main_v70 main_v79 (subf : (⟨S16384x512, .f32⟩ : BufTy).Contents (Elt F) → (⟨S16384x512, .f32⟩ : BufTy).Contents (Elt F) → (⟨S16384x512, .f32⟩ : BufTy).Contents (Elt F)),
    nullary main_cst_25 (constant S_ .f32 0x4E6E6B28#32),
    unary main_cst_25 main_v80 (broadcastInDim S16384x512 ![] bcast_S_S16384x512 : (⟨S_, .f32⟩ : BufTy).Contents (Elt F) → (⟨S16384x512, .f32⟩ : BufTy).Contents (Elt F)),
    binary main_v80 main_v79 main_v81 (mulf : (⟨S16384x512, .f32⟩ : BufTy).Contents (Elt F) → (⟨S16384x512, .f32⟩ : BufTy).Contents (Elt F) → (⟨S16384x512, .f32⟩ : BufTy).Contents (Elt F)),
    binary main_v77 main_v81 main_v82 (subf : (⟨S16384x512, .f32⟩ : BufTy).Contents (Elt F) → (⟨S16384x512, .f32⟩ : BufTy).Contents (Elt F) → (⟨S16384x512, .f32⟩ : BufTy).Contents (Elt F)),
    TRef.nullary (TRef.of (T := ⟨S16384x512, .i32⟩) main_call5_v0) (iotaInDim S16384x512 32 0),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S16384x512, .f32⟩) main_v82) (TRef.of (T := ⟨S16384x512, .i32⟩) main_call5_v0) (TRef.of (T := ⟨S_, .f32⟩) main_call5_cst) (TRef.of (T := ⟨S_, .i32⟩) main_call5_c) (TRef.of (T := ⟨S512, .f32⟩) main_call5_v1_0) (fun x y u v j => (Host.argReduce reducer_argmax_f32_i32 x y u v reducesTo_S16384x512_S512_d0 h_S_ j).1),
    TRef.quaternary (TRef.of (T := ⟨S16384x512, .f32⟩) main_v82) (TRef.of (T := ⟨S16384x512, .i32⟩) main_call5_v0) (TRef.of (T := ⟨S_, .f32⟩) main_call5_cst) (TRef.of (T := ⟨S_, .i32⟩) main_call5_c) (TRef.of (T := ⟨S512, .i32⟩) main_v83) (fun x y u v j => (Host.argReduce reducer_argmax_f32_i32 x y u v reducesTo_S16384x512_S512_d0 h_S_ j).2),
    nullary main_c_26 (constantI S_ 32 0#32),
    unary main_c_26 main_v84 (broadcastInDim S512 ![] bcast_S_S512 : (⟨S_, .i32⟩ : BufTy).Contents (Elt F) → (⟨S512, .i32⟩ : BufTy).Contents (Elt F)),
    binary main_v83 main_v84 main_v85 (cmpi .slt : (⟨S512, .i32⟩ : BufTy).Contents (Elt F) → (⟨S512, .i32⟩ : BufTy).Contents (Elt F) → (⟨S512, .i1⟩ : BufTy).Contents (Elt F)),
    nullary main_c_27 (constantI S_ 32 16384#32),
    unary main_c_27 main_v86 (broadcastInDim S512 ![] bcast_S_S512 : (⟨S_, .i32⟩ : BufTy).Contents (Elt F) → (⟨S512, .i32⟩ : BufTy).Contents (Elt F)),
    binary main_v83 main_v86 main_v87 (addi : (⟨S512, .i32⟩ : BufTy).Contents (Elt F) → (⟨S512, .i32⟩ : BufTy).Contents (Elt F) → (⟨S512, .i32⟩ : BufTy).Contents (Elt F)),
    ternary main_v85 main_v87 main_v83 main_v88 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v88 main_v89 (broadcastInDim S512x1 ![0] bcast_S512_S512x1_0 : (⟨S512, .i32⟩ : BufTy).Contents (Elt F) → (⟨S512x1, .i32⟩ : BufTy).Contents (Elt F)) ]

/-- The operations of the program's stretch 2, in order. -/
def ops2 : List (HloOp τ sig (Elt F)) :=
  [ binary main_arg1 main_v89 main_v90 ((fun x i => Host.gather gather_S16384x2_S512x1_S512x2_1_0_n_n_0_1_12 x i) : (⟨S16384x2, .f32⟩ : BufTy).Contents (Elt F) → (⟨S512x1, .i32⟩ : BufTy).Contents (Elt F) → (⟨S512x2, .f32⟩ : BufTy).Contents (Elt F)),
    nullary main_c_28 (constantI S_ 32 0#32),
    unary main_c_28 main_v91 (broadcastInDim S512 ![] bcast_S_S512 : (⟨S_, .i32⟩ : BufTy).Contents (Elt F) → (⟨S512, .i32⟩ : BufTy).Contents (Elt F)),
    binary main_v83 main_v91 main_v92 (cmpi .slt : (⟨S512, .i32⟩ : BufTy).Contents (Elt F) → (⟨S512, .i32⟩ : BufTy).Contents (Elt F) → (⟨S512, .i1⟩ : BufTy).Contents (Elt F)),
    nullary main_c_29 (constantI S_ 32 16384#32),
    unary main_c_29 main_v93 (broadcastInDim S512 ![] bcast_S_S512 : (⟨S_, .i32⟩ : BufTy).Contents (Elt F) → (⟨S512, .i32⟩ : BufTy).Contents (Elt F)),
    binary main_v83 main_v93 main_v94 (addi : (⟨S512, .i32⟩ : BufTy).Contents (Elt F) → (⟨S512, .i32⟩ : BufTy).Contents (Elt F) → (⟨S512, .i32⟩ : BufTy).Contents (Elt F)),
    ternary main_v92 main_v94 main_v83 main_v95 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v95 main_v96 (broadcastInDim S512x1 ![0] bcast_S512_S512x1_0 : (⟨S512, .i32⟩ : BufTy).Contents (Elt F) → (⟨S512x1, .i32⟩ : BufTy).Contents (Elt F)),
    binary main_v53 main_v96 main_v97 ((fun x i => Host.gather gather_S16384_S512x1_S512_n_0_n_n_0_1_1 x i) : (⟨S16384, .f32⟩ : BufTy).Contents (Elt F) → (⟨S512x1, .i32⟩ : BufTy).Contents (Elt F) → (⟨S512, .f32⟩ : BufTy).Contents (Elt F)),
    nullary main_c_30 (constantI S_ 32 0#32),
    unary main_c_30 main_v98 (broadcastInDim S512 ![] bcast_S_S512 : (⟨S_, .i32⟩ : BufTy).Contents (Elt F) → (⟨S512, .i32⟩ : BufTy).Contents (Elt F)),
    binary main_v83 main_v98 main_v99 (cmpi .slt : (⟨S512, .i32⟩ : BufTy).Contents (Elt F) → (⟨S512, .i32⟩ : BufTy).Contents (Elt F) → (⟨S512, .i1⟩ : BufTy).Contents (Elt F)),
    nullary main_c_31 (constantI S_ 32 16384#32),
    unary main_c_31 main_v100 (broadcastInDim S512 ![] bcast_S_S512 : (⟨S_, .i32⟩ : BufTy).Contents (Elt F) → (⟨S512, .i32⟩ : BufTy).Contents (Elt F)),
    binary main_v83 main_v100 main_v101 (addi : (⟨S512, .i32⟩ : BufTy).Contents (Elt F) → (⟨S512, .i32⟩ : BufTy).Contents (Elt F) → (⟨S512, .i32⟩ : BufTy).Contents (Elt F)),
    ternary main_v99 main_v101 main_v83 main_v102 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v102 main_v103 (broadcastInDim S512x1 ![0] bcast_S512_S512x1_0 : (⟨S512, .i32⟩ : BufTy).Contents (Elt F) → (⟨S512x1, .i32⟩ : BufTy).Contents (Elt F)),
    binary main_v49 main_v103 main_v104 ((fun x i => Host.gather gather_S16384_S512x1_S512_n_0_n_n_0_1_1 x i) : (⟨S16384, .f32⟩ : BufTy).Contents (Elt F) → (⟨S512x1, .i32⟩ : BufTy).Contents (Elt F) → (⟨S512, .f32⟩ : BufTy).Contents (Elt F)),
    nullary main_c_32 (constantI S_ 32 0#32),
    unary main_c_32 main_v105 (broadcastInDim S512 ![] bcast_S_S512 : (⟨S_, .i32⟩ : BufTy).Contents (Elt F) → (⟨S512, .i32⟩ : BufTy).Contents (Elt F)),
    binary main_v83 main_v105 main_v106 (cmpi .slt : (⟨S512, .i32⟩ : BufTy).Contents (Elt F) → (⟨S512, .i32⟩ : BufTy).Contents (Elt F) → (⟨S512, .i1⟩ : BufTy).Contents (Elt F)),
    nullary main_c_33 (constantI S_ 32 16384#32),
    unary main_c_33 main_v107 (broadcastInDim S512 ![] bcast_S_S512 : (⟨S_, .i32⟩ : BufTy).Contents (Elt F) → (⟨S512, .i32⟩ : BufTy).Contents (Elt F)),
    binary main_v83 main_v107 main_v108 (addi : (⟨S512, .i32⟩ : BufTy).Contents (Elt F) → (⟨S512, .i32⟩ : BufTy).Contents (Elt F) → (⟨S512, .i32⟩ : BufTy).Contents (Elt F)),
    ternary main_v106 main_v108 main_v83 main_v109 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v109 main_v110 (broadcastInDim S512x1 ![0] bcast_S512_S512x1_0 : (⟨S512, .i32⟩ : BufTy).Contents (Elt F) → (⟨S512x1, .i32⟩ : BufTy).Contents (Elt F)),
    binary main_v63 main_v110 main_v111 ((fun x i => Host.gather gather_S16384_S512x1_S512_n_0_n_n_0_1_1 x i) : (⟨S16384, .i32⟩ : BufTy).Contents (Elt F) → (⟨S512x1, .i32⟩ : BufTy).Contents (Elt F) → (⟨S512, .i32⟩ : BufTy).Contents (Elt F)),
    unary main_v63 main_v112 (broadcastInDim S16384x1 ![0] bcast_S16384_S16384x1_0 : (⟨S16384, .i32⟩ : BufTy).Contents (Elt F) → (⟨S16384x1, .i32⟩ : BufTy).Contents (Elt F)),
    unary main_v111 main_v113 (broadcastInDim S1x512 ![1] bcast_S512_S1x512_1 : (⟨S512, .i32⟩ : BufTy).Contents (Elt F) → (⟨S1x512, .i32⟩ : BufTy).Contents (Elt F)),
    unary main_v112 main_v114 (broadcastInDim S16384x512 ![0, 1] bcast_S16384x1_S16384x512_0_1 : (⟨S16384x1, .i32⟩ : BufTy).Contents (Elt F) → (⟨S16384x512, .i32⟩ : BufTy).Contents (Elt F)),
    unary main_v113 main_v115 (broadcastInDim S16384x512 ![0, 1] bcast_S1x512_S16384x512_0_1 : (⟨S1x512, .i32⟩ : BufTy).Contents (Elt F) → (⟨S16384x512, .i32⟩ : BufTy).Contents (Elt F)),
    binary main_v114 main_v115 main_v116 (cmpi .eq : (⟨S16384x512, .i32⟩ : BufTy).Contents (Elt F) → (⟨S16384x512, .i32⟩ : BufTy).Contents (Elt F) → (⟨S16384x512, .i1⟩ : BufTy).Contents (Elt F)),
    unary main_v116 main_v117 (uitofp .f32 : (⟨S16384x512, .i1⟩ : BufTy).Contents (Elt F) → (⟨S16384x512, .f32⟩ : BufTy).Contents (Elt F)),
    unary main_arg1 main_v118 (broadcastInDim S16384x1x2 ![0, 2] bcast_S16384x2_S16384x1x2_0_2 : (⟨S16384x2, .f32⟩ : BufTy).Contents (Elt F) → (⟨S16384x1x2, .f32⟩ : BufTy).Contents (Elt F)),
    unary main_v90 main_v119 (broadcastInDim S1x512x2 ![1, 2] bcast_S512x2_S1x512x2_1_2 : (⟨S512x2, .f32⟩ : BufTy).Contents (Elt F) → (⟨S1x512x2, .f32⟩ : BufTy).Contents (Elt F)),
    unary main_v118 main_v120 (broadcastInDim S16384x512x2 ![0, 1, 2] bcast_S16384x1x2_S16384x512x2_0_1_2 : (⟨S16384x1x2, .f32⟩ : BufTy).Contents (Elt F) → (⟨S16384x512x2, .f32⟩ : BufTy).Contents (Elt F)),
    unary main_v119 main_v121 (broadcastInDim S16384x512x2 ![0, 1, 2] bcast_S1x512x2_S16384x512x2_0_1_2 : (⟨S1x512x2, .f32⟩ : BufTy).Contents (Elt F) → (⟨S16384x512x2, .f32⟩ : BufTy).Contents (Elt F)),
    binary main_v120 main_v121 main_v122 (subf : (⟨S16384x512x2, .f32⟩ : BufTy).Contents (Elt F) → (⟨S16384x512x2, .f32⟩ : BufTy).Contents (Elt F) → (⟨S16384x512x2, .f32⟩ : BufTy).Contents (Elt F)),
    binary main_v122 main_v122 main_v123 (mulf : (⟨S16384x512x2, .f32⟩ : BufTy).Contents (Elt F) → (⟨S16384x512x2, .f32⟩ : BufTy).Contents (Elt F) → (⟨S16384x512x2, .f32⟩ : BufTy).Contents (Elt F)),
    nullary main_cst_34 (constant S_ .f32 0x00000000#32),
    binary main_v123 main_cst_34 main_v124 ((fun x v => Host.reduceAdd x v reducesTo_S16384x512x2_S16384x512_d2 h_S_) : (⟨S16384x512x2, .f32⟩ : BufTy).Contents (Elt F) → (⟨S_, .f32⟩ : BufTy).Contents (Elt F) → (⟨S16384x512, .f32⟩ : BufTy).Contents (Elt F)),
    nullary main_cst_35 (constant S_ .f32 0x3089705F#32),
    unary main_cst_35 main_v125 (broadcastInDim S16384x512 ![] bcast_S_S16384x512 : (⟨S_, .f32⟩ : BufTy).Contents (Elt F) → (⟨S16384x512, .f32⟩ : BufTy).Contents (Elt F)),
    binary main_v124 main_v125 main_v126 (addf : (⟨S16384x512, .f32⟩ : BufTy).Contents (Elt F) → (⟨S16384x512, .f32⟩ : BufTy).Contents (Elt F) → (⟨S16384x512, .f32⟩ : BufTy).Contents (Elt F)),
    unary main_v126 main_v127 (Host.sqrt : (⟨S16384x512, .f32⟩ : BufTy).Contents (Elt F) → (⟨S16384x512, .f32⟩ : BufTy).Contents (Elt F)),
    unary main_v53 main_v128 (broadcastInDim S16384x1 ![0] bcast_S16384_S16384x1_0 : (⟨S16384, .f32⟩ : BufTy).Contents (Elt F) → (⟨S16384x1, .f32⟩ : BufTy).Contents (Elt F)),
    unary main_v97 main_v129 (broadcastInDim S1x512 ![1] bcast_S512_S1x512_1 : (⟨S512, .f32⟩ : BufTy).Contents (Elt F) → (⟨S1x512, .f32⟩ : BufTy).Contents (Elt F)),
    unary main_v128 main_v130 (broadcastInDim S16384x512 ![0, 1] bcast_S16384x1_S16384x512_0_1 : (⟨S16384x1, .f32⟩ : BufTy).Contents (Elt F) → (⟨S16384x512, .f32⟩ : BufTy).Contents (Elt F)),
    unary main_v129 main_v131 (broadcastInDim S16384x512 ![0, 1] bcast_S1x512_S16384x512_0_1 : (⟨S1x512, .f32⟩ : BufTy).Contents (Elt F) → (⟨S16384x512, .f32⟩ : BufTy).Contents (Elt F)),
    binary main_v130 main_v131 main_v132 (mulf : (⟨S16384x512, .f32⟩ : BufTy).Contents (Elt F) → (⟨S16384x512, .f32⟩ : BufTy).Contents (Elt F) → (⟨S16384x512, .f32⟩ : BufTy).Contents (Elt F)),
    binary main_v70 main_v132 main_v133 (mulf : (⟨S16384x512, .f32⟩ : BufTy).Contents (Elt F) → (⟨S16384x512, .f32⟩ : BufTy).Contents (Elt F) → (⟨S16384x512, .f32⟩ : BufTy).Contents (Elt F)),
    binary main_v133 main_v124 main_v134 (mulf : (⟨S16384x512, .f32⟩ : BufTy).Contents (Elt F) → (⟨S16384x512, .f32⟩ : BufTy).Contents (Elt F) → (⟨S16384x512, .f32⟩ : BufTy).Contents (Elt F)),
    unary main_v74 main_v135 (broadcastInDim S1x512 ![1] bcast_S512_S1x512_1 : (⟨S512, .f32⟩ : BufTy).Contents (Elt F) → (⟨S1x512, .f32⟩ : BufTy).Contents (Elt F)),
    unary main_v135 main_v136 (broadcastInDim S16384x512 ![0, 1] bcast_S1x512_S16384x512_0_1 : (⟨S1x512, .f32⟩ : BufTy).Contents (Elt F) → (⟨S16384x512, .f32⟩ : BufTy).Contents (Elt F)),
    binary main_v134 main_v136 main_v137 (mulf : (⟨S16384x512, .f32⟩ : BufTy).Contents (Elt F) → (⟨S16384x512, .f32⟩ : BufTy).Contents (Elt F) → (⟨S16384x512, .f32⟩ : BufTy).Contents (Elt F)),
    nullary main_cst_36 (constant S_ .f32 0x00000000#32),
    binary main_v137 main_cst_36 main_v138 ((fun x v => Host.reduceAdd x v reducesTo_S16384x512_S_d0_1 h_S_) : (⟨S16384x512, .f32⟩ : BufTy).Contents (Elt F) → (⟨S_, .f32⟩ : BufTy).Contents (Elt F) → (⟨S_, .f32⟩ : BufTy).Contents (Elt F)),
    nullary main_cst_37 (constant S_ .f32 0x46800000#32),
    binary main_v138 main_cst_37 main_v139 (Host.divf : (⟨S_, .f32⟩ : BufTy).Contents (Elt F) → (⟨S_, .f32⟩ : BufTy).Contents (Elt F) → (⟨S_, .f32⟩ : BufTy).Contents (Elt F)) ]

/-- The operations of the program's stretch 3, in order. -/
def ops3 : List (HloOp τ sig (Elt F)) :=
  [ nullary main_cst_38 (constant S_ .f32 0x3F800000#32),
    unary main_cst_38 main_v140 (broadcastInDim S16384x512 ![] bcast_S_S16384x512 : (⟨S_, .f32⟩ : BufTy).Contents (Elt F) → (⟨S16384x512, .f32⟩ : BufTy).Contents (Elt F)),
    binary main_v140 main_v70 main_v141 (subf : (⟨S16384x512, .f32⟩ : BufTy).Contents (Elt F) → (⟨S16384x512, .f32⟩ : BufTy).Contents (Elt F) → (⟨S16384x512, .f32⟩ : BufTy).Contents (Elt F)),
    binary main_v141 main_v117 main_v142 (mulf : (⟨S16384x512, .f32⟩ : BufTy).Contents (Elt F) → (⟨S16384x512, .f32⟩ : BufTy).Contents (Elt F) → (⟨S16384x512, .f32⟩ : BufTy).Contents (Elt F)),
    unary main_v74 main_v143 (broadcastInDim S1x512 ![1] bcast_S512_S1x512_1 : (⟨S512, .f32⟩ : BufTy).Contents (Elt F) → (⟨S1x512, .f32⟩ : BufTy).Contents (Elt F)),
    unary main_v143 main_v144 (broadcastInDim S16384x512 ![0, 1] bcast_S1x512_S16384x512_0_1 : (⟨S1x512, .f32⟩ : BufTy).Contents (Elt F) → (⟨S16384x512, .f32⟩ : BufTy).Contents (Elt F)),
    binary main_v142 main_v144 main_v145 (mulf : (⟨S16384x512, .f32⟩ : BufTy).Contents (Elt F) → (⟨S16384x512, .f32⟩ : BufTy).Contents (Elt F) → (⟨S16384x512, .f32⟩ : BufTy).Contents (Elt F)),
    binary main_v145 main_v132 main_v146 (mulf : (⟨S16384x512, .f32⟩ : BufTy).Contents (Elt F) → (⟨S16384x512, .f32⟩ : BufTy).Contents (Elt F) → (⟨S16384x512, .f32⟩ : BufTy).Contents (Elt F)),
    nullary main_cst_39 (constant S_ .f32 0x3F800000#32),
    unary main_cst_39 main_v147 (broadcastInDim S16384x512 ![] bcast_S_S16384x512 : (⟨S_, .f32⟩ : BufTy).Contents (Elt F) → (⟨S16384x512, .f32⟩ : BufTy).Contents (Elt F)),
    binary main_v147 main_v127 main_v148 (subf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16384x512, .f32⟩) main_call6_v0) (broadcastInDim S16384x512 ![] bcast_S_S16384x512),
    TRef.binary (TRef.of (T := ⟨S16384x512, .f32⟩) main_v148) (TRef.of (T := ⟨S16384x512, .f32⟩) main_call6_v0) (TRef.of (T := ⟨S16384x512, .f32⟩) main_v149) maximumf,
    binary main_v146 main_v149 main_v150 (mulf : (⟨S16384x512, .f32⟩ : BufTy).Contents (Elt F) → (⟨S16384x512, .f32⟩ : BufTy).Contents (Elt F) → (⟨S16384x512, .f32⟩ : BufTy).Contents (Elt F)),
    nullary main_cst_40 (constant S_ .f32 0x00000000#32),
    binary main_v150 main_cst_40 main_v151 ((fun x v => Host.reduceAdd x v reducesTo_S16384x512_S_d0_1 h_S_) : (⟨S16384x512, .f32⟩ : BufTy).Contents (Elt F) → (⟨S_, .f32⟩ : BufTy).Contents (Elt F) → (⟨S_, .f32⟩ : BufTy).Contents (Elt F)),
    nullary main_cst_41 (constant S_ .f32 0x46800000#32),
    binary main_v151 main_cst_41 main_v152 (Host.divf : (⟨S_, .f32⟩ : BufTy).Contents (Elt F) → (⟨S_, .f32⟩ : BufTy).Contents (Elt F) → (⟨S_, .f32⟩ : BufTy).Contents (Elt F)),
    nullary main_cst_42 (constant S_ .f32 0x00000000#32),
    binary main_v74 main_cst_42 main_v153 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    nullary main_cst_43 (constant S_ .f32 0x3F800000#32),
    binary main_v153 main_cst_43 main_v154 (maximumf : (⟨S_, .f32⟩ : BufTy).Contents (Elt F) → (⟨S_, .f32⟩ : BufTy).Contents (Elt F) → (⟨S_, .f32⟩ : BufTy).Contents (Elt F)),
    nullary main_cst_44 (constant S_ .f32 0x3F800000#32),
    unary main_cst_44 main_v155 (broadcastInDim S512 ![] bcast_S_S512 : (⟨S_, .f32⟩ : BufTy).Contents (Elt F) → (⟨S512, .f32⟩ : BufTy).Contents (Elt F)),
    binary main_v155 main_v104 main_v156 (subf : (⟨S512, .f32⟩ : BufTy).Contents (Elt F) → (⟨S512, .f32⟩ : BufTy).Contents (Elt F) → (⟨S512, .f32⟩ : BufTy).Contents (Elt F)),
    binary main_v74 main_v156 main_v157 (mulf : (⟨S512, .f32⟩ : BufTy).Contents (Elt F) → (⟨S512, .f32⟩ : BufTy).Contents (Elt F) → (⟨S512, .f32⟩ : BufTy).Contents (Elt F)),
    nullary main_cst_45 (constant S_ .f32 0x00000000#32),
    binary main_v157 main_cst_45 main_v158 ((fun x v => Host.reduceAdd x v reducesTo_S512_S_d0 h_S_) : (⟨S512, .f32⟩ : BufTy).Contents (Elt F) → (⟨S_, .f32⟩ : BufTy).Contents (Elt F) → (⟨S_, .f32⟩ : BufTy).Contents (Elt F)),
    binary main_v158 main_v154 main_v159 (Host.divf : (⟨S_, .f32⟩ : BufTy).Contents (Elt F) → (⟨S_, .f32⟩ : BufTy).Contents (Elt F) → (⟨S_, .f32⟩ : BufTy).Contents (Elt F)),
    nullary main_c_46 (constantI S_ 32 0#32),
    unary main_c_46 main_v160 (broadcastInDim S16384 ![] bcast_S_S16384 : (⟨S_, .i32⟩ : BufTy).Contents (Elt F) → (⟨S16384, .i32⟩ : BufTy).Contents (Elt F)),
    binary main_v47 main_v160 main_v161 (cmpi .slt : (⟨S16384, .i32⟩ : BufTy).Contents (Elt F) → (⟨S16384, .i32⟩ : BufTy).Contents (Elt F) → (⟨S16384, .i1⟩ : BufTy).Contents (Elt F)),
    unary main_v161 main_v162 (uitofp .f32 : (⟨S16384, .i1⟩ : BufTy).Contents (Elt F) → (⟨S16384, .f32⟩ : BufTy).Contents (Elt F)),
    binary main_v162 main_v49 main_v163 (mulf : (⟨S16384, .f32⟩ : BufTy).Contents (Elt F) → (⟨S16384, .f32⟩ : BufTy).Contents (Elt F) → (⟨S16384, .f32⟩ : BufTy).Contents (Elt F)),
    nullary main_cst_47 (constant S_ .f32 0x00000000#32),
    binary main_v163 main_cst_47 main_v164 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_48 (constant S_ .f32 0x3F800000#32),
    binary main_cst_48 main_v164 main_v165 (mulf : (⟨S_, .f32⟩ : BufTy).Contents (Elt F) → (⟨S_, .f32⟩ : BufTy).Contents (Elt F) → (⟨S_, .f32⟩ : BufTy).Contents (Elt F)),
    nullary main_cst_49 (constant S_ .f32 0x00000000#32),
    binary main_v162 main_cst_49 main_v166 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_50 (constant S_ .f32 0x3F800000#32),
    binary main_v166 main_cst_50 main_v167 (maximumf : (⟨S_, .f32⟩ : BufTy).Contents (Elt F) → (⟨S_, .f32⟩ : BufTy).Contents (Elt F) → (⟨S_, .f32⟩ : BufTy).Contents (Elt F)),
    binary main_v165 main_v167 main_v168 (Host.divf : (⟨S_, .f32⟩ : BufTy).Contents (Elt F) → (⟨S_, .f32⟩ : BufTy).Contents (Elt F) → (⟨S_, .f32⟩ : BufTy).Contents (Elt F)),
    unary main_v49 main_v169 (broadcastInDim S16384x1 ![0] bcast_S16384_S16384x1_0 : (⟨S16384, .f32⟩ : BufTy).Contents (Elt F) → (⟨S16384x1, .f32⟩ : BufTy).Contents (Elt F)),
    unary main_v169 main_v170 (broadcastInDim S16384x512 ![0, 1] bcast_S16384x1_S16384x512_0_1 : (⟨S16384x1, .f32⟩ : BufTy).Contents (Elt F) → (⟨S16384x512, .f32⟩ : BufTy).Contents (Elt F)),
    binary main_v70 main_v170 main_v171 (mulf : (⟨S16384x512, .f32⟩ : BufTy).Contents (Elt F) → (⟨S16384x512, .f32⟩ : BufTy).Contents (Elt F) → (⟨S16384x512, .f32⟩ : BufTy).Contents (Elt F)),
    unary main_v49 main_v172 (broadcastInDim S16384x1 ![0] bcast_S16384_S16384x1_0 : (⟨S16384, .f32⟩ : BufTy).Contents (Elt F) → (⟨S16384x1, .f32⟩ : BufTy).Contents (Elt F)),
    unary main_v104 main_v173 (broadcastInDim S1x512 ![1] bcast_S512_S1x512_1 : (⟨S512, .f32⟩ : BufTy).Contents (Elt F) → (⟨S1x512, .f32⟩ : BufTy).Contents (Elt F)),
    nullary main_cst_51 (constant S_ .f32 0x3DCCCCCD#32),
    unary main_cst_51 main_v174 (broadcastInDim S1x512 ![] bcast_S_S1x512 : (⟨S_, .f32⟩ : BufTy).Contents (Elt F) → (⟨S1x512, .f32⟩ : BufTy).Contents (Elt F)),
    binary main_v174 main_v173 main_v175 (mulf : (⟨S1x512, .f32⟩ : BufTy).Contents (Elt F) → (⟨S1x512, .f32⟩ : BufTy).Contents (Elt F) → (⟨S1x512, .f32⟩ : BufTy).Contents (Elt F)),
    unary main_v172 main_v176 (broadcastInDim S16384x512 ![0, 1] bcast_S16384x1_S16384x512_0_1 : (⟨S16384x1, .f32⟩ : BufTy).Contents (Elt F) → (⟨S16384x512, .f32⟩ : BufTy).Contents (Elt F)),
    unary main_v175 main_v177 (broadcastInDim S16384x512 ![0, 1] bcast_S1x512_S16384x512_0_1 : (⟨S1x512, .f32⟩ : BufTy).Contents (Elt F) → (⟨S16384x512, .f32⟩ : BufTy).Contents (Elt F)),
    binary main_v176 main_v177 main_v178 (cmpf .ogt : (⟨S16384x512, .f32⟩ : BufTy).Contents (Elt F) → (⟨S16384x512, .f32⟩ : BufTy).Contents (Elt F) → (⟨S16384x512, .i1⟩ : BufTy).Contents (Elt F)),
    unary main_v178 main_v179 (uitofp .f32 : (⟨S16384x512, .i1⟩ : BufTy).Contents (Elt F) → (⟨S16384x512, .f32⟩ : BufTy).Contents (Elt F)),
    binary main_v171 main_v179 main_v180 (mulf : (⟨S16384x512, .f32⟩ : BufTy).Contents (Elt F) → (⟨S16384x512, .f32⟩ : BufTy).Contents (Elt F) → (⟨S16384x512, .f32⟩ : BufTy).Contents (Elt F)),
    unary main_v8 main_v181 (broadcastInDim S16384x4 ![0, 1] bcast_S16384x1_S16384x4_0_1 : (⟨S16384x1, .f32⟩ : BufTy).Contents (Elt F) → (⟨S16384x4, .f32⟩ : BufTy).Contents (Elt F)),
    binary main_v46 main_v181 main_v182 (mulf : (⟨S16384x4, .f32⟩ : BufTy).Contents (Elt F) → (⟨S16384x4, .f32⟩ : BufTy).Contents (Elt F) → (⟨S16384x4, .f32⟩ : BufTy).Contents (Elt F)),
    unary main_v180 main_v183 ((transpose S512x16384 [1, 0] · transposes_S16384x512_S512x16384_1_0) : (⟨S16384x512, .f32⟩ : BufTy).Contents (Elt F) → (⟨S512x16384, .f32⟩ : BufTy).Contents (Elt F)),
    binary main_v183 main_v182 main_v184 ((fun l r => Host.dotGeneral dot_S512x16384_S16384x4_S512x4_1_0_0_1_n_n none l r) : (⟨S512x16384, .f32⟩ : BufTy).Contents (Elt F) → (⟨S16384x4, .f32⟩ : BufTy).Contents (Elt F) → (⟨S512x4, .f32⟩ : BufTy).Contents (Elt F)),
    nullary main_cst_52 (constant S_ .f32 0x00000000#32) ]

/-- The operations of the program's stretch 4, in order. -/
def ops4 : List (HloOp τ sig (Elt F)) :=
  [ binary main_v180 main_cst_52 main_v185 ((fun x v => Host.reduceAdd x v reducesTo_S16384x512_S512_d0 h_S_) : (⟨S16384x512, .f32⟩ : BufTy).Contents (Elt F) → (⟨S_, .f32⟩ : BufTy).Contents (Elt F) → (⟨S512, .f32⟩ : BufTy).Contents (Elt F)),
    unary main_v185 main_v186 (broadcastInDim S512x1 ![0] bcast_S512_S512x1_0 : (⟨S512, .f32⟩ : BufTy).Contents (Elt F) → (⟨S512x1, .f32⟩ : BufTy).Contents (Elt F)),
    nullary main_cst_53 (constant S_ .f32 0x3089705F#32),
    unary main_cst_53 main_v187 (broadcastInDim S512x1 ![] bcast_S_S512x1 : (⟨S_, .f32⟩ : BufTy).Contents (Elt F) → (⟨S512x1, .f32⟩ : BufTy).Contents (Elt F)),
    binary main_v186 main_v187 main_v188 (addf : (⟨S512x1, .f32⟩ : BufTy).Contents (Elt F) → (⟨S512x1, .f32⟩ : BufTy).Contents (Elt F) → (⟨S512x1, .f32⟩ : BufTy).Contents (Elt F)),
    unary main_v188 main_v189 (broadcastInDim S512x4 ![0, 1] bcast_S512x1_S512x4_0_1 : (⟨S512x1, .f32⟩ : BufTy).Contents (Elt F) → (⟨S512x4, .f32⟩ : BufTy).Contents (Elt F)),
    binary main_v184 main_v189 main_v190 (Host.divf : (⟨S512x4, .f32⟩ : BufTy).Contents (Elt F) → (⟨S512x4, .f32⟩ : BufTy).Contents (Elt F) → (⟨S512x4, .f32⟩ : BufTy).Contents (Elt F)),
    unary main_v74 main_v191 (broadcastInDim S512x1 ![0] bcast_S512_S512x1_0 : (⟨S512, .f32⟩ : BufTy).Contents (Elt F) → (⟨S512x1, .f32⟩ : BufTy).Contents (Elt F)),
    unary main_v191 main_v192 (broadcastInDim S512x4 ![0, 1] bcast_S512x1_S512x4_0_1 : (⟨S512x1, .f32⟩ : BufTy).Contents (Elt F) → (⟨S512x4, .f32⟩ : BufTy).Contents (Elt F)),
    binary main_v192 main_v190 main_v193 (mulf : (⟨S512x4, .f32⟩ : BufTy).Contents (Elt F) → (⟨S512x4, .f32⟩ : BufTy).Contents (Elt F) → (⟨S512x4, .f32⟩ : BufTy).Contents (Elt F)),
    nullary main_cst_54 (constant S_ .f32 0x00000000#32),
    binary main_v193 main_cst_54 main_v194 ((fun x v => Host.reduceAdd x v reducesTo_S512x4_S_d0_1 h_S_) : (⟨S512x4, .f32⟩ : BufTy).Contents (Elt F) → (⟨S_, .f32⟩ : BufTy).Contents (Elt F) → (⟨S_, .f32⟩ : BufTy).Contents (Elt F)),
    binary main_v194 main_v154 main_v195 (Host.divf : (⟨S_, .f32⟩ : BufTy).Contents (Elt F) → (⟨S_, .f32⟩ : BufTy).Contents (Elt F) → (⟨S_, .f32⟩ : BufTy).Contents (Elt F)),
    binary main_v139 main_v152 main_v196 (addf : (⟨S_, .f32⟩ : BufTy).Contents (Elt F) → (⟨S_, .f32⟩ : BufTy).Contents (Elt F) → (⟨S_, .f32⟩ : BufTy).Contents (Elt F)),
    binary main_v196 main_v159 main_v197 (addf : (⟨S_, .f32⟩ : BufTy).Contents (Elt F) → (⟨S_, .f32⟩ : BufTy).Contents (Elt F) → (⟨S_, .f32⟩ : BufTy).Contents (Elt F)),
    binary main_v197 main_v168 main_v198 (addf : (⟨S_, .f32⟩ : BufTy).Contents (Elt F) → (⟨S_, .f32⟩ : BufTy).Contents (Elt F) → (⟨S_, .f32⟩ : BufTy).Contents (Elt F)),
    binary main_v198 main_v195 main_v199 (addf : (⟨S_, .f32⟩ : BufTy).Contents (Elt F) → (⟨S_, .f32⟩ : BufTy).Contents (Elt F) → (⟨S_, .f32⟩ : BufTy).Contents (Elt F)) ]

/-- All operations of the program, in order. -/
def ops : List (HloOp τ sig (Elt F)) := ops0 ++ (ops1 ++ (ops2 ++ (ops3 ++ ops4)))

/-- The buffer each operation writes. -/
def outs : List (Ref sig .tc) :=
  [main_cst, main_v0, main_v1, main_cst_0, main_v2, main_v3, main_cst_1, main_v4, main_v5,
    main_cst_2, main_v6, main_v7, main_cst_3, main_call0_v0, main_call0_v1, main_v8, main_cst_4, main_v9,
    main_v10, main_v11, main_v12, main_v13, main_cst_5, main_v14, main_v15, main_v16, main_cst_6,
    main_v17, main_v18, main_v19, main_v20, main_cst_7, main_v21, main_v22, main_v23, main_cst_8,
    main_v24, main_v25, main_v26, main_v27, main_v28, main_v29, main_v30, main_cst_9, main_v31,
    main_v32, main_cst_10, main_v33, main_v34, main_cst_11, main_v35, main_v36, main_v37, main_v38,
    main_v39, main_cst_12, main_v40, main_v41, main_cst_13, main_v42, main_v43, main_cst_14, main_v44,
    main_v45, main_v46, main_v47, main_v48, main_cst_15, main_cst_16, main_call2_v0, main_call2_v1, main_call2_v2,
    main_call2_v3, main_call2_v4, main_v49, main_v50, main_v51, main_cst_17, main_v52, main_v53, main_v54,
    main_v55, main_v56, main_v57, main_v58, main_v59, main_v60, main_c, main_v61, main_c_18,
    main_v62, main_v63, main_c_19, main_v64, main_v65, main_c_20, main_v66, main_v67, main_v68,
    main_c_21, main_call3_v0, main_call3_v1, main_v69, main_call4_v0, main_call4_v1, main_call4_v2, main_call4_v3, main_call4_v4,
    main_v70, main_cst_22, main_v71, main_cst_23, main_v72, main_v73, main_v74, main_v75, main_v76,
    main_v77, main_cst_24, main_v78, main_v79, main_cst_25, main_v80, main_v81, main_v82, main_call5_v0,
    main_call5_cst, main_call5_c, main_call5_v1_0, main_v83, main_c_26, main_v84, main_v85, main_c_27, main_v86,
    main_v87, main_v88, main_v89, main_v90, main_c_28, main_v91, main_v92, main_c_29, main_v93,
    main_v94, main_v95, main_v96, main_v97, main_c_30, main_v98, main_v99, main_c_31, main_v100,
    main_v101, main_v102, main_v103, main_v104, main_c_32, main_v105, main_v106, main_c_33, main_v107,
    main_v108, main_v109, main_v110, main_v111, main_v112, main_v113, main_v114, main_v115, main_v116,
    main_v117, main_v118, main_v119, main_v120, main_v121, main_v122, main_v123, main_cst_34, main_v124,
    main_cst_35, main_v125, main_v126, main_v127, main_v128, main_v129, main_v130, main_v131, main_v132,
    main_v133, main_v134, main_v135, main_v136, main_v137, main_cst_36, main_v138, main_cst_37, main_v139,
    main_cst_38, main_v140, main_v141, main_v142, main_v143, main_v144, main_v145, main_v146, main_cst_39,
    main_v147, main_v148, main_call6_cst, main_call6_v0, main_v149, main_v150, main_cst_40, main_v151, main_cst_41,
    main_v152, main_cst_42, main_v153, main_cst_43, main_v154, main_cst_44, main_v155, main_v156, main_v157,
    main_cst_45, main_v158, main_v159, main_c_46, main_v160, main_v161, main_v162, main_v163, main_cst_47,
    main_v164, main_cst_48, main_v165, main_cst_49, main_v166, main_cst_50, main_v167, main_v168, main_v169,
    main_v170, main_v171, main_v172, main_v173, main_cst_51, main_v174, main_v175, main_v176, main_v177,
    main_v178, main_v179, main_v180, main_v181, main_v182, main_v183, main_v184, main_cst_52, main_v185,
    main_v186, main_cst_53, main_v187, main_v188, main_v189, main_v190, main_v191, main_v192, main_v193,
    main_cst_54, main_v194, main_v195, main_v196, main_v197, main_v198, main_v199]

theorem part0_eq (c : Dev nD) : main_part0 (F := F) c = seq ops0 := rfl
theorem part1_eq (c : Dev nD) : main_part1 (F := F) c = seq ops1 := rfl
theorem part2_eq (c : Dev nD) : main_part2 (F := F) c = seq ops2 := rfl
theorem part3_eq (c : Dev nD) : main_part3 (F := F) c = seq ops3 := rfl
theorem part4_eq (c : Dev nD) : main_part4 (F := F) c = seq ops4 := rfl

/-- The program is its list of operations. -/
theorem main_eq (c : Dev nD) : main (F := F) c = seq ops := by
  simp only [ops, seq_append, ← part0_eq c, ← part1_eq c, ← part2_eq c, ← part3_eq c, ← part4_eq c]
  rfl

theorem scoped_refs : (Finset.univ.filter fun b : Ref sig .tc => b.isScoped) = ∅ := by decide
theorem scoped_sems : (Finset.univ.filter fun sm : SemLoc sig => sm.isScoped .tc) = ∅ := by decide

theorem bufs0 : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., ternary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub ..⟩
theorem fresh0 : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem bufs1 : (ops1 : List (HloOp τ sig (Elt F))).Forall fun op => op.bufs ⊆ tcRefs τ sig :=
  ⟨unary_bufs_sub .., binary_bufs_sub .., nary_bufs_sub .., reshape_bufs_sub .., reshape_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., unary_bufs_sub .., binary_bufs_sub .., unary_bufs_sub .., nullary_bufs_sub .., unary_bufs_sub .., unary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., ternary_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub ..⟩
theorem fresh1 : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem bufs2 : (ops2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., unary_bufs_sub .., unary_bufs_sub .., unary_bufs_sub .., binary_bufs_sub .., binary_bufs_sub .., binary_bufs_sub .., unary_bufs_sub .., unary_bufs_sub .., binary_bufs_sub .., nullary_bufs_sub .., binary_bufs_sub .., nullary_bufs_sub .., binary_bufs_sub ..⟩
theorem fresh2 : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem bufs3 : (ops3 : List (HloOp τ sig (Elt F))).Forall fun op => op.bufs ⊆ tcRefs τ sig :=
  ⟨nullary_bufs_sub .., unary_bufs_sub .., binary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub .., unary_bufs_sub .., binary_bufs_sub .., binary_bufs_sub .., nullary_bufs_sub .., binary_bufs_sub .., binary_bufs_sub .., nullary_bufs_sub .., unary_bufs_sub .., binary_bufs_sub .., unary_bufs_sub .., binary_bufs_sub .., nullary_bufs_sub .., binary_bufs_sub .., nullary_bufs_sub .., binary_bufs_sub .., nullary_bufs_sub .., binary_bufs_sub .., nullary_bufs_sub .., binary_bufs_sub .., binary_bufs_sub .., unary_bufs_sub .., unary_bufs_sub .., binary_bufs_sub .., unary_bufs_sub .., unary_bufs_sub .., nullary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., nullary_bufs_sub ..⟩
theorem fresh3 : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem bufs4 : (ops4 : List (HloOp τ sig (Elt F))).Forall fun op => op.bufs ⊆ tcRefs τ sig :=
  ⟨binary_bufs_sub .., unary_bufs_sub .., nullary_bufs_sub .., unary_bufs_sub .., binary_bufs_sub .., unary_bufs_sub .., binary_bufs_sub .., unary_bufs_sub .., unary_bufs_sub .., binary_bufs_sub .., nullary_bufs_sub .., binary_bufs_sub .., binary_bufs_sub .., binary_bufs_sub .., binary_bufs_sub .., binary_bufs_sub .., binary_bufs_sub ..⟩
theorem fresh4 : (ops4 : List (HloOp τ sig (Elt F))).Forall fun op => op.fresh = ∅ :=
  ⟨rfl, rfl, rfl, rfl, rfl, rfl, rfl, rfl, rfl, rfl, rfl, rfl, rfl, rfl, rfl, rfl, rfl⟩

theorem ops_bufs : (ops : List (HloOp τ sig (Elt F))).Forall fun op => op.bufs ⊆ tcRefs τ sig :=
  List.forall_append.mpr ⟨bufs0, List.forall_append.mpr ⟨bufs1, List.forall_append.mpr ⟨bufs2, List.forall_append.mpr ⟨bufs3, bufs4⟩⟩⟩⟩

theorem ops_fresh : ∀ op ∈ (ops : List (HloOp τ sig (Elt F))), op.fresh = ∅ :=
  List.forall_iff_forall_mem.mp
    (List.forall_append.mpr ⟨fresh0, List.forall_append.mpr ⟨fresh1, List.forall_append.mpr ⟨fresh2, List.forall_append.mpr ⟨fresh3, fresh4⟩⟩⟩⟩)

/-- Each operation writes the buffer listed for it. -/
theorem ops_writes : (ops : List (HloOp τ sig (Elt F))).map (fun op => op.writes) = outs.map fun r => {Proc.devRef .tc r} := rfl

/-- What buffer `r` holds after the program, the buffers holding `V` before it. -/
def rd (V : Valuation τ sig (Elt F)) (r : Ref sig .tc) : r.ty.Contents (Elt F) := after ops V (Proc.devRef .tc r)

/-- A buffer that no operation from position `n` on writes holds at the end what it holds after the first `n`. -/
theorem rd_take (V : Valuation τ sig (Elt F)) (n : ℕ) {r : Ref sig .tc} (h : r ∉ outs.drop n) :
    rd V r = after (ops.take n) V (Proc.devRef .tc r) := by
  have e : after (ops (F := F)) V = after (ops.drop n) (after (ops.take n) V) := by
    rw [← after_append, List.take_append_drop]
  refine (congrFun e _).trans (after_of_forall_not_mem _ _ fun op hop hm => h ?_)
  have h1 : op.writes ∈ (outs.map fun r => ({Proc.devRef .tc r} : Finset (DevRef τ sig))).drop n := by
    rw [← ops_writes (F := F), ← List.map_drop]; exact List.mem_map_of_mem hop
  rw [← List.map_drop] at h1
  obtain ⟨y, hy, hyw⟩ := List.mem_map.mp h1
  rw [← hyw] at hm
  rw [Proc.devRef_injective _ (Finset.mem_singleton.mp hm)]
  exact hy

/-- A buffer that no operation after position `n` writes holds at the end what the operation at that position leaves. -/
theorem rd_at (V : Valuation τ sig (Elt F)) (n : ℕ) {op : HloOp τ sig (Elt F)} (ho : ops[n]? = some op) {r : Ref sig .tc}
    (h : r ∉ outs.drop (n + 1)) : rd V r = op.result (after (ops.take n) V) (Proc.devRef .tc r) := by
  rw [rd_take V (n + 1) h, List.take_add_one, ho, after_append]
  rfl

/-- An argument of the program is left as it was. -/
theorem rd_arg (V : Valuation τ sig (Elt F)) {r : Ref sig .tc} (h : r ∉ outs) : rd V r = V (Proc.devRef .tc r) :=
  rd_take V 0 h

/-- The program, from any memory with zero counters, ends with every buffer holding what its operations compute. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = rd (launchContents m c) b :=
  run_seq scoped_refs scoped_sems defs main (fun _ => ops) main_eq (fun _ => ops_bufs) m ρ fun _ => ops_fresh

/-- No operation of the program writes one of its arguments. -/
theorem args_kept : ∀ r ∈ ([main_arg0, main_arg1, main_arg2, main_arg3, main_arg4, main_arg5, main_arg6, main_arg7, main_arg8, main_arg9, main_arg10, main_arg11] : List (Ref sig .tc)), r ∉ outs := by decide +kernel

/-- Every argument array ends as it began. -/
theorem args_end (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    have k : ∀ b ∈ ([main_arg0, main_arg1, main_arg2, main_arg3, main_arg4, main_arg5, main_arg6, main_arg7, main_arg8, main_arg9, main_arg10, main_arg11] : List (Ref sig .tc)), r.2.mem ((c.tc : Thread nD τ).loc b) = m ((c.tc : Thread nD τ).loc b) :=
      fun b hb => (h c b).trans (rd_arg _ (args_kept b hb))
    ⟨k _ (by simp), k _ (by simp), k _ (by simp), k _ (by simp), k _ (by simp), k _ (by simp), k _ (by simp), k _ (by simp), k _ (by simp), k _ (by simp), k _ (by simp), k _ (by simp)⟩) (run m ρ)

end Cert.ReferenceIdeal.Loss

end
-- ==== Proof.ReferenceIdeal.Ops.lean ====
module

public import proofs.«01_k».proof.Proof.ReferenceIdeal.Run

@[expose] public section

set_option maxRecDepth 16384

noncomputable section

namespace Cert.ReferenceIdeal.Loss

open Cert.ReferenceIdeal Cert.ReferenceIdeal.Gen
open Idealize.ShloMosaic Idealize.ShloMosaic.TcCoe Idealize.ShloMosaic.StableHlo
open Idealize.SL.Sem

variable {F : FTy → Type} [FloatOps F]

/-! What each buffer holds at the end, in terms of what the buffers its operation reads hold at the end. -/

variable (V : Valuation τ sig (Elt F))

theorem e_cst : rd V main_cst = (constant S_ .f32 0x41200000#32) := by
  exact (rd_at V 0 rfl (by decide +kernel)).trans (nullary_result ..)
theorem e_v0 : rd V main_v0 = broadcastInDim S16384x1 ![] bcast_S_S16384x1 (rd V main_cst) := by
  rw [rd_take V 1 (r := main_cst) (by decide +kernel)]
  exact (rd_at V 1 rfl (by decide +kernel)).trans (unary_result ..)
theorem e_v1 : rd V main_v1 = cmpf .ogt (rd V main_arg7) (rd V main_v0) := by
  rw [rd_take V 2 (r := main_arg7) (by decide +kernel), rd_take V 2 (r := main_v0) (by decide +kernel)]
  exact (rd_at V 2 rfl (by decide +kernel)).trans (binary_result ..)
theorem e_cst_0 : rd V main_cst_0 = (constant S_ .f32 0x41200000#32) := by
  exact (rd_at V 3 rfl (by decide +kernel)).trans (nullary_result ..)
theorem e_v2 : rd V main_v2 = broadcastInDim S16384x1 ![] bcast_S_S16384x1 (rd V main_cst_0) := by
  rw [rd_take V 4 (r := main_cst_0) (by decide +kernel)]
  exact (rd_at V 4 rfl (by decide +kernel)).trans (unary_result ..)
theorem e_v3 : rd V main_v3 = Host.divf (rd V main_arg7) (rd V main_v2) := by
  rw [rd_take V 5 (r := main_arg7) (by decide +kernel), rd_take V 5 (r := main_v2) (by decide +kernel)]
  exact (rd_at V 5 rfl (by decide +kernel)).trans (binary_result ..)
theorem e_cst_1 : rd V main_cst_1 = (constant S_ .f32 0x3DCCCCCD#32) := by
  exact (rd_at V 6 rfl (by decide +kernel)).trans (nullary_result ..)
theorem e_v4 : rd V main_v4 = broadcastInDim S16384x1 ![] bcast_S_S16384x1 (rd V main_cst_1) := by
  rw [rd_take V 7 (r := main_cst_1) (by decide +kernel)]
  exact (rd_at V 7 rfl (by decide +kernel)).trans (unary_result ..)
theorem e_v5 : rd V main_v5 = addf (rd V main_v3) (rd V main_v4) := by
  rw [rd_take V 8 (r := main_v3) (by decide +kernel), rd_take V 8 (r := main_v4) (by decide +kernel)]
  exact (rd_at V 8 rfl (by decide +kernel)).trans (binary_result ..)
theorem e_cst_2 : rd V main_cst_2 = (constant S_ .f32 0x3F8CCCCD#32) := by
  exact (rd_at V 9 rfl (by decide +kernel)).trans (nullary_result ..)
theorem e_v6 : rd V main_v6 = broadcastInDim S16384x1 ![] bcast_S_S16384x1 (rd V main_cst_2) := by
  rw [rd_take V 10 (r := main_cst_2) (by decide +kernel)]
  exact (rd_at V 10 rfl (by decide +kernel)).trans (unary_result ..)
theorem e_v7 : rd V main_v7 = Host.divf (rd V main_v5) (rd V main_v6) := by
  rw [rd_take V 11 (r := main_v5) (by decide +kernel), rd_take V 11 (r := main_v6) (by decide +kernel)]
  exact (rd_at V 11 rfl (by decide +kernel)).trans (binary_result ..)
theorem e_cst_3 : rd V main_cst_3 = (constant S_ .f32 0x3F800000#32) := by
  exact (rd_at V 12 rfl (by decide +kernel)).trans (nullary_result ..)
theorem e_call0_v0 : rd V main_call0_v0 = id (rd V main_cst_3) := by
  rw [rd_take V 13 (r := main_cst_3) (by decide +kernel)]
  exact (rd_at V 13 rfl (by decide +kernel)).trans (unary_result ..)
theorem e_call0_v1 : rd V main_call0_v1 = (broadcastInDim S16384x1 ![] bcast_S_S16384x1) (rd V main_call0_v0) := by
  rw [rd_take V 14 (r := main_call0_v0) (by decide +kernel)]
  exact (rd_at V 14 rfl (by decide +kernel)).trans (unary_result ..)
theorem e_v8 : rd V main_v8 = select (rd V main_v1) (rd V main_call0_v1) (rd V main_v7) := by
  rw [rd_take V 15 (r := main_v1) (by decide +kernel), rd_take V 15 (r := main_call0_v1) (by decide +kernel), rd_take V 15 (r := main_v7) (by decide +kernel)]
  exact (rd_at V 15 rfl (by decide +kernel)).trans (ternary_result ..)
theorem e_cst_4 : rd V main_cst_4 = (constant S_ .f32 0x3A83126F#32) := by
  exact (rd_at V 16 rfl (by decide +kernel)).trans (nullary_result ..)
theorem e_v9 : rd V main_v9 = broadcastInDim S16384x1 ![] bcast_S_S16384x1 (rd V main_cst_4) := by
  rw [rd_take V 17 (r := main_cst_4) (by decide +kernel)]
  exact (rd_at V 17 rfl (by decide +kernel)).trans (unary_result ..)
theorem e_v10 : rd V main_v10 = addf (rd V main_arg7) (rd V main_v9) := by
  rw [rd_take V 18 (r := main_arg7) (by decide +kernel), rd_take V 18 (r := main_v9) (by decide +kernel)]
  exact (rd_at V 18 rfl (by decide +kernel)).trans (binary_result ..)
theorem e_v11 : rd V main_v11 = Host.sqrt (rd V main_v10) := by
  rw [rd_take V 19 (r := main_v10) (by decide +kernel)]
  exact (rd_at V 19 rfl (by decide +kernel)).trans (unary_result ..)
theorem e_v12 : rd V main_v12 = subf (rd V main_arg7) (rd V main_arg2) := by
  rw [rd_take V 20 (r := main_arg7) (by decide +kernel), rd_take V 20 (r := main_arg2) (by decide +kernel)]
  exact (rd_at V 20 rfl (by decide +kernel)).trans (binary_result ..)
theorem e_v13 : rd V main_v13 = Host.absf (rd V main_v12) := by
  rw [rd_take V 21 (r := main_v12) (by decide +kernel)]
  exact (rd_at V 21 rfl (by decide +kernel)).trans (unary_result ..)
theorem e_cst_5 : rd V main_cst_5 = (constant S_ .f32 0x3F800000#32) := by
  exact (rd_at V 22 rfl (by decide +kernel)).trans (nullary_result ..)
theorem e_v14 : rd V main_v14 = broadcastInDim S16384x1 ![] bcast_S_S16384x1 (rd V main_cst_5) := by
  rw [rd_take V 23 (r := main_cst_5) (by decide +kernel)]
  exact (rd_at V 23 rfl (by decide +kernel)).trans (unary_result ..)
theorem e_v15 : rd V main_v15 = addf (rd V main_v11) (rd V main_v14) := by
  rw [rd_take V 24 (r := main_v11) (by decide +kernel), rd_take V 24 (r := main_v14) (by decide +kernel)]
  exact (rd_at V 24 rfl (by decide +kernel)).trans (binary_result ..)
theorem e_v16 : rd V main_v16 = Host.divf (rd V main_v13) (rd V main_v15) := by
  rw [rd_take V 25 (r := main_v13) (by decide +kernel), rd_take V 25 (r := main_v15) (by decide +kernel)]
  exact (rd_at V 25 rfl (by decide +kernel)).trans (binary_result ..)
theorem e_cst_6 : rd V main_cst_6 = (constant S_ .f32 0x40000000#32) := by
  exact (rd_at V 26 rfl (by decide +kernel)).trans (nullary_result ..)
theorem e_v17 : rd V main_v17 = broadcastInDim S16384x1 ![] bcast_S_S16384x1 (rd V main_cst_6) := by
  rw [rd_take V 27 (r := main_cst_6) (by decide +kernel)]
  exact (rd_at V 27 rfl (by decide +kernel)).trans (unary_result ..)
theorem e_v18 : rd V main_v18 = mulf (rd V main_v11) (rd V main_v17) := by
  rw [rd_take V 28 (r := main_v11) (by decide +kernel), rd_take V 28 (r := main_v17) (by decide +kernel)]
  exact (rd_at V 28 rfl (by decide +kernel)).trans (binary_result ..)
theorem e_v19 : rd V main_v19 = Host.absf (rd V main_v16) := by
  rw [rd_take V 29 (r := main_v16) (by decide +kernel)]
  exact (rd_at V 29 rfl (by decide +kernel)).trans (unary_result ..)
theorem e_v20 : rd V main_v20 = cmpf .ole (rd V main_v19) (rd V main_v18) := by
  rw [rd_take V 30 (r := main_v19) (by decide +kernel), rd_take V 30 (r := main_v18) (by decide +kernel)]
  exact (rd_at V 30 rfl (by decide +kernel)).trans (binary_result ..)
theorem e_cst_7 : rd V main_cst_7 = (constant S_ .f32 0x3F000000#32) := by
  exact (rd_at V 31 rfl (by decide +kernel)).trans (nullary_result ..)
theorem e_v21 : rd V main_v21 = broadcastInDim S16384x1 ![] bcast_S_S16384x1 (rd V main_cst_7) := by
  rw [rd_take V 32 (r := main_cst_7) (by decide +kernel)]
  exact (rd_at V 32 rfl (by decide +kernel)).trans (unary_result ..)
theorem e_v22 : rd V main_v22 = mulf (rd V main_v21) (rd V main_v16) := by
  rw [rd_take V 33 (r := main_v21) (by decide +kernel), rd_take V 33 (r := main_v16) (by decide +kernel)]
  exact (rd_at V 33 rfl (by decide +kernel)).trans (binary_result ..)
theorem e_v23 : rd V main_v23 = mulf (rd V main_v22) (rd V main_v16) := by
  rw [rd_take V 34 (r := main_v22) (by decide +kernel), rd_take V 34 (r := main_v16) (by decide +kernel)]
  exact (rd_at V 34 rfl (by decide +kernel)).trans (binary_result ..)
theorem e_cst_8 : rd V main_cst_8 = (constant S_ .f32 0x3F000000#32) := by
  exact (rd_at V 35 rfl (by decide +kernel)).trans (nullary_result ..)
theorem e_v24 : rd V main_v24 = broadcastInDim S16384x1 ![] bcast_S_S16384x1 (rd V main_cst_8) := by
  rw [rd_take V 36 (r := main_cst_8) (by decide +kernel)]
  exact (rd_at V 36 rfl (by decide +kernel)).trans (unary_result ..)
theorem e_v25 : rd V main_v25 = mulf (rd V main_v24) (rd V main_v18) := by
  rw [rd_take V 37 (r := main_v24) (by decide +kernel), rd_take V 37 (r := main_v18) (by decide +kernel)]
  exact (rd_at V 37 rfl (by decide +kernel)).trans (binary_result ..)
theorem e_v26 : rd V main_v26 = subf (rd V main_v19) (rd V main_v25) := by
  rw [rd_take V 38 (r := main_v19) (by decide +kernel), rd_take V 38 (r := main_v25) (by decide +kernel)]
  exact (rd_at V 38 rfl (by decide +kernel)).trans (binary_result ..)
theorem e_v27 : rd V main_v27 = mulf (rd V main_v18) (rd V main_v26) := by
  rw [rd_take V 39 (r := main_v18) (by decide +kernel), rd_take V 39 (r := main_v26) (by decide +kernel)]
  exact (rd_at V 39 rfl (by decide +kernel)).trans (binary_result ..)
theorem e_v28 : rd V main_v28 = select (rd V main_v20) (rd V main_v23) (rd V main_v27) := by
  rw [rd_take V 40 (r := main_v20) (by decide +kernel), rd_take V 40 (r := main_v23) (by decide +kernel), rd_take V 40 (r := main_v27) (by decide +kernel)]
  exact (rd_at V 40 rfl (by decide +kernel)).trans (ternary_result ..)
theorem e_v29 : rd V main_v29 = subf (rd V main_arg8) (rd V main_arg3) := by
  rw [rd_take V 41 (r := main_arg8) (by decide +kernel), rd_take V 41 (r := main_arg3) (by decide +kernel)]
  exact (rd_at V 41 rfl (by decide +kernel)).trans (binary_result ..)
theorem e_v30 : rd V main_v30 = mulf (rd V main_v29) (rd V main_v29) := by
  rw [rd_take V 42 (r := main_v29) (by decide +kernel)]
  exact (rd_at V 42 rfl (by decide +kernel)).trans (binary_result ..)
theorem e_cst_9 : rd V main_cst_9 = (constant S_ .f32 0x00000000#32) := by
  exact (rd_at V 43 rfl (by decide +kernel)).trans (nullary_result ..)
theorem e_v31 : rd V main_v31 = Host.reduceAdd (rd V main_v30) (rd V main_cst_9) reducesTo_S16384x2_S16384_d1 h_S_ := by
  rw [rd_take V 44 (r := main_v30) (by decide +kernel), rd_take V 44 (r := main_cst_9) (by decide +kernel)]
  exact (rd_at V 44 rfl (by decide +kernel)).trans (binary_result ..)
theorem e_v32 : rd V main_v32 = broadcastInDim S16384x1 ![0] bcast_S16384_S16384x1_0 (rd V main_v31) := by
  rw [rd_take V 45 (r := main_v31) (by decide +kernel)]
  exact (rd_at V 45 rfl (by decide +kernel)).trans (unary_result ..)
theorem e_cst_10 : rd V main_cst_10 = (constant S_ .f32 0x42C80000#32) := by
  exact (rd_at V 46 rfl (by decide +kernel)).trans (nullary_result ..)
theorem e_v33 : rd V main_v33 = broadcastInDim S16384x1 ![] bcast_S_S16384x1 (rd V main_cst_10) := by
  rw [rd_take V 47 (r := main_cst_10) (by decide +kernel)]
  exact (rd_at V 47 rfl (by decide +kernel)).trans (unary_result ..)
theorem e_v34 : rd V main_v34 = Host.divf (rd V main_v32) (rd V main_v33) := by
  rw [rd_take V 48 (r := main_v32) (by decide +kernel), rd_take V 48 (r := main_v33) (by decide +kernel)]
  exact (rd_at V 48 rfl (by decide +kernel)).trans (binary_result ..)
theorem e_cst_11 : rd V main_cst_11 = (constant S_ .f32 0x4E6E6B28#32) := by
  exact (rd_at V 49 rfl (by decide +kernel)).trans (nullary_result ..)
theorem e_v35 : rd V main_v35 = broadcastInDim S16384x1 ![] bcast_S_S16384x1 (rd V main_cst_11) := by
  rw [rd_take V 50 (r := main_cst_11) (by decide +kernel)]
  exact (rd_at V 50 rfl (by decide +kernel)).trans (unary_result ..)
theorem e_v36 : rd V main_v36 = mulf (rd V main_arg9) (rd V main_v35) := by
  rw [rd_take V 51 (r := main_arg9) (by decide +kernel), rd_take V 51 (r := main_v35) (by decide +kernel)]
  exact (rd_at V 51 rfl (by decide +kernel)).trans (binary_result ..)
theorem e_v37 : rd V main_v37 = subf (rd V main_v36) (rd V main_arg4) := by
  rw [rd_take V 52 (r := main_v36) (by decide +kernel), rd_take V 52 (r := main_arg4) (by decide +kernel)]
  exact (rd_at V 52 rfl (by decide +kernel)).trans (binary_result ..)
theorem e_v38 : rd V main_v38 = mulf (rd V main_v37) (rd V main_v37) := by
  rw [rd_take V 53 (r := main_v37) (by decide +kernel)]
  exact (rd_at V 53 rfl (by decide +kernel)).trans (binary_result ..)
theorem e_v39 : rd V main_v39 = mulf (rd V main_arg5) (rd V main_arg5) := by
  rw [rd_take V 54 (r := main_arg5) (by decide +kernel)]
  exact (rd_at V 54 rfl (by decide +kernel)).trans (binary_result ..)
theorem e_cst_12 : rd V main_cst_12 = (constant S_ .f32 0x00000000#32) := by
  exact (rd_at V 55 rfl (by decide +kernel)).trans (nullary_result ..)
theorem e_v40 : rd V main_v40 = Host.reduceAdd (rd V main_v39) (rd V main_cst_12) reducesTo_S16384x6_S16384_d1 h_S_ := by
  rw [rd_take V 56 (r := main_v39) (by decide +kernel), rd_take V 56 (r := main_cst_12) (by decide +kernel)]
  exact (rd_at V 56 rfl (by decide +kernel)).trans (binary_result ..)
theorem e_v41 : rd V main_v41 = broadcastInDim S16384x1 ![0] bcast_S16384_S16384x1_0 (rd V main_v40) := by
  rw [rd_take V 57 (r := main_v40) (by decide +kernel)]
  exact (rd_at V 57 rfl (by decide +kernel)).trans (unary_result ..)
theorem e_cst_13 : rd V main_cst_13 = (constant S_ .f32 0x40C00000#32) := by
  exact (rd_at V 58 rfl (by decide +kernel)).trans (nullary_result ..)
theorem e_v42 : rd V main_v42 = broadcastInDim S16384x1 ![] bcast_S_S16384x1 (rd V main_cst_13) := by
  rw [rd_take V 59 (r := main_cst_13) (by decide +kernel)]
  exact (rd_at V 59 rfl (by decide +kernel)).trans (unary_result ..)
theorem e_v43 : rd V main_v43 = Host.divf (rd V main_v41) (rd V main_v42) := by
  rw [rd_take V 60 (r := main_v41) (by decide +kernel), rd_take V 60 (r := main_v42) (by decide +kernel)]
  exact (rd_at V 60 rfl (by decide +kernel)).trans (binary_result ..)
theorem e_cst_14 : rd V main_cst_14 = (constant S_ .f32 0x322BCC77#32) := by
  exact (rd_at V 61 rfl (by decide +kernel)).trans (nullary_result ..)
theorem e_v44 : rd V main_v44 = broadcastInDim S16384x1 ![] bcast_S_S16384x1 (rd V main_cst_14) := by
  rw [rd_take V 62 (r := main_cst_14) (by decide +kernel)]
  exact (rd_at V 62 rfl (by decide +kernel)).trans (unary_result ..)
theorem e_v45 : rd V main_v45 = mulf (rd V main_v44) (rd V main_v43) := by
  rw [rd_take V 63 (r := main_v44) (by decide +kernel), rd_take V 63 (r := main_v43) (by decide +kernel)]
  exact (rd_at V 63 rfl (by decide +kernel)).trans (binary_result ..)
theorem e_v46 : rd V main_v46 = beside (rd V main_v28) (rd V main_v34) (rd V main_v38) (rd V main_v45) := by
  rw [rd_take V 64 (r := main_v28) (by decide +kernel), rd_take V 64 (r := main_v34) (by decide +kernel), rd_take V 64 (r := main_v38) (by decide +kernel), rd_take V 64 (r := main_v45) (by decide +kernel)]
  exact (rd_at V 64 rfl (by decide +kernel)).trans (nary_result ..)
theorem e_v47 : rd V main_v47 = shapeCast S16384 (rd V main_arg6) shapeCasts_S16384x1_S16384 := by
  rw [rd_take V 65 (r := main_arg6) (by decide +kernel)]
  exact (rd_at V 65 rfl (by decide +kernel)).trans (reshape_result ..)
theorem e_v48 : rd V main_v48 = shapeCast S16384 (rd V main_arg0) shapeCasts_S16384x1_S16384 := by
  rw [rd_take V 66 (r := main_arg0) (by decide +kernel)]
  exact (rd_at V 66 rfl (by decide +kernel)).trans (reshape_result ..)
theorem e_cst_15 : rd V main_cst_15 = (constant S_ .f32 0x358637BD#32) := by
  exact (rd_at V 67 rfl (by decide +kernel)).trans (nullary_result ..)
theorem e_cst_16 : rd V main_cst_16 = (constant S_ .f32 0x3F7FF972#32) := by
  exact (rd_at V 68 rfl (by decide +kernel)).trans (nullary_result ..)
theorem e_call2_v0 : rd V main_call2_v0 = id (rd V main_cst_15) := by
  rw [rd_take V 69 (r := main_cst_15) (by decide +kernel)]
  exact (rd_at V 69 rfl (by decide +kernel)).trans (unary_result ..)
theorem e_call2_v1 : rd V main_call2_v1 = (broadcastInDim S16384 ![] bcast_S_S16384) (rd V main_call2_v0) := by
  rw [rd_take V 70 (r := main_call2_v0) (by decide +kernel)]
  exact (rd_at V 70 rfl (by decide +kernel)).trans (unary_result ..)
theorem e_call2_v2 : rd V main_call2_v2 = maximumf (rd V main_call2_v1) (rd V main_v48) := by
  rw [rd_take V 71 (r := main_call2_v1) (by decide +kernel), rd_take V 71 (r := main_v48) (by decide +kernel)]
  exact (rd_at V 71 rfl (by decide +kernel)).trans (binary_result ..)
theorem e_call2_v3 : rd V main_call2_v3 = id (rd V main_cst_16) := by
  rw [rd_take V 72 (r := main_cst_16) (by decide +kernel)]
  exact (rd_at V 72 rfl (by decide +kernel)).trans (unary_result ..)
theorem e_call2_v4 : rd V main_call2_v4 = (broadcastInDim S16384 ![] bcast_S_S16384) (rd V main_call2_v3) := by
  rw [rd_take V 73 (r := main_call2_v3) (by decide +kernel)]
  exact (rd_at V 73 rfl (by decide +kernel)).trans (unary_result ..)
theorem e_v49 : rd V main_v49 = minimumf (rd V main_call2_v4) (rd V main_call2_v2) := by
  rw [rd_take V 74 (r := main_call2_v4) (by decide +kernel), rd_take V 74 (r := main_call2_v2) (by decide +kernel)]
  exact (rd_at V 74 rfl (by decide +kernel)).trans (binary_result ..)
theorem e_v50 : rd V main_v50 = Host.atanh (rd V main_v49) := by
  rw [rd_take V 75 (r := main_v49) (by decide +kernel)]
  exact (rd_at V 75 rfl (by decide +kernel)).trans (unary_result ..)
theorem e_v51 : rd V main_v51 = mulf (rd V main_v50) (rd V main_v50) := by
  rw [rd_take V 76 (r := main_v50) (by decide +kernel)]
  exact (rd_at V 76 rfl (by decide +kernel)).trans (binary_result ..)
theorem e_cst_17 : rd V main_cst_17 = (constant S_ .f32 0x3F000000#32) := by
  exact (rd_at V 77 rfl (by decide +kernel)).trans (nullary_result ..)
theorem e_v52 : rd V main_v52 = broadcastInDim S16384 ![] bcast_S_S16384 (rd V main_cst_17) := by
  rw [rd_take V 78 (r := main_cst_17) (by decide +kernel)]
  exact (rd_at V 78 rfl (by decide +kernel)).trans (unary_result ..)
theorem e_v53 : rd V main_v53 = addf (rd V main_v51) (rd V main_v52) := by
  rw [rd_take V 79 (r := main_v51) (by decide +kernel), rd_take V 79 (r := main_v52) (by decide +kernel)]
  exact (rd_at V 79 rfl (by decide +kernel)).trans (binary_result ..)
theorem e_v54 : rd V main_v54 = broadcastInDim S1x3 ![1] bcast_S3_S1x3_1 (rd V main_arg11) := by
  rw [rd_take V 80 (r := main_arg11) (by decide +kernel)]
  exact (rd_at V 80 rfl (by decide +kernel)).trans (unary_result ..)
theorem e_v55 : rd V main_v55 = (iotaInDim S16384 32 0) := by
  exact (rd_at V 81 rfl (by decide +kernel)).trans (nullary_result ..)
theorem e_v56 : rd V main_v56 = broadcastInDim S16384x1 ![0] bcast_S16384_S16384x1_0 (rd V main_v55) := by
  rw [rd_take V 82 (r := main_v55) (by decide +kernel)]
  exact (rd_at V 82 rfl (by decide +kernel)).trans (unary_result ..)
theorem e_v57 : rd V main_v57 = broadcastInDim S16384x3 ![0, 1] bcast_S1x3_S16384x3_0_1 (rd V main_v54) := by
  rw [rd_take V 83 (r := main_v54) (by decide +kernel)]
  exact (rd_at V 83 rfl (by decide +kernel)).trans (unary_result ..)
theorem e_v58 : rd V main_v58 = broadcastInDim S16384x3 ![0, 1] bcast_S16384x1_S16384x3_0_1 (rd V main_v56) := by
  rw [rd_take V 84 (r := main_v56) (by decide +kernel)]
  exact (rd_at V 84 rfl (by decide +kernel)).trans (unary_result ..)
theorem e_v59 : rd V main_v59 = cmpi .sle (rd V main_v57) (rd V main_v58) := by
  rw [rd_take V 85 (r := main_v57) (by decide +kernel), rd_take V 85 (r := main_v58) (by decide +kernel)]
  exact (rd_at V 85 rfl (by decide +kernel)).trans (binary_result ..)
theorem e_v60 : rd V main_v60 = (extui 32 (rd V main_v59) natLt_1_32) := by
  rw [rd_take V 86 (r := main_v59) (by decide +kernel)]
  exact (rd_at V 86 rfl (by decide +kernel)).trans (unary_result ..)
theorem e_c : rd V main_c = (constantI S_ 32 0#32) := by
  exact (rd_at V 87 rfl (by decide +kernel)).trans (nullary_result ..)
theorem e_v61 : rd V main_v61 = Host.reduce IntOp.addi (rd V main_v60) (rd V main_c) reducesTo_S16384x3_S16384_d1 h_S_ := by
  rw [rd_take V 88 (r := main_v60) (by decide +kernel), rd_take V 88 (r := main_c) (by decide +kernel)]
  exact (rd_at V 88 rfl (by decide +kernel)).trans (binary_result ..)
theorem e_c_18 : rd V main_c_18 = (constantI S_ 32 1#32) := by
  exact (rd_at V 89 rfl (by decide +kernel)).trans (nullary_result ..)
theorem e_v62 : rd V main_v62 = broadcastInDim S16384 ![] bcast_S_S16384 (rd V main_c_18) := by
  rw [rd_take V 90 (r := main_c_18) (by decide +kernel)]
  exact (rd_at V 90 rfl (by decide +kernel)).trans (unary_result ..)
theorem e_v63 : rd V main_v63 = subi (rd V main_v61) (rd V main_v62) := by
  rw [rd_take V 91 (r := main_v61) (by decide +kernel), rd_take V 91 (r := main_v62) (by decide +kernel)]
  exact (rd_at V 91 rfl (by decide +kernel)).trans (binary_result ..)
theorem e_c_19 : rd V main_c_19 = (constantI S_ 32 0#32) := by
  exact (rd_at V 92 rfl (by decide +kernel)).trans (nullary_result ..)
theorem e_v64 : rd V main_v64 = broadcastInDim S16384 ![] bcast_S_S16384 (rd V main_c_19) := by
  rw [rd_take V 93 (r := main_c_19) (by decide +kernel)]
  exact (rd_at V 93 rfl (by decide +kernel)).trans (unary_result ..)
theorem e_v65 : rd V main_v65 = cmpi .sge (rd V main_v47) (rd V main_v64) := by
  rw [rd_take V 94 (r := main_v47) (by decide +kernel), rd_take V 94 (r := main_v64) (by decide +kernel)]
  exact (rd_at V 94 rfl (by decide +kernel)).trans (binary_result ..)
theorem e_c_20 : rd V main_c_20 = (constantI S_ 32 256#32) := by
  exact (rd_at V 95 rfl (by decide +kernel)).trans (nullary_result ..)
theorem e_v66 : rd V main_v66 = broadcastInDim S16384 ![] bcast_S_S16384 (rd V main_c_20) := by
  rw [rd_take V 96 (r := main_c_20) (by decide +kernel)]
  exact (rd_at V 96 rfl (by decide +kernel)).trans (unary_result ..)
theorem e_v67 : rd V main_v67 = muli (rd V main_v63) (rd V main_v66) := by
  rw [rd_take V 97 (r := main_v63) (by decide +kernel), rd_take V 97 (r := main_v66) (by decide +kernel)]
  exact (rd_at V 97 rfl (by decide +kernel)).trans (binary_result ..)
theorem e_v68 : rd V main_v68 = addi (rd V main_v47) (rd V main_v67) := by
  rw [rd_take V 98 (r := main_v47) (by decide +kernel), rd_take V 98 (r := main_v67) (by decide +kernel)]
  exact (rd_at V 98 rfl (by decide +kernel)).trans (binary_result ..)
theorem e_c_21 : rd V main_c_21 = (constantI S_ 32 4294967295#32) := by
  exact (rd_at V 99 rfl (by decide +kernel)).trans (nullary_result ..)
theorem e_call3_v0 : rd V main_call3_v0 = id (rd V main_c_21) := by
  rw [rd_take V 100 (r := main_c_21) (by decide +kernel)]
  exact (rd_at V 100 rfl (by decide +kernel)).trans (unary_result ..)
theorem e_call3_v1 : rd V main_call3_v1 = (broadcastInDim S16384 ![] bcast_S_S16384) (rd V main_call3_v0) := by
  rw [rd_take V 101 (r := main_call3_v0) (by decide +kernel)]
  exact (rd_at V 101 rfl (by decide +kernel)).trans (unary_result ..)
theorem e_v69 : rd V main_v69 = select (rd V main_v65) (rd V main_v68) (rd V main_call3_v1) := by
  rw [rd_take V 102 (r := main_v65) (by decide +kernel), rd_take V 102 (r := main_v68) (by decide +kernel), rd_take V 102 (r := main_call3_v1) (by decide +kernel)]
  refine (rd_at V 102 rfl (by decide +kernel)).trans ((ternary_result ..).trans ?_)
  simp only [TRef.toBuf, TRef.ofBuf, cast_eq]
theorem e_call4_v0 : rd V main_call4_v0 = (broadcastInDim S16384x1 ![0] bcast_S16384_S16384x1_0) (rd V main_v69) := by
  rw [rd_take V 103 (r := main_v69) (by decide +kernel)]
  exact (rd_at V 103 rfl (by decide +kernel)).trans (unary_result ..)
theorem e_call4_v1 : rd V main_call4_v1 = (iotaInDim S1x512 32 1) := by
  exact (rd_at V 104 rfl (by decide +kernel)).trans (nullary_result ..)
theorem e_call4_v2 : rd V main_call4_v2 = (broadcastInDim S16384x512 ![0, 1] bcast_S16384x1_S16384x512_0_1) (rd V main_call4_v0) := by
  rw [rd_take V 105 (r := main_call4_v0) (by decide +kernel)]
  exact (rd_at V 105 rfl (by decide +kernel)).trans (unary_result ..)
theorem e_call4_v3 : rd V main_call4_v3 = (broadcastInDim S16384x512 ![0, 1] bcast_S1x512_S16384x512_0_1) (rd V main_call4_v1) := by
  rw [rd_take V 106 (r := main_call4_v1) (by decide +kernel)]
  exact (rd_at V 106 rfl (by decide +kernel)).trans (unary_result ..)
theorem e_call4_v4 : rd V main_call4_v4 = (cmpi .eq) (rd V main_call4_v2) (rd V main_call4_v3) := by
  rw [rd_take V 107 (r := main_call4_v2) (by decide +kernel), rd_take V 107 (r := main_call4_v3) (by decide +kernel)]
  refine (rd_at V 107 rfl (by decide +kernel)).trans ((binary_result ..).trans ?_)
  simp only [TRef.toBuf, TRef.ofBuf, cast_eq]
theorem e_v70 : rd V main_v70 = (uitofp .f32) (rd V main_call4_v4) := by
  rw [rd_take V 108 (r := main_call4_v4) (by decide +kernel)]
  exact (rd_at V 108 rfl (by decide +kernel)).trans (unary_result ..)
theorem e_cst_22 : rd V main_cst_22 = (constant S_ .f32 0x00000000#32) := by
  exact (rd_at V 109 rfl (by decide +kernel)).trans (nullary_result ..)
theorem e_v71 : rd V main_v71 = Host.reduceAdd (rd V main_v70) (rd V main_cst_22) reducesTo_S16384x512_S512_d0 h_S_ := by
  rw [rd_take V 110 (r := main_v70) (by decide +kernel), rd_take V 110 (r := main_cst_22) (by decide +kernel)]
  exact (rd_at V 110 rfl (by decide +kernel)).trans (binary_result ..)
theorem e_cst_23 : rd V main_cst_23 = (constant S_ .f32 0x00000000#32) := by
  exact (rd_at V 111 rfl (by decide +kernel)).trans (nullary_result ..)
theorem e_v72 : rd V main_v72 = broadcastInDim S512 ![] bcast_S_S512 (rd V main_cst_23) := by
  rw [rd_take V 112 (r := main_cst_23) (by decide +kernel)]
  exact (rd_at V 112 rfl (by decide +kernel)).trans (unary_result ..)
theorem e_v73 : rd V main_v73 = cmpf .ogt (rd V main_v71) (rd V main_v72) := by
  rw [rd_take V 113 (r := main_v71) (by decide +kernel), rd_take V 113 (r := main_v72) (by decide +kernel)]
  exact (rd_at V 113 rfl (by decide +kernel)).trans (binary_result ..)
theorem e_v74 : rd V main_v74 = uitofp .f32 (rd V main_v73) := by
  rw [rd_take V 114 (r := main_v73) (by decide +kernel)]
  exact (rd_at V 114 rfl (by decide +kernel)).trans (unary_result ..)
theorem e_v75 : rd V main_v75 = broadcastInDim S16384x1 ![0] bcast_S16384_S16384x1_0 (rd V main_v49) := by
  rw [rd_take V 115 (r := main_v49) (by decide +kernel)]
  exact (rd_at V 115 rfl (by decide +kernel)).trans (unary_result ..)
theorem e_v76 : rd V main_v76 = broadcastInDim S16384x512 ![0, 1] bcast_S16384x1_S16384x512_0_1 (rd V main_v75) := by
  rw [rd_take V 116 (r := main_v75) (by decide +kernel)]
  exact (rd_at V 116 rfl (by decide +kernel)).trans (unary_result ..)
theorem e_v77 : rd V main_v77 = mulf (rd V main_v76) (rd V main_v70) := by
  rw [rd_take V 117 (r := main_v76) (by decide +kernel), rd_take V 117 (r := main_v70) (by decide +kernel)]
  exact (rd_at V 117 rfl (by decide +kernel)).trans (binary_result ..)
theorem e_cst_24 : rd V main_cst_24 = (constant S_ .f32 0x3F800000#32) := by
  exact (rd_at V 118 rfl (by decide +kernel)).trans (nullary_result ..)
theorem e_v78 : rd V main_v78 = broadcastInDim S16384x512 ![] bcast_S_S16384x512 (rd V main_cst_24) := by
  rw [rd_take V 119 (r := main_cst_24) (by decide +kernel)]
  exact (rd_at V 119 rfl (by decide +kernel)).trans (unary_result ..)
theorem e_v79 : rd V main_v79 = subf (rd V main_v78) (rd V main_v70) := by
  rw [rd_take V 120 (r := main_v78) (by decide +kernel), rd_take V 120 (r := main_v70) (by decide +kernel)]
  exact (rd_at V 120 rfl (by decide +kernel)).trans (binary_result ..)
theorem e_cst_25 : rd V main_cst_25 = (constant S_ .f32 0x4E6E6B28#32) := by
  exact (rd_at V 121 rfl (by decide +kernel)).trans (nullary_result ..)
theorem e_v80 : rd V main_v80 = broadcastInDim S16384x512 ![] bcast_S_S16384x512 (rd V main_cst_25) := by
  rw [rd_take V 122 (r := main_cst_25) (by decide +kernel)]
  exact (rd_at V 122 rfl (by decide +kernel)).trans (unary_result ..)
theorem e_v81 : rd V main_v81 = mulf (rd V main_v80) (rd V main_v79) := by
  rw [rd_take V 123 (r := main_v80) (by decide +kernel), rd_take V 123 (r := main_v79) (by decide +kernel)]
  exact (rd_at V 123 rfl (by decide +kernel)).trans (binary_result ..)
theorem e_v82 : rd V main_v82 = subf (rd V main_v77) (rd V main_v81) := by
  rw [rd_take V 124 (r := main_v77) (by decide +kernel), rd_take V 124 (r := main_v81) (by decide +kernel)]
  exact (rd_at V 124 rfl (by decide +kernel)).trans (binary_result ..)
theorem e_call5_v0 : rd V main_call5_v0 = (iotaInDim S16384x512 32 0) := by
  exact (rd_at V 125 rfl (by decide +kernel)).trans (nullary_result ..)
theorem e_call5_cst : rd V main_call5_cst = (constant S_ .f32 0xFF800000#32) := by
  exact (rd_at V 126 rfl (by decide +kernel)).trans (nullary_result ..)
theorem e_call5_c : rd V main_call5_c = (constantI S_ 32 0#32) := by
  exact (rd_at V 127 rfl (by decide +kernel)).trans (nullary_result ..)
theorem e_call5_v1_0 : rd V main_call5_v1_0 = fun j => (Host.argReduce reducer_argmax_f32_i32 (rd V main_v82) (rd V main_call5_v0) (rd V main_call5_cst) (rd V main_call5_c) reducesTo_S16384x512_S512_d0 h_S_ j).1 := by
  rw [rd_take V 128 (r := main_v82) (by decide +kernel), rd_take V 128 (r := main_call5_v0) (by decide +kernel), rd_take V 128 (r := main_call5_cst) (by decide +kernel), rd_take V 128 (r := main_call5_c) (by decide +kernel)]
  exact (rd_at V 128 rfl (by decide +kernel)).trans (quaternary_result ..)
theorem e_v83 : rd V main_v83 = fun j => (Host.argReduce reducer_argmax_f32_i32 (rd V main_v82) (rd V main_call5_v0) (rd V main_call5_cst) (rd V main_call5_c) reducesTo_S16384x512_S512_d0 h_S_ j).2 := by
  rw [rd_take V 129 (r := main_v82) (by decide +kernel), rd_take V 129 (r := main_call5_v0) (by decide +kernel), rd_take V 129 (r := main_call5_cst) (by decide +kernel), rd_take V 129 (r := main_call5_c) (by decide +kernel)]
  exact (rd_at V 129 rfl (by decide +kernel)).trans (quaternary_result ..)
theorem e_c_26 : rd V main_c_26 = (constantI S_ 32 0#32) := by
  exact (rd_at V 130 rfl (by decide +kernel)).trans (nullary_result ..)
theorem e_v84 : rd V main_v84 = broadcastInDim S512 ![] bcast_S_S512 (rd V main_c_26) := by
  rw [rd_take V 131 (r := main_c_26) (by decide +kernel)]
  exact (rd_at V 131 rfl (by decide +kernel)).trans (unary_result ..)
theorem e_v85 : rd V main_v85 = cmpi .slt (rd V main_v83) (rd V main_v84) := by
  rw [rd_take V 132 (r := main_v83) (by decide +kernel), rd_take V 132 (r := main_v84) (by decide +kernel)]
  exact (rd_at V 132 rfl (by decide +kernel)).trans (binary_result ..)
theorem e_c_27 : rd V main_c_27 = (constantI S_ 32 16384#32) := by
  exact (rd_at V 133 rfl (by decide +kernel)).trans (nullary_result ..)
theorem e_v86 : rd V main_v86 = broadcastInDim S512 ![] bcast_S_S512 (rd V main_c_27) := by
  rw [rd_take V 134 (r := main_c_27) (by decide +kernel)]
  exact (rd_at V 134 rfl (by decide +kernel)).trans (unary_result ..)
theorem e_v87 : rd V main_v87 = addi (rd V main_v83) (rd V main_v86) := by
  rw [rd_take V 135 (r := main_v83) (by decide +kernel), rd_take V 135 (r := main_v86) (by decide +kernel)]
  exact (rd_at V 135 rfl (by decide +kernel)).trans (binary_result ..)
theorem e_v88 : rd V main_v88 = select (rd V main_v85) (rd V main_v87) (rd V main_v83) := by
  rw [rd_take V 136 (r := main_v85) (by decide +kernel), rd_take V 136 (r := main_v87) (by decide +kernel), rd_take V 136 (r := main_v83) (by decide +kernel)]
  exact (rd_at V 136 rfl (by decide +kernel)).trans (ternary_result ..)
theorem e_v89 : rd V main_v89 = broadcastInDim S512x1 ![0] bcast_S512_S512x1_0 (rd V main_v88) := by
  rw [rd_take V 137 (r := main_v88) (by decide +kernel)]
  exact (rd_at V 137 rfl (by decide +kernel)).trans (unary_result ..)
theorem e_v90 : rd V main_v90 = Host.gather gather_S16384x2_S512x1_S512x2_1_0_n_n_0_1_12 (rd V main_arg1) (rd V main_v89) := by
  rw [rd_take V 138 (r := main_arg1) (by decide +kernel), rd_take V 138 (r := main_v89) (by decide +kernel)]
  exact (rd_at V 138 rfl (by decide +kernel)).trans (binary_result ..)
theorem e_c_28 : rd V main_c_28 = (constantI S_ 32 0#32) := by
  exact (rd_at V 139 rfl (by decide +kernel)).trans (nullary_result ..)
theorem e_v91 : rd V main_v91 = broadcastInDim S512 ![] bcast_S_S512 (rd V main_c_28) := by
  rw [rd_take V 140 (r := main_c_28) (by decide +kernel)]
  exact (rd_at V 140 rfl (by decide +kernel)).trans (unary_result ..)
theorem e_v92 : rd V main_v92 = cmpi .slt (rd V main_v83) (rd V main_v91) := by
  rw [rd_take V 141 (r := main_v83) (by decide +kernel), rd_take V 141 (r := main_v91) (by decide +kernel)]
  exact (rd_at V 141 rfl (by decide +kernel)).trans (binary_result ..)
theorem e_c_29 : rd V main_c_29 = (constantI S_ 32 16384#32) := by
  exact (rd_at V 142 rfl (by decide +kernel)).trans (nullary_result ..)
theorem e_v93 : rd V main_v93 = broadcastInDim S512 ![] bcast_S_S512 (rd V main_c_29) := by
  rw [rd_take V 143 (r := main_c_29) (by decide +kernel)]
  exact (rd_at V 143 rfl (by decide +kernel)).trans (unary_result ..)
theorem e_v94 : rd V main_v94 = addi (rd V main_v83) (rd V main_v93) := by
  rw [rd_take V 144 (r := main_v83) (by decide +kernel), rd_take V 144 (r := main_v93) (by decide +kernel)]
  exact (rd_at V 144 rfl (by decide +kernel)).trans (binary_result ..)
theorem e_v95 : rd V main_v95 = select (rd V main_v92) (rd V main_v94) (rd V main_v83) := by
  rw [rd_take V 145 (r := main_v92) (by decide +kernel), rd_take V 145 (r := main_v94) (by decide +kernel), rd_take V 145 (r := main_v83) (by decide +kernel)]
  exact (rd_at V 145 rfl (by decide +kernel)).trans (ternary_result ..)
theorem e_v96 : rd V main_v96 = broadcastInDim S512x1 ![0] bcast_S512_S512x1_0 (rd V main_v95) := by
  rw [rd_take V 146 (r := main_v95) (by decide +kernel)]
  exact (rd_at V 146 rfl (by decide +kernel)).trans (unary_result ..)
theorem e_v97 : rd V main_v97 = Host.gather gather_S16384_S512x1_S512_n_0_n_n_0_1_1 (rd V main_v53) (rd V main_v96) := by
  rw [rd_take V 147 (r := main_v53) (by decide +kernel), rd_take V 147 (r := main_v96) (by decide +kernel)]
  exact (rd_at V 147 rfl (by decide +kernel)).trans (binary_result ..)
theorem e_c_30 : rd V main_c_30 = (constantI S_ 32 0#32) := by
  exact (rd_at V 148 rfl (by decide +kernel)).trans (nullary_result ..)
theorem e_v98 : rd V main_v98 = broadcastInDim S512 ![] bcast_S_S512 (rd V main_c_30) := by
  rw [rd_take V 149 (r := main_c_30) (by decide +kernel)]
  exact (rd_at V 149 rfl (by decide +kernel)).trans (unary_result ..)
theorem e_v99 : rd V main_v99 = cmpi .slt (rd V main_v83) (rd V main_v98) := by
  rw [rd_take V 150 (r := main_v83) (by decide +kernel), rd_take V 150 (r := main_v98) (by decide +kernel)]
  exact (rd_at V 150 rfl (by decide +kernel)).trans (binary_result ..)
theorem e_c_31 : rd V main_c_31 = (constantI S_ 32 16384#32) := by
  exact (rd_at V 151 rfl (by decide +kernel)).trans (nullary_result ..)
theorem e_v100 : rd V main_v100 = broadcastInDim S512 ![] bcast_S_S512 (rd V main_c_31) := by
  rw [rd_take V 152 (r := main_c_31) (by decide +kernel)]
  exact (rd_at V 152 rfl (by decide +kernel)).trans (unary_result ..)
theorem e_v101 : rd V main_v101 = addi (rd V main_v83) (rd V main_v100) := by
  rw [rd_take V 153 (r := main_v83) (by decide +kernel), rd_take V 153 (r := main_v100) (by decide +kernel)]
  exact (rd_at V 153 rfl (by decide +kernel)).trans (binary_result ..)
theorem e_v102 : rd V main_v102 = select (rd V main_v99) (rd V main_v101) (rd V main_v83) := by
  rw [rd_take V 154 (r := main_v99) (by decide +kernel), rd_take V 154 (r := main_v101) (by decide +kernel), rd_take V 154 (r := main_v83) (by decide +kernel)]
  exact (rd_at V 154 rfl (by decide +kernel)).trans (ternary_result ..)
theorem e_v103 : rd V main_v103 = broadcastInDim S512x1 ![0] bcast_S512_S512x1_0 (rd V main_v102) := by
  rw [rd_take V 155 (r := main_v102) (by decide +kernel)]
  exact (rd_at V 155 rfl (by decide +kernel)).trans (unary_result ..)
theorem e_v104 : rd V main_v104 = Host.gather gather_S16384_S512x1_S512_n_0_n_n_0_1_1 (rd V main_v49) (rd V main_v103) := by
  rw [rd_take V 156 (r := main_v49) (by decide +kernel), rd_take V 156 (r := main_v103) (by decide +kernel)]
  exact (rd_at V 156 rfl (by decide +kernel)).trans (binary_result ..)
theorem e_c_32 : rd V main_c_32 = (constantI S_ 32 0#32) := by
  exact (rd_at V 157 rfl (by decide +kernel)).trans (nullary_result ..)
theorem e_v105 : rd V main_v105 = broadcastInDim S512 ![] bcast_S_S512 (rd V main_c_32) := by
  rw [rd_take V 158 (r := main_c_32) (by decide +kernel)]
  exact (rd_at V 158 rfl (by decide +kernel)).trans (unary_result ..)
theorem e_v106 : rd V main_v106 = cmpi .slt (rd V main_v83) (rd V main_v105) := by
  rw [rd_take V 159 (r := main_v83) (by decide +kernel), rd_take V 159 (r := main_v105) (by decide +kernel)]
  exact (rd_at V 159 rfl (by decide +kernel)).trans (binary_result ..)
theorem e_c_33 : rd V main_c_33 = (constantI S_ 32 16384#32) := by
  exact (rd_at V 160 rfl (by decide +kernel)).trans (nullary_result ..)
theorem e_v107 : rd V main_v107 = broadcastInDim S512 ![] bcast_S_S512 (rd V main_c_33) := by
  rw [rd_take V 161 (r := main_c_33) (by decide +kernel)]
  exact (rd_at V 161 rfl (by decide +kernel)).trans (unary_result ..)
theorem e_v108 : rd V main_v108 = addi (rd V main_v83) (rd V main_v107) := by
  rw [rd_take V 162 (r := main_v83) (by decide +kernel), rd_take V 162 (r := main_v107) (by decide +kernel)]
  exact (rd_at V 162 rfl (by decide +kernel)).trans (binary_result ..)
theorem e_v109 : rd V main_v109 = select (rd V main_v106) (rd V main_v108) (rd V main_v83) := by
  rw [rd_take V 163 (r := main_v106) (by decide +kernel), rd_take V 163 (r := main_v108) (by decide +kernel), rd_take V 163 (r := main_v83) (by decide +kernel)]
  exact (rd_at V 163 rfl (by decide +kernel)).trans (ternary_result ..)
theorem e_v110 : rd V main_v110 = broadcastInDim S512x1 ![0] bcast_S512_S512x1_0 (rd V main_v109) := by
  rw [rd_take V 164 (r := main_v109) (by decide +kernel)]
  exact (rd_at V 164 rfl (by decide +kernel)).trans (unary_result ..)
theorem e_v111 : rd V main_v111 = Host.gather gather_S16384_S512x1_S512_n_0_n_n_0_1_1 (rd V main_v63) (rd V main_v110) := by
  rw [rd_take V 165 (r := main_v63) (by decide +kernel), rd_take V 165 (r := main_v110) (by decide +kernel)]
  exact (rd_at V 165 rfl (by decide +kernel)).trans (binary_result ..)
theorem e_v112 : rd V main_v112 = broadcastInDim S16384x1 ![0] bcast_S16384_S16384x1_0 (rd V main_v63) := by
  rw [rd_take V 166 (r := main_v63) (by decide +kernel)]
  exact (rd_at V 166 rfl (by decide +kernel)).trans (unary_result ..)
theorem e_v113 : rd V main_v113 = broadcastInDim S1x512 ![1] bcast_S512_S1x512_1 (rd V main_v111) := by
  rw [rd_take V 167 (r := main_v111) (by decide +kernel)]
  exact (rd_at V 167 rfl (by decide +kernel)).trans (unary_result ..)
theorem e_v114 : rd V main_v114 = broadcastInDim S16384x512 ![0, 1] bcast_S16384x1_S16384x512_0_1 (rd V main_v112) := by
  rw [rd_take V 168 (r := main_v112) (by decide +kernel)]
  exact (rd_at V 168 rfl (by decide +kernel)).trans (unary_result ..)
theorem e_v115 : rd V main_v115 = broadcastInDim S16384x512 ![0, 1] bcast_S1x512_S16384x512_0_1 (rd V main_v113) := by
  rw [rd_take V 169 (r := main_v113) (by decide +kernel)]
  exact (rd_at V 169 rfl (by decide +kernel)).trans (unary_result ..)
theorem e_v116 : rd V main_v116 = cmpi .eq (rd V main_v114) (rd V main_v115) := by
  rw [rd_take V 170 (r := main_v114) (by decide +kernel), rd_take V 170 (r := main_v115) (by decide +kernel)]
  exact (rd_at V 170 rfl (by decide +kernel)).trans (binary_result ..)
theorem e_v117 : rd V main_v117 = uitofp .f32 (rd V main_v116) := by
  rw [rd_take V 171 (r := main_v116) (by decide +kernel)]
  exact (rd_at V 171 rfl (by decide +kernel)).trans (unary_result ..)
theorem e_v118 : rd V main_v118 = broadcastInDim S16384x1x2 ![0, 2] bcast_S16384x2_S16384x1x2_0_2 (rd V main_arg1) := by
  rw [rd_take V 172 (r := main_arg1) (by decide +kernel)]
  exact (rd_at V 172 rfl (by decide +kernel)).trans (unary_result ..)
theorem e_v119 : rd V main_v119 = broadcastInDim S1x512x2 ![1, 2] bcast_S512x2_S1x512x2_1_2 (rd V main_v90) := by
  rw [rd_take V 173 (r := main_v90) (by decide +kernel)]
  exact (rd_at V 173 rfl (by decide +kernel)).trans (unary_result ..)
theorem e_v120 : rd V main_v120 = broadcastInDim S16384x512x2 ![0, 1, 2] bcast_S16384x1x2_S16384x512x2_0_1_2 (rd V main_v118) := by
  rw [rd_take V 174 (r := main_v118) (by decide +kernel)]
  exact (rd_at V 174 rfl (by decide +kernel)).trans (unary_result ..)
theorem e_v121 : rd V main_v121 = broadcastInDim S16384x512x2 ![0, 1, 2] bcast_S1x512x2_S16384x512x2_0_1_2 (rd V main_v119) := by
  rw [rd_take V 175 (r := main_v119) (by decide +kernel)]
  exact (rd_at V 175 rfl (by decide +kernel)).trans (unary_result ..)
theorem e_v122 : rd V main_v122 = subf (rd V main_v120) (rd V main_v121) := by
  rw [rd_take V 176 (r := main_v120) (by decide +kernel), rd_take V 176 (r := main_v121) (by decide +kernel)]
  exact (rd_at V 176 rfl (by decide +kernel)).trans (binary_result ..)
theorem e_v123 : rd V main_v123 = mulf (rd V main_v122) (rd V main_v122) := by
  rw [rd_take V 177 (r := main_v122) (by decide +kernel)]
  exact (rd_at V 177 rfl (by decide +kernel)).trans (binary_result ..)
theorem e_cst_34 : rd V main_cst_34 = (constant S_ .f32 0x00000000#32) := by
  exact (rd_at V 178 rfl (by decide +kernel)).trans (nullary_result ..)
theorem e_v124 : rd V main_v124 = Host.reduceAdd (rd V main_v123) (rd V main_cst_34) reducesTo_S16384x512x2_S16384x512_d2 h_S_ := by
  rw [rd_take V 179 (r := main_v123) (by decide +kernel), rd_take V 179 (r := main_cst_34) (by decide +kernel)]
  exact (rd_at V 179 rfl (by decide +kernel)).trans (binary_result ..)
theorem e_cst_35 : rd V main_cst_35 = (constant S_ .f32 0x3089705F#32) := by
  exact (rd_at V 180 rfl (by decide +kernel)).trans (nullary_result ..)
theorem e_v125 : rd V main_v125 = broadcastInDim S16384x512 ![] bcast_S_S16384x512 (rd V main_cst_35) := by
  rw [rd_take V 181 (r := main_cst_35) (by decide +kernel)]
  exact (rd_at V 181 rfl (by decide +kernel)).trans (unary_result ..)
theorem e_v126 : rd V main_v126 = addf (rd V main_v124) (rd V main_v125) := by
  rw [rd_take V 182 (r := main_v124) (by decide +kernel), rd_take V 182 (r := main_v125) (by decide +kernel)]
  exact (rd_at V 182 rfl (by decide +kernel)).trans (binary_result ..)
theorem e_v127 : rd V main_v127 = Host.sqrt (rd V main_v126) := by
  rw [rd_take V 183 (r := main_v126) (by decide +kernel)]
  exact (rd_at V 183 rfl (by decide +kernel)).trans (unary_result ..)
theorem e_v128 : rd V main_v128 = broadcastInDim S16384x1 ![0] bcast_S16384_S16384x1_0 (rd V main_v53) := by
  rw [rd_take V 184 (r := main_v53) (by decide +kernel)]
  exact (rd_at V 184 rfl (by decide +kernel)).trans (unary_result ..)
theorem e_v129 : rd V main_v129 = broadcastInDim S1x512 ![1] bcast_S512_S1x512_1 (rd V main_v97) := by
  rw [rd_take V 185 (r := main_v97) (by decide +kernel)]
  exact (rd_at V 185 rfl (by decide +kernel)).trans (unary_result ..)
theorem e_v130 : rd V main_v130 = broadcastInDim S16384x512 ![0, 1] bcast_S16384x1_S16384x512_0_1 (rd V main_v128) := by
  rw [rd_take V 186 (r := main_v128) (by decide +kernel)]
  exact (rd_at V 186 rfl (by decide +kernel)).trans (unary_result ..)
theorem e_v131 : rd V main_v131 = broadcastInDim S16384x512 ![0, 1] bcast_S1x512_S16384x512_0_1 (rd V main_v129) := by
  rw [rd_take V 187 (r := main_v129) (by decide +kernel)]
  exact (rd_at V 187 rfl (by decide +kernel)).trans (unary_result ..)
theorem e_v132 : rd V main_v132 = mulf (rd V main_v130) (rd V main_v131) := by
  rw [rd_take V 188 (r := main_v130) (by decide +kernel), rd_take V 188 (r := main_v131) (by decide +kernel)]
  exact (rd_at V 188 rfl (by decide +kernel)).trans (binary_result ..)
theorem e_v133 : rd V main_v133 = mulf (rd V main_v70) (rd V main_v132) := by
  rw [rd_take V 189 (r := main_v70) (by decide +kernel), rd_take V 189 (r := main_v132) (by decide +kernel)]
  exact (rd_at V 189 rfl (by decide +kernel)).trans (binary_result ..)
theorem e_v134 : rd V main_v134 = mulf (rd V main_v133) (rd V main_v124) := by
  rw [rd_take V 190 (r := main_v133) (by decide +kernel), rd_take V 190 (r := main_v124) (by decide +kernel)]
  exact (rd_at V 190 rfl (by decide +kernel)).trans (binary_result ..)
theorem e_v135 : rd V main_v135 = broadcastInDim S1x512 ![1] bcast_S512_S1x512_1 (rd V main_v74) := by
  rw [rd_take V 191 (r := main_v74) (by decide +kernel)]
  exact (rd_at V 191 rfl (by decide +kernel)).trans (unary_result ..)
theorem e_v136 : rd V main_v136 = broadcastInDim S16384x512 ![0, 1] bcast_S1x512_S16384x512_0_1 (rd V main_v135) := by
  rw [rd_take V 192 (r := main_v135) (by decide +kernel)]
  exact (rd_at V 192 rfl (by decide +kernel)).trans (unary_result ..)
theorem e_v137 : rd V main_v137 = mulf (rd V main_v134) (rd V main_v136) := by
  rw [rd_take V 193 (r := main_v134) (by decide +kernel), rd_take V 193 (r := main_v136) (by decide +kernel)]
  exact (rd_at V 193 rfl (by decide +kernel)).trans (binary_result ..)
theorem e_cst_36 : rd V main_cst_36 = (constant S_ .f32 0x00000000#32) := by
  exact (rd_at V 194 rfl (by decide +kernel)).trans (nullary_result ..)
theorem e_v138 : rd V main_v138 = Host.reduceAdd (rd V main_v137) (rd V main_cst_36) reducesTo_S16384x512_S_d0_1 h_S_ := by
  rw [rd_take V 195 (r := main_v137) (by decide +kernel), rd_take V 195 (r := main_cst_36) (by decide +kernel)]
  exact (rd_at V 195 rfl (by decide +kernel)).trans (binary_result ..)
theorem e_cst_37 : rd V main_cst_37 = (constant S_ .f32 0x46800000#32) := by
  exact (rd_at V 196 rfl (by decide +kernel)).trans (nullary_result ..)
theorem e_v139 : rd V main_v139 = Host.divf (rd V main_v138) (rd V main_cst_37) := by
  rw [rd_take V 197 (r := main_v138) (by decide +kernel), rd_take V 197 (r := main_cst_37) (by decide +kernel)]
  exact (rd_at V 197 rfl (by decide +kernel)).trans (binary_result ..)
theorem e_cst_38 : rd V main_cst_38 = (constant S_ .f32 0x3F800000#32) := by
  exact (rd_at V 198 rfl (by decide +kernel)).trans (nullary_result ..)
theorem e_v140 : rd V main_v140 = broadcastInDim S16384x512 ![] bcast_S_S16384x512 (rd V main_cst_38) := by
  rw [rd_take V 199 (r := main_cst_38) (by decide +kernel)]
  exact (rd_at V 199 rfl (by decide +kernel)).trans (unary_result ..)
theorem e_v141 : rd V main_v141 = subf (rd V main_v140) (rd V main_v70) := by
  rw [rd_take V 200 (r := main_v140) (by decide +kernel), rd_take V 200 (r := main_v70) (by decide +kernel)]
  exact (rd_at V 200 rfl (by decide +kernel)).trans (binary_result ..)
theorem e_v142 : rd V main_v142 = mulf (rd V main_v141) (rd V main_v117) := by
  rw [rd_take V 201 (r := main_v141) (by decide +kernel), rd_take V 201 (r := main_v117) (by decide +kernel)]
  exact (rd_at V 201 rfl (by decide +kernel)).trans (binary_result ..)
theorem e_v143 : rd V main_v143 = broadcastInDim S1x512 ![1] bcast_S512_S1x512_1 (rd V main_v74) := by
  rw [rd_take V 202 (r := main_v74) (by decide +kernel)]
  exact (rd_at V 202 rfl (by decide +kernel)).trans (unary_result ..)
theorem e_v144 : rd V main_v144 = broadcastInDim S16384x512 ![0, 1] bcast_S1x512_S16384x512_0_1 (rd V main_v143) := by
  rw [rd_take V 203 (r := main_v143) (by decide +kernel)]
  exact (rd_at V 203 rfl (by decide +kernel)).trans (unary_result ..)
theorem e_v145 : rd V main_v145 = mulf (rd V main_v142) (rd V main_v144) := by
  rw [rd_take V 204 (r := main_v142) (by decide +kernel), rd_take V 204 (r := main_v144) (by decide +kernel)]
  exact (rd_at V 204 rfl (by decide +kernel)).trans (binary_result ..)
theorem e_v146 : rd V main_v146 = mulf (rd V main_v145) (rd V main_v132) := by
  rw [rd_take V 205 (r := main_v145) (by decide +kernel), rd_take V 205 (r := main_v132) (by decide +kernel)]
  exact (rd_at V 205 rfl (by decide +kernel)).trans (binary_result ..)
theorem e_cst_39 : rd V main_cst_39 = (constant S_ .f32 0x3F800000#32) := by
  exact (rd_at V 206 rfl (by decide +kernel)).trans (nullary_result ..)
theorem e_v147 : rd V main_v147 = broadcastInDim S16384x512 ![] bcast_S_S16384x512 (rd V main_cst_39) := by
  rw [rd_take V 207 (r := main_cst_39) (by decide +kernel)]
  exact (rd_at V 207 rfl (by decide +kernel)).trans (unary_result ..)
theorem e_v148 : rd V main_v148 = subf (rd V main_v147) (rd V main_v127) := by
  rw [rd_take V 208 (r := main_v147) (by decide +kernel), rd_take V 208 (r := main_v127) (by decide +kernel)]
  exact (rd_at V 208 rfl (by decide +kernel)).trans (binary_result ..)
theorem e_call6_cst : rd V main_call6_cst = (constant S_ .f32 0x00000000#32) := by
  exact (rd_at V 209 rfl (by decide +kernel)).trans (nullary_result ..)
theorem e_call6_v0 : rd V main_call6_v0 = (broadcastInDim S16384x512 ![] bcast_S_S16384x512) (rd V main_call6_cst) := by
  rw [rd_take V 210 (r := main_call6_cst) (by decide +kernel)]
  exact (rd_at V 210 rfl (by decide +kernel)).trans (unary_result ..)
theorem e_v149 : rd V main_v149 = maximumf (rd V main_v148) (rd V main_call6_v0) := by
  rw [rd_take V 211 (r := main_v148) (by decide +kernel), rd_take V 211 (r := main_call6_v0) (by decide +kernel)]
  exact (rd_at V 211 rfl (by decide +kernel)).trans (binary_result ..)
theorem e_v150 : rd V main_v150 = mulf (rd V main_v146) (rd V main_v149) := by
  rw [rd_take V 212 (r := main_v146) (by decide +kernel), rd_take V 212 (r := main_v149) (by decide +kernel)]
  exact (rd_at V 212 rfl (by decide +kernel)).trans (binary_result ..)
theorem e_cst_40 : rd V main_cst_40 = (constant S_ .f32 0x00000000#32) := by
  exact (rd_at V 213 rfl (by decide +kernel)).trans (nullary_result ..)
theorem e_v151 : rd V main_v151 = Host.reduceAdd (rd V main_v150) (rd V main_cst_40) reducesTo_S16384x512_S_d0_1 h_S_ := by
  rw [rd_take V 214 (r := main_v150) (by decide +kernel), rd_take V 214 (r := main_cst_40) (by decide +kernel)]
  exact (rd_at V 214 rfl (by decide +kernel)).trans (binary_result ..)
theorem e_cst_41 : rd V main_cst_41 = (constant S_ .f32 0x46800000#32) := by
  exact (rd_at V 215 rfl (by decide +kernel)).trans (nullary_result ..)
theorem e_v152 : rd V main_v152 = Host.divf (rd V main_v151) (rd V main_cst_41) := by
  rw [rd_take V 216 (r := main_v151) (by decide +kernel), rd_take V 216 (r := main_cst_41) (by decide +kernel)]
  exact (rd_at V 216 rfl (by decide +kernel)).trans (binary_result ..)
theorem e_cst_42 : rd V main_cst_42 = (constant S_ .f32 0x00000000#32) := by
  exact (rd_at V 217 rfl (by decide +kernel)).trans (nullary_result ..)
theorem e_v153 : rd V main_v153 = Host.reduceAdd (rd V main_v74) (rd V main_cst_42) reducesTo_S512_S_d0 h_S_ := by
  rw [rd_take V 218 (r := main_v74) (by decide +kernel), rd_take V 218 (r := main_cst_42) (by decide +kernel)]
  exact (rd_at V 218 rfl (by decide +kernel)).trans (binary_result ..)
theorem e_cst_43 : rd V main_cst_43 = (constant S_ .f32 0x3F800000#32) := by
  exact (rd_at V 219 rfl (by decide +kernel)).trans (nullary_result ..)
theorem e_v154 : rd V main_v154 = maximumf (rd V main_v153) (rd V main_cst_43) := by
  rw [rd_take V 220 (r := main_v153) (by decide +kernel), rd_take V 220 (r := main_cst_43) (by decide +kernel)]
  exact (rd_at V 220 rfl (by decide +kernel)).trans (binary_result ..)
theorem e_cst_44 : rd V main_cst_44 = (constant S_ .f32 0x3F800000#32) := by
  exact (rd_at V 221 rfl (by decide +kernel)).trans (nullary_result ..)
theorem e_v155 : rd V main_v155 = broadcastInDim S512 ![] bcast_S_S512 (rd V main_cst_44) := by
  rw [rd_take V 222 (r := main_cst_44) (by decide +kernel)]
  exact (rd_at V 222 rfl (by decide +kernel)).trans (unary_result ..)
theorem e_v156 : rd V main_v156 = subf (rd V main_v155) (rd V main_v104) := by
  rw [rd_take V 223 (r := main_v155) (by decide +kernel), rd_take V 223 (r := main_v104) (by decide +kernel)]
  exact (rd_at V 223 rfl (by decide +kernel)).trans (binary_result ..)
theorem e_v157 : rd V main_v157 = mulf (rd V main_v74) (rd V main_v156) := by
  rw [rd_take V 224 (r := main_v74) (by decide +kernel), rd_take V 224 (r := main_v156) (by decide +kernel)]
  exact (rd_at V 224 rfl (by decide +kernel)).trans (binary_result ..)
theorem e_cst_45 : rd V main_cst_45 = (constant S_ .f32 0x00000000#32) := by
  exact (rd_at V 225 rfl (by decide +kernel)).trans (nullary_result ..)
theorem e_v158 : rd V main_v158 = Host.reduceAdd (rd V main_v157) (rd V main_cst_45) reducesTo_S512_S_d0 h_S_ := by
  rw [rd_take V 226 (r := main_v157) (by decide +kernel), rd_take V 226 (r := main_cst_45) (by decide +kernel)]
  exact (rd_at V 226 rfl (by decide +kernel)).trans (binary_result ..)
theorem e_v159 : rd V main_v159 = Host.divf (rd V main_v158) (rd V main_v154) := by
  rw [rd_take V 227 (r := main_v158) (by decide +kernel), rd_take V 227 (r := main_v154) (by decide +kernel)]
  exact (rd_at V 227 rfl (by decide +kernel)).trans (binary_result ..)
theorem e_c_46 : rd V main_c_46 = (constantI S_ 32 0#32) := by
  exact (rd_at V 228 rfl (by decide +kernel)).trans (nullary_result ..)
theorem e_v160 : rd V main_v160 = broadcastInDim S16384 ![] bcast_S_S16384 (rd V main_c_46) := by
  rw [rd_take V 229 (r := main_c_46) (by decide +kernel)]
  exact (rd_at V 229 rfl (by decide +kernel)).trans (unary_result ..)
theorem e_v161 : rd V main_v161 = cmpi .slt (rd V main_v47) (rd V main_v160) := by
  rw [rd_take V 230 (r := main_v47) (by decide +kernel), rd_take V 230 (r := main_v160) (by decide +kernel)]
  exact (rd_at V 230 rfl (by decide +kernel)).trans (binary_result ..)
theorem e_v162 : rd V main_v162 = uitofp .f32 (rd V main_v161) := by
  rw [rd_take V 231 (r := main_v161) (by decide +kernel)]
  exact (rd_at V 231 rfl (by decide +kernel)).trans (unary_result ..)
theorem e_v163 : rd V main_v163 = mulf (rd V main_v162) (rd V main_v49) := by
  rw [rd_take V 232 (r := main_v162) (by decide +kernel), rd_take V 232 (r := main_v49) (by decide +kernel)]
  exact (rd_at V 232 rfl (by decide +kernel)).trans (binary_result ..)
theorem e_cst_47 : rd V main_cst_47 = (constant S_ .f32 0x00000000#32) := by
  exact (rd_at V 233 rfl (by decide +kernel)).trans (nullary_result ..)
theorem e_v164 : rd V main_v164 = Host.reduceAdd (rd V main_v163) (rd V main_cst_47) reducesTo_S16384_S_d0 h_S_ := by
  rw [rd_take V 234 (r := main_v163) (by decide +kernel), rd_take V 234 (r := main_cst_47) (by decide +kernel)]
  exact (rd_at V 234 rfl (by decide +kernel)).trans (binary_result ..)
theorem e_cst_48 : rd V main_cst_48 = (constant S_ .f32 0x3F800000#32) := by
  exact (rd_at V 235 rfl (by decide +kernel)).trans (nullary_result ..)
theorem e_v165 : rd V main_v165 = mulf (rd V main_cst_48) (rd V main_v164) := by
  rw [rd_take V 236 (r := main_cst_48) (by decide +kernel), rd_take V 236 (r := main_v164) (by decide +kernel)]
  exact (rd_at V 236 rfl (by decide +kernel)).trans (binary_result ..)
theorem e_cst_49 : rd V main_cst_49 = (constant S_ .f32 0x00000000#32) := by
  exact (rd_at V 237 rfl (by decide +kernel)).trans (nullary_result ..)
theorem e_v166 : rd V main_v166 = Host.reduceAdd (rd V main_v162) (rd V main_cst_49) reducesTo_S16384_S_d0 h_S_ := by
  rw [rd_take V 238 (r := main_v162) (by decide +kernel), rd_take V 238 (r := main_cst_49) (by decide +kernel)]
  exact (rd_at V 238 rfl (by decide +kernel)).trans (binary_result ..)
theorem e_cst_50 : rd V main_cst_50 = (constant S_ .f32 0x3F800000#32) := by
  exact (rd_at V 239 rfl (by decide +kernel)).trans (nullary_result ..)
theorem e_v167 : rd V main_v167 = maximumf (rd V main_v166) (rd V main_cst_50) := by
  rw [rd_take V 240 (r := main_v166) (by decide +kernel), rd_take V 240 (r := main_cst_50) (by decide +kernel)]
  exact (rd_at V 240 rfl (by decide +kernel)).trans (binary_result ..)
theorem e_v168 : rd V main_v168 = Host.divf (rd V main_v165) (rd V main_v167) := by
  rw [rd_take V 241 (r := main_v165) (by decide +kernel), rd_take V 241 (r := main_v167) (by decide +kernel)]
  exact (rd_at V 241 rfl (by decide +kernel)).trans (binary_result ..)
theorem e_v169 : rd V main_v169 = broadcastInDim S16384x1 ![0] bcast_S16384_S16384x1_0 (rd V main_v49) := by
  rw [rd_take V 242 (r := main_v49) (by decide +kernel)]
  exact (rd_at V 242 rfl (by decide +kernel)).trans (unary_result ..)
theorem e_v170 : rd V main_v170 = broadcastInDim S16384x512 ![0, 1] bcast_S16384x1_S16384x512_0_1 (rd V main_v169) := by
  rw [rd_take V 243 (r := main_v169) (by decide +kernel)]
  exact (rd_at V 243 rfl (by decide +kernel)).trans (unary_result ..)
theorem e_v171 : rd V main_v171 = mulf (rd V main_v70) (rd V main_v170) := by
  rw [rd_take V 244 (r := main_v70) (by decide +kernel), rd_take V 244 (r := main_v170) (by decide +kernel)]
  exact (rd_at V 244 rfl (by decide +kernel)).trans (binary_result ..)
theorem e_v172 : rd V main_v172 = broadcastInDim S16384x1 ![0] bcast_S16384_S16384x1_0 (rd V main_v49) := by
  rw [rd_take V 245 (r := main_v49) (by decide +kernel)]
  exact (rd_at V 245 rfl (by decide +kernel)).trans (unary_result ..)
theorem e_v173 : rd V main_v173 = broadcastInDim S1x512 ![1] bcast_S512_S1x512_1 (rd V main_v104) := by
  rw [rd_take V 246 (r := main_v104) (by decide +kernel)]
  exact (rd_at V 246 rfl (by decide +kernel)).trans (unary_result ..)
theorem e_cst_51 : rd V main_cst_51 = (constant S_ .f32 0x3DCCCCCD#32) := by
  exact (rd_at V 247 rfl (by decide +kernel)).trans (nullary_result ..)
theorem e_v174 : rd V main_v174 = broadcastInDim S1x512 ![] bcast_S_S1x512 (rd V main_cst_51) := by
  rw [rd_take V 248 (r := main_cst_51) (by decide +kernel)]
  exact (rd_at V 248 rfl (by decide +kernel)).trans (unary_result ..)
theorem e_v175 : rd V main_v175 = mulf (rd V main_v174) (rd V main_v173) := by
  rw [rd_take V 249 (r := main_v174) (by decide +kernel), rd_take V 249 (r := main_v173) (by decide +kernel)]
  exact (rd_at V 249 rfl (by decide +kernel)).trans (binary_result ..)
theorem e_v176 : rd V main_v176 = broadcastInDim S16384x512 ![0, 1] bcast_S16384x1_S16384x512_0_1 (rd V main_v172) := by
  rw [rd_take V 250 (r := main_v172) (by decide +kernel)]
  exact (rd_at V 250 rfl (by decide +kernel)).trans (unary_result ..)
theorem e_v177 : rd V main_v177 = broadcastInDim S16384x512 ![0, 1] bcast_S1x512_S16384x512_0_1 (rd V main_v175) := by
  rw [rd_take V 251 (r := main_v175) (by decide +kernel)]
  exact (rd_at V 251 rfl (by decide +kernel)).trans (unary_result ..)
theorem e_v178 : rd V main_v178 = cmpf .ogt (rd V main_v176) (rd V main_v177) := by
  rw [rd_take V 252 (r := main_v176) (by decide +kernel), rd_take V 252 (r := main_v177) (by decide +kernel)]
  exact (rd_at V 252 rfl (by decide +kernel)).trans (binary_result ..)
theorem e_v179 : rd V main_v179 = uitofp .f32 (rd V main_v178) := by
  rw [rd_take V 253 (r := main_v178) (by decide +kernel)]
  exact (rd_at V 253 rfl (by decide +kernel)).trans (unary_result ..)
theorem e_v180 : rd V main_v180 = mulf (rd V main_v171) (rd V main_v179) := by
  rw [rd_take V 254 (r := main_v171) (by decide +kernel), rd_take V 254 (r := main_v179) (by decide +kernel)]
  exact (rd_at V 254 rfl (by decide +kernel)).trans (binary_result ..)
theorem e_v181 : rd V main_v181 = broadcastInDim S16384x4 ![0, 1] bcast_S16384x1_S16384x4_0_1 (rd V main_v8) := by
  rw [rd_take V 255 (r := main_v8) (by decide +kernel)]
  exact (rd_at V 255 rfl (by decide +kernel)).trans (unary_result ..)
theorem e_v182 : rd V main_v182 = mulf (rd V main_v46) (rd V main_v181) := by
  rw [rd_take V 256 (r := main_v46) (by decide +kernel), rd_take V 256 (r := main_v181) (by decide +kernel)]
  exact (rd_at V 256 rfl (by decide +kernel)).trans (binary_result ..)
theorem e_v183 : rd V main_v183 = (transpose S512x16384 [1, 0] (rd V main_v180) transposes_S16384x512_S512x16384_1_0) := by
  rw [rd_take V 257 (r := main_v180) (by decide +kernel)]
  exact (rd_at V 257 rfl (by decide +kernel)).trans (unary_result ..)
theorem e_v184 : rd V main_v184 = Host.dotGeneral dot_S512x16384_S16384x4_S512x4_1_0_0_1_n_n none (rd V main_v183) (rd V main_v182) := by
  rw [rd_take V 258 (r := main_v183) (by decide +kernel), rd_take V 258 (r := main_v182) (by decide +kernel)]
  exact (rd_at V 258 rfl (by decide +kernel)).trans (binary_result ..)
theorem e_cst_52 : rd V main_cst_52 = (constant S_ .f32 0x00000000#32) := by
  exact (rd_at V 259 rfl (by decide +kernel)).trans (nullary_result ..)
theorem e_v185 : rd V main_v185 = Host.reduceAdd (rd V main_v180) (rd V main_cst_52) reducesTo_S16384x512_S512_d0 h_S_ := by
  rw [rd_take V 260 (r := main_v180) (by decide +kernel), rd_take V 260 (r := main_cst_52) (by decide +kernel)]
  exact (rd_at V 260 rfl (by decide +kernel)).trans (binary_result ..)
theorem e_v186 : rd V main_v186 = broadcastInDim S512x1 ![0] bcast_S512_S512x1_0 (rd V main_v185) := by
  rw [rd_take V 261 (r := main_v185) (by decide +kernel)]
  exact (rd_at V 261 rfl (by decide +kernel)).trans (unary_result ..)
theorem e_cst_53 : rd V main_cst_53 = (constant S_ .f32 0x3089705F#32) := by
  exact (rd_at V 262 rfl (by decide +kernel)).trans (nullary_result ..)
theorem e_v187 : rd V main_v187 = broadcastInDim S512x1 ![] bcast_S_S512x1 (rd V main_cst_53) := by
  rw [rd_take V 263 (r := main_cst_53) (by decide +kernel)]
  exact (rd_at V 263 rfl (by decide +kernel)).trans (unary_result ..)
theorem e_v188 : rd V main_v188 = addf (rd V main_v186) (rd V main_v187) := by
  rw [rd_take V 264 (r := main_v186) (by decide +kernel), rd_take V 264 (r := main_v187) (by decide +kernel)]
  exact (rd_at V 264 rfl (by decide +kernel)).trans (binary_result ..)
theorem e_v189 : rd V main_v189 = broadcastInDim S512x4 ![0, 1] bcast_S512x1_S512x4_0_1 (rd V main_v188) := by
  rw [rd_take V 265 (r := main_v188) (by decide +kernel)]
  exact (rd_at V 265 rfl (by decide +kernel)).trans (unary_result ..)
theorem e_v190 : rd V main_v190 = Host.divf (rd V main_v184) (rd V main_v189) := by
  rw [rd_take V 266 (r := main_v184) (by decide +kernel), rd_take V 266 (r := main_v189) (by decide +kernel)]
  exact (rd_at V 266 rfl (by decide +kernel)).trans (binary_result ..)
theorem e_v191 : rd V main_v191 = broadcastInDim S512x1 ![0] bcast_S512_S512x1_0 (rd V main_v74) := by
  rw [rd_take V 267 (r := main_v74) (by decide +kernel)]
  exact (rd_at V 267 rfl (by decide +kernel)).trans (unary_result ..)
theorem e_v192 : rd V main_v192 = broadcastInDim S512x4 ![0, 1] bcast_S512x1_S512x4_0_1 (rd V main_v191) := by
  rw [rd_take V 268 (r := main_v191) (by decide +kernel)]
  exact (rd_at V 268 rfl (by decide +kernel)).trans (unary_result ..)
theorem e_v193 : rd V main_v193 = mulf (rd V main_v192) (rd V main_v190) := by
  rw [rd_take V 269 (r := main_v192) (by decide +kernel), rd_take V 269 (r := main_v190) (by decide +kernel)]
  exact (rd_at V 269 rfl (by decide +kernel)).trans (binary_result ..)
theorem e_cst_54 : rd V main_cst_54 = (constant S_ .f32 0x00000000#32) := by
  exact (rd_at V 270 rfl (by decide +kernel)).trans (nullary_result ..)
theorem e_v194 : rd V main_v194 = Host.reduceAdd (rd V main_v193) (rd V main_cst_54) reducesTo_S512x4_S_d0_1 h_S_ := by
  rw [rd_take V 271 (r := main_v193) (by decide +kernel), rd_take V 271 (r := main_cst_54) (by decide +kernel)]
  exact (rd_at V 271 rfl (by decide +kernel)).trans (binary_result ..)
theorem e_v195 : rd V main_v195 = Host.divf (rd V main_v194) (rd V main_v154) := by
  rw [rd_take V 272 (r := main_v194) (by decide +kernel), rd_take V 272 (r := main_v154) (by decide +kernel)]
  exact (rd_at V 272 rfl (by decide +kernel)).trans (binary_result ..)
theorem e_v196 : rd V main_v196 = addf (rd V main_v139) (rd V main_v152) := by
  rw [rd_take V 273 (r := main_v139) (by decide +kernel), rd_take V 273 (r := main_v152) (by decide +kernel)]
  exact (rd_at V 273 rfl (by decide +kernel)).trans (binary_result ..)
theorem e_v197 : rd V main_v197 = addf (rd V main_v196) (rd V main_v159) := by
  rw [rd_take V 274 (r := main_v196) (by decide +kernel), rd_take V 274 (r := main_v159) (by decide +kernel)]
  exact (rd_at V 274 rfl (by decide +kernel)).trans (binary_result ..)
theorem e_v198 : rd V main_v198 = addf (rd V main_v197) (rd V main_v168) := by
  rw [rd_take V 275 (r := main_v197) (by decide +kernel), rd_take V 275 (r := main_v168) (by decide +kernel)]
  exact (rd_at V 275 rfl (by decide +kernel)).trans (binary_result ..)
theorem e_v199 : rd V main_v199 = addf (rd V main_v198) (rd V main_v195) := by
  rw [rd_take V 276 (r := main_v198) (by decide +kernel), rd_take V 276 (r := main_v195) (by decide +kernel)]
  exact (rd_at V 276 rfl (by decide +kernel)).trans (binary_result ..)

end Cert.ReferenceIdeal.Loss

end
-- ==== Proof.Value.Terms.lean ====
module

public import Idealize.ShloMosaic.PureOps.Ideal.Laws
public import Mathlib.Analysis.SpecialFunctions.Artanh

@[expose] public section

set_option maxRecDepth 16384

noncomputable section

/-! # The loss as mathematics

The arrays of one call, the quantities the loss is made of, and the loss itself in two arrangements: object by object
with attraction and repulsion apart (`Arrays.apart`), and with both in one sum and the weighted losses in one column
(`Arrays.joined`). Everything here is a number of the extended reals; no memory and no program is mentioned. -/

namespace Cert.Value

open Idealize.ShloMosaic
open scoped BigOperators

/-- A hit's score, kept between the two bounds. -/
def clip (x : EReal) : EReal := min (Ideal.ofBits .f32 0x3F7FF972#32) (max (Ideal.ofBits .f32 0x358637BD#32) x)

/-- The charge of a score: the square of its inverse hyperbolic tangent, plus one half. -/
def charge (b : EReal) : EReal := Ideal.atanh b * Ideal.atanh b + Ideal.ofBits .f32 0x3F000000#32

/-- Half the logarithm of `(1 + b) / (1 - b)`: the inverse hyperbolic tangent written out. -/
def halfLog (b : EReal) : EReal := Ideal.ofBits .f32 0x3F000000#32 * Ideal.log (Ideal.div (1 + b) (1 - b))

/-- The charge with the inverse hyperbolic tangent written out. -/
def charge' (b : EReal) : EReal := halfLog b * halfLog b + Ideal.ofBits .f32 0x3F000000#32

/-- The weight of a true energy. -/
def weight (t : EReal) : EReal :=
  if Ideal.ofBits .f32 0x41200000#32 < t then 1
  else Ideal.div (Ideal.div t (Ideal.ofBits .f32 0x41200000#32) + Ideal.ofBits .f32 0x3DCCCCCD#32) (Ideal.ofBits .f32 0x3F8CCCCD#32)

/-- The root that scales an energy difference. -/
def scale (t : EReal) : EReal := Ideal.sqrt (t + Ideal.ofBits .f32 0x3A83126F#32)

/-- An energy difference in units of its scale. -/
def ratio (t e : EReal) : EReal := Ideal.div (max (t - e) (-(t - e))) (scale t + 1)

/-- The Huber loss of a scaled difference `r`, with the bend at twice the scale. -/
def huber (s r : EReal) : EReal :=
  if r ≤ s * Ideal.ofBits .f32 0x40000000#32 then Ideal.ofBits .f32 0x3F000000#32 * r * r
  else s * Ideal.ofBits .f32 0x40000000#32 * (r - Ideal.ofBits .f32 0x3F000000#32 * (s * Ideal.ofBits .f32 0x40000000#32))

/-- The loss of the energy. -/
def energyLoss (t e : EReal) : EReal := huber (scale t) (ratio t e)

/-- The loss of the position. -/
def placeLoss (t p : Fin 2 → EReal) : EReal :=
  Ideal.div ((t 0 - p 0) * (t 0 - p 0) + (t 1 - p 1) * (t 1 - p 1)) (Ideal.ofBits .f32 0x42C80000#32)

/-- The loss of the time. -/
def timeLoss (t p : EReal) : EReal :=
  (t * Ideal.ofBits .f32 0x4E6E6B28#32 - p) * (t * Ideal.ofBits .f32 0x4E6E6B28#32 - p)

/-- The factor of the class loss: the small constant over the number of classes. -/
def kindFactor : ℝ := 11258999 / 6755399441055744

/-- The loss of the class logits. -/
def kindLoss (u : Fin 6 → EReal) : EReal := (kindFactor : EReal) * ∑ d, u d * u d

/-- The squared distance of two points. -/
def dist2 (x y : Fin 2 → EReal) : EReal := (x 0 - y 0) * (x 0 - y 0) + (x 1 - y 1) * (x 1 - y 1)

/-- What is left of one after the distance of a squared distance. -/
def gap (d : EReal) : EReal := max (1 - Ideal.sqrt (d + Ideal.ofBits .f32 0x3089705F#32)) 0

/-- The event a hit is in, from its row and the row the second event begins at. -/
def eventWord (row start : BitVec 32) : BitVec 32 := BitVec.setWidth 32 (IntOp.cmpi .sge row start)

/-- Whether a hit with truth number `t` in event `e` belongs to the object of number `k`. -/
def ownBit (e t k : BitVec 32) : BitVec 1 :=
  IntOp.cmpi .eq (Scalar.select (IntOp.cmpi .sge t 0#32) (IntOp.addi t (IntOp.muli e 256#32)) 4294967295#32) k

/-- A truth value as a number. -/
def num (b : BitVec 1) : EReal := if b = 1 then 1 else 0

/-- The arrays of one call. -/
structure Arrays where
  score : Fin 16384 → EReal
  coord : Fin 16384 → Fin 2 → EReal
  energy : Fin 16384 → EReal
  place : Fin 16384 → Fin 2 → EReal
  time : Fin 16384 → EReal
  kind : Fin 16384 → Fin 6 → EReal
  truth : Fin 16384 → BitVec 32
  trueEnergy : Fin 16384 → EReal
  truePlace : Fin 16384 → Fin 2 → EReal
  trueTime : Fin 16384 → EReal
  start : BitVec 32

namespace Arrays

variable (A : Arrays)

/-- The clipped score of a hit. -/
def b (i : Fin 16384) : EReal := clip (A.score i)

/-- The event of a hit. -/
def ev (i : Fin 16384) : BitVec 32 := eventWord (BitVec.ofNat 32 i.val) A.start

/-- Whether a hit belongs to an object. -/
def M (i : Fin 16384) (k : Fin 512) : BitVec 1 := ownBit (A.ev i) (A.truth i) (BitVec.ofNat 32 k.val)

/-- Whether an object has a hit. -/
def Has (k : Fin 512) : Prop := ∃ i, A.M i k = 1

/-- Among the hits before `n`, `i` is the first of those of object `k` with the highest score. -/
def TopIn (n : ℕ) (k : Fin 512) (i : Fin 16384) : Prop :=
  A.M i k = 1 ∧ i.val < n ∧ ∀ j : Fin 16384, j.val < n → A.M j k = 1 → A.b j ≤ A.b i ∧ (j < i → A.b j < A.b i)

/-- Whether a hit is noise. -/
def noise (i : Fin 16384) : BitVec 1 := IntOp.cmpi .slt (A.truth i) 0#32

/-- The four losses of a hit. -/
def pay (i : Fin 16384) (j : Fin 4) : EReal :=
  match j with
  | 0 => energyLoss (A.trueEnergy i) (A.energy i)
  | 1 => placeLoss (A.truePlace i) (A.place i)
  | 2 => timeLoss (A.trueTime i) (A.time i)
  | 3 => kindLoss (A.kind i)

/-- The weight of a hit. -/
def w (i : Fin 16384) : EReal := weight (A.trueEnergy i)

/-- One for an object with a hit, nothing for one without. -/
def ex (k : Fin 512) : EReal := by
  classical exact if A.Has k then 1 else 0

/-- The number of objects, at least one. -/
def objects : EReal := max (∑ k, A.ex k) 1

/-! ## Attraction and repulsion apart -/

/-- The attraction of a hit to the centre `a k` of an object. -/
def attract (a : Fin 512 → Fin 16384) (i : Fin 16384) (k : Fin 512) : EReal :=
  num (A.M i k) * (charge (A.b i) * charge (A.b (a k))) * dist2 (A.coord i) (A.coord (a k)) * A.ex k

/-- The repulsion of a hit from the centre of an object of its event. -/
def repel (a : Fin 512 → Fin 16384) (i : Fin 16384) (k : Fin 512) : EReal :=
  (1 - num (A.M i k)) * num (IntOp.cmpi .eq (A.ev i) (A.ev (a k))) * A.ex k * (charge (A.b i) * charge (A.b (a k)))
    * gap (dist2 (A.coord i) (A.coord (a k)))

/-- The part of a hit in the mean losses of an object. -/
def part (a : Fin 512 → Fin 16384) (i : Fin 16384) (k : Fin 512) : EReal :=
  num (A.M i k) * A.b i * (if Ideal.ofBits .f32 0x3DCCCCCD#32 * A.b (a k) < A.b i then 1 else 0)

/-- The loss, its terms apart, the centre of object `k` at hit `a k`. -/
def apart (a : Fin 512 → Fin 16384) : EReal :=
  Ideal.div (∑ i, ∑ k, A.attract a i k) (Ideal.ofBits .f32 0x46800000#32)
    + Ideal.div (∑ i, ∑ k, A.repel a i k) (Ideal.ofBits .f32 0x46800000#32)
    + Ideal.div (∑ k, A.ex k * (1 - A.b (a k))) A.objects
    + Ideal.div (1 * ∑ i, num (A.noise i) * A.b i) (max (∑ i, num (A.noise i)) 1)
    + Ideal.div (∑ k, ∑ j, A.ex k * Ideal.div (∑ i, A.part a i k * (A.pay i j * A.w i))
        ((∑ i, A.part a i k) + Ideal.ofBits .f32 0x3089705F#32)) A.objects

/-! ## In one sum, from each object's highest score and the coordinates it was found at -/

/-- What is kept of each object: its highest score, minus one without a hit, and the two coordinates found with it. -/
structure Kept where
  top : Fin 512 → EReal
  c0 : Fin 512 → EReal
  c1 : Fin 512 → EReal

/-- What is kept is an object's highest score and where it was found. -/
def Fits (K : Kept) (a : Fin 512 → Fin 16384) : Prop :=
  ∀ k, (A.Has k → K.top k = A.b (a k) ∧ K.c0 k = A.coord (a k) 0 ∧ K.c1 k = A.coord (a k) 1)
    ∧ (¬ A.Has k → K.top k = Ideal.ofBits .f32 0xBF800000#32)

namespace Kept

variable (K : Kept)

/-- Whether the score kept is above nothing. -/
def on (k : Fin 512) : BitVec 1 := BitVec.ofBool (decide (0 < K.top k))

/-- The score kept, nothing for an object without a hit. -/
def safe (k : Fin 512) : EReal := if 0 < K.top k then K.top k else 0

/-- The charge of the centre. -/
def q (k : Fin 512) : EReal := if 0 < K.top k then charge' (K.safe k) else 0

/-- The number of objects, at least one. -/
def objects : EReal := max (∑ k, num (K.on k)) 1

/-- The point kept. -/
def point (k : Fin 512) : Fin 2 → EReal := ![K.c0 k, K.c1 k]

end Kept

/-- The joined pair term of a hit and an object. -/
def pair (K : Kept) (i : Fin 16384) (k : Fin 512) : EReal :=
  charge' (A.b i) * K.q k * Scalar.select (A.M i k) (dist2 (A.coord i) (K.point k))
    (Scalar.select (IntOp.cmpi .eq (A.ev i) (BitVec.ofNat 32 (k.val / 256))) (gap (dist2 (A.coord i) (K.point k))) 0)

/-- The part of a hit in an object's mean losses, from what is kept. -/
def share (K : Kept) (i : Fin 16384) (k : Fin 512) : EReal :=
  Scalar.select (IntOp.andi (A.M i k) (BitVec.ofBool (decide (Ideal.ofBits .f32 0x3DCCCCCD#32 * K.safe k < A.b i)))) (A.b i) 0

/-- The four losses of a hit together, weighted. -/
def total (i : Fin 16384) : EReal := (A.pay i 0 + A.pay i 1 + A.pay i 2 + A.pay i 3) * A.w i

/-- The loss in one sum. -/
def joined (K : Kept) : EReal :=
  Ideal.div (∑ k, ∑ i, A.pair K i k) (Ideal.ofBits .f32 0x46800000#32)
    + Ideal.div (∑ k, num (K.on k) * (1 - K.top k)) K.objects
    + Ideal.div (1 * ∑ i, Scalar.select (A.noise i) (A.b i) 0) (max (∑ i, num (A.noise i)) 1)
    + Ideal.div (∑ k, Ideal.div (num (K.on k) * ∑ i, A.share K i k * A.total i)
        ((∑ i, A.share K i k) + Ideal.ofBits .f32 0x3089705F#32)) K.objects

end Arrays

end Cert.Value
-- ==== Proof.Value.Numbers.lean ====
module

public import proofs.«01_k».proof.Proof.Value.Terms

@[expose] public section

set_option maxRecDepth 16384

noncomputable section

/-! # Single numbers: the constants, the clipped score, the charge, the four losses -/

namespace Cert.Value

open Idealize.ShloMosaic
open scoped BigOperators

theorem lit_lo : Ideal.ofBits .f32 0x358637BD#32 = ((8796093 / 8796093022208 : ℝ) : EReal) := by
  simp [Ideal.ofBits, Ideal.ieee, -EReal.coe_mul]; norm_num
theorem lit_hi : Ideal.ofBits .f32 0x3F7FF972#32 = ((8387769 / 8388608 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_one : Ideal.ofBits .f32 0xBF800000#32 = ((-1 : ℝ) : EReal) := by
  simp [Ideal.ofBits, Ideal.ieee, -EReal.coe_mul]; norm_num
theorem lit_tenth : Ideal.ofBits .f32 0x3DCCCCCD#32 = ((13421773 / 134217728 : ℝ) : EReal) := by
  simp [Ideal.ofBits, Ideal.ieee, -EReal.coe_mul]; norm_num
theorem lit_eleven : Ideal.ofBits .f32 0x3F8CCCCD#32 = ((9227469 / 8388608 : ℝ) : EReal) := by
  simp [Ideal.ofBits, Ideal.ieee, -EReal.coe_mul]; norm_num
theorem lit_ten : Ideal.ofBits .f32 0x41200000#32 = ((10 : ℝ) : EReal) := by
  simp [Ideal.ofBits, Ideal.ieee, -EReal.coe_mul]; norm_num
theorem lit_milli : Ideal.ofBits .f32 0x3A83126F#32 = ((8589935 / 8589934592 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_hundred : Ideal.ofBits .f32 0x42C80000#32 = ((100 : ℝ) : EReal) := by
  simp [Ideal.ofBits, Ideal.ieee, -EReal.coe_mul]; norm_num
theorem lit_giga : Ideal.ofBits .f32 0x4E6E6B28#32 = ((1000000000 : ℝ) : EReal) := by
  simp [Ideal.ofBits, Ideal.ieee, -EReal.coe_mul]; norm_num
theorem lit_nano : Ideal.ofBits .f32 0x3089705F#32 = ((9007199 / 9007199254740992 : ℝ) : EReal) := by
  simp [Ideal.ofBits, Ideal.ieee, -EReal.coe_mul]; norm_num
theorem lit_count : Ideal.ofBits .f32 0x46800000#32 = ((16384 : ℝ) : EReal) := by
  simp [Ideal.ofBits, Ideal.ieee, -EReal.coe_mul]; norm_num
theorem lit_small : Ideal.ofBits .f32 0x322BCC77#32 = ((11258999 / 1125899906842624 : ℝ) : EReal) := by
  simp [Ideal.ofBits, Ideal.ieee, -EReal.coe_mul]; norm_num
theorem lit_six : Ideal.ofBits .f32 0x40C00000#32 = ((6 : ℝ) : EReal) := by
  simp [Ideal.ofBits, Ideal.ieee, -EReal.coe_mul]; norm_num
theorem lit_bottom : Ideal.ofBits .f32 0xFF800000#32 = ⊥ := by
  simp [Ideal.ofBits, Ideal.ieee]

/-- A clipped score is a real number strictly between nothing and one. -/
theorem clip_real (x : EReal) : ∃ r : ℝ, clip x = (r : EReal) ∧ 0 < r ∧ r < 1 := by
  have h1 : clip x ≤ ((8387769 / 8388608 : ℝ) : EReal) := by rw [clip, lit_hi]; exact min_le_left _ _
  have h2 : ((8796093 / 8796093022208 : ℝ) : EReal) ≤ clip x := by
    rw [clip, lit_hi, lit_lo]; exact le_min (by rw [EReal.coe_le_coe_iff]; norm_num) (le_max_left _ _)
  have e : ((clip x).toReal : EReal) = clip x := EReal.coe_toReal (ne_top_of_le_ne_top (EReal.coe_ne_top _) h1)
    (ne_bot_of_le_ne_bot (EReal.coe_ne_bot _) h2)
  refine ⟨_, e.symm, ?_, ?_⟩
  · rw [← e, EReal.coe_le_coe_iff] at h2; exact lt_of_lt_of_le (by norm_num) h2
  · rw [← e, EReal.coe_le_coe_iff] at h1; exact lt_of_le_of_lt h1 (by norm_num)

/-- Between nothing and one, half the logarithm is the inverse hyperbolic tangent. -/
theorem halfLog_eq {r : ℝ} (h0 : 0 < r) (h1 : r < 1) : halfLog (r : EReal) = Ideal.atanh (r : EReal) := by
  have hd : (1 - r) ≠ 0 := by linarith
  have e : Ideal.div (1 + (r : EReal)) (1 - (r : EReal)) = (((1 + r) / (1 - r) : ℝ) : EReal) := by
    rw [← EReal.coe_one, ← EReal.coe_add, ← EReal.coe_sub, Ideal.div_coe hd, ← EReal.coe_mul]; congr 1; field_simp
  have hp : ¬ (1 + r) / (1 - r) ≤ 0 := not_le.mpr (div_pos (by linarith) (by linarith))
  rw [halfLog, e, Ideal.log_coe, if_neg hp, lit_half, ← EReal.coe_mul, Ideal.atanh_coe, if_neg (by linarith), if_neg (by linarith),
    if_pos ⟨by linarith, h1⟩, Real.artanh_eq_half_log ⟨by linarith, h1.le⟩]

theorem charge_eq {r : ℝ} (h0 : 0 < r) (h1 : r < 1) : charge' (r : EReal) = charge (r : EReal) := by
  rw [charge', charge, halfLog_eq h0 h1]

/-- Being finite. -/
def Real' (x : EReal) : Prop := ∃ r : ℝ, x = (r : EReal)

theorem Real'.coe (r : ℝ) : Real' (r : EReal) := ⟨r, rfl⟩
theorem Real'.one : Real' 1 := ⟨1, rfl⟩
theorem Real'.zero : Real' 0 := ⟨0, rfl⟩
theorem Real'.add {x y : EReal} (hx : Real' x) (hy : Real' y) : Real' (x + y) := by
  obtain ⟨a, rfl⟩ := hx; obtain ⟨c, rfl⟩ := hy; exact ⟨_, (EReal.coe_add a c).symm⟩
theorem Real'.sub {x y : EReal} (hx : Real' x) (hy : Real' y) : Real' (x - y) := by
  obtain ⟨a, rfl⟩ := hx; obtain ⟨c, rfl⟩ := hy; exact ⟨_, (EReal.coe_sub a c).symm⟩
theorem Real'.mul {x y : EReal} (hx : Real' x) (hy : Real' y) : Real' (x * y) := by
  obtain ⟨a, rfl⟩ := hx; obtain ⟨c, rfl⟩ := hy; exact ⟨_, (EReal.coe_mul a c).symm⟩
theorem Real'.div {x : EReal} (hx : Real' x) {y : ℝ} (hy : y ≠ 0) : Real' (Ideal.div x (y : EReal)) := by
  rw [Ideal.div_coe hy]; exact hx.mul (.coe _)
theorem Real'.sum {ι : Type} (s : Finset ι) {f : ι → EReal} (h : ∀ i, Real' (f i)) : Real' (∑ i ∈ s, f i) := by
  classical
  induction s using Finset.induction_on with
  | empty => simpa using Real'.zero
  | insert a s ha ih => rw [Finset.sum_insert ha]; exact (h a).add ih

theorem weight_real {t : EReal} (h : Real' t) : Real' (weight t) := by
  unfold weight
  split
  · exact .one
  · rw [lit_ten, lit_tenth, lit_eleven]; exact ((h.div (by norm_num)).add (.coe _)).div (by norm_num)

theorem placeLoss_real {t p : Fin 2 → EReal} (ht : ∀ d, Real' (t d)) (hp : ∀ d, Real' (p d)) : Real' (placeLoss t p) := by
  have h := fun d => (ht d).sub (hp d)
  rw [placeLoss, lit_hundred]; exact (((h 0).mul (h 0)).add ((h 1).mul (h 1))).div (by norm_num)

theorem timeLoss_real {t p : EReal} (ht : Real' t) (hp : Real' p) : Real' (timeLoss t p) := by
  have h := (ht.mul (.coe 1000000000)).sub hp
  rw [timeLoss, lit_giga]; exact h.mul h

theorem kindLoss_real {u : Fin 6 → EReal} (hu : ∀ d, Real' (u d)) : Real' (kindLoss u) :=
  (Real'.coe _).mul (.sum _ fun d => (hu d).mul (hu d))

/-- The small constant times a sixth is the factor of the class loss. -/
theorem kind_factor (x : EReal) :
    Ideal.ofBits .f32 0x322BCC77#32 * Ideal.div x (Ideal.ofBits .f32 0x40C00000#32) = (kindFactor : EReal) * x := by
  rw [lit_small, lit_six, Ideal.div_coe (by norm_num), mul_comm x, ← mul_assoc, ← EReal.coe_mul, kindFactor]
  congr 2; norm_num

/-- The scale of a finite energy is a root or the lowest value. -/
theorem scale_cases (t : EReal) : scale t = ⊥ ∨ 0 ≤ scale t := by
  unfold scale
  induction t + Ideal.ofBits .f32 0x3A83126F#32 with
  | bot => exact .inl rfl
  | top => exact .inr le_top
  | coe r =>
    rw [Ideal.sqrt_coe]
    split
    · exact .inl rfl
    · exact .inr (by exact_mod_cast Real.sqrt_nonneg r)

/-- A scaled difference is not negative, so its absolute value is itself. -/
theorem ratio_nonneg (t e : EReal) : 0 ≤ ratio t e := by
  have ha : 0 ≤ max (t - e) (-(t - e)) := by
    rcases le_total 0 (t - e) with h | h
    · exact le_max_of_le_left h
    · exact le_max_of_le_right (EReal.neg_nonneg.mpr h)
  unfold ratio
  rcases scale_cases t with h | h
  · rw [h, EReal.bot_add, Ideal.div, if_neg (by simp), EReal.inv_bot, mul_zero]
  · have h1 : 0 < scale t + 1 := lt_of_lt_of_le zero_lt_one (le_add_of_nonneg_left h)
    rw [Ideal.div, if_neg h1.ne']
    exact mul_nonneg ha (EReal.inv_nonneg_of_nonneg h1.le)

theorem ratio_abs (t e : EReal) : max (ratio t e) (-(ratio t e)) = ratio t e :=
  max_eq_left ((EReal.neg_le_neg_iff.mpr (ratio_nonneg t e)).trans (by simpa using ratio_nonneg t e))

end Cert.Value
-- ==== Proof.Value.Equal.lean ====
module

public import proofs.«01_k».proof.Proof.Value.Numbers

@[expose] public section

set_option maxRecDepth 16384

noncomputable section

/-! # The two arrangements of the loss are one number -/

namespace Cert.Value

open Idealize.ShloMosaic
open scoped BigOperators

/-- A nonnegative real number multiplies a sum term by term. -/
theorem real_mul_sum {ι : Type} (s : Finset ι) {p : ℝ} (hp : 0 ≤ p) (f : ι → EReal) :
    (p : EReal) * ∑ i ∈ s, f i = ∑ i ∈ s, (p : EReal) * f i := by
  classical
  induction s using Finset.induction_on with
  | empty => simp
  | insert a s ha ih =>
    rw [Finset.sum_insert ha, Finset.sum_insert ha,
      EReal.left_distrib_of_nonneg_of_ne_top (EReal.coe_nonneg.mpr hp) (EReal.coe_ne_top p), ih]

theorem sum_mul_real {ι : Type} (s : Finset ι) {p : ℝ} (hp : 0 ≤ p) (f : ι → EReal) :
    (∑ i ∈ s, f i) * (p : EReal) = ∑ i ∈ s, f i * (p : EReal) := by
  rw [mul_comm, real_mul_sum s hp]; exact Finset.sum_congr rfl fun i _ => mul_comm _ _

/-- A sum of real numbers, as extended reals. -/
theorem sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real number multiplies a sum of two of which one is real. -/
theorem add_real_mul (x : EReal) (r c : ℝ) : (x + (r : EReal)) * (c : EReal) = x * c + r * c := by
  induction x with
  | coe x => rw [← EReal.coe_add, ← EReal.coe_mul, ← EReal.coe_mul, ← EReal.coe_mul, ← EReal.coe_add, add_mul]
  | top =>
    rw [EReal.top_add_coe, ← EReal.coe_mul]
    rcases lt_trichotomy c 0 with h | h | h
    · rw [EReal.top_mul_coe_of_neg h, EReal.bot_add]
    · subst h; simp
    · rw [EReal.top_mul_coe_of_pos h, EReal.top_add_coe]
  | bot =>
    rw [EReal.bot_add, ← EReal.coe_mul]
    rcases lt_trichotomy c 0 with h | h | h
    · rw [EReal.bot_mul_coe_of_neg h, EReal.top_add_coe]
    · subst h; simp
    · rw [EReal.bot_mul_coe_of_pos h, EReal.bot_add]

theorem num_one : num 1#1 = 1 := if_pos rfl
theorem num_zero : num 0#1 = 0 := if_neg (by decide)

/-- A bit is set or not. -/
theorem bit_cases (c : BitVec 1) : c = 1#1 ∨ c = 0#1 := by
  revert c; decide

theorem select_one {α : Type} (x y : α) : Scalar.select 1#1 x y = x := if_pos rfl
theorem select_zero {α : Type} (x y : α) : Scalar.select 0#1 x y = y := if_neg (by decide)

namespace Arrays

variable {A : Arrays} {K : Kept} {a : Fin 512 → Fin 16384}

theorem ex_has {k : Fin 512} (h : A.Has k) : A.ex k = 1 := if_pos h
theorem ex_none {k : Fin 512} (h : ¬ A.Has k) : A.ex k = 0 := if_neg h

/-- The clipped score of a hit as a real number. -/
theorem b_real (A : Arrays) (i : Fin 16384) : ∃ r : ℝ, A.b i = (r : EReal) ∧ 0 < r ∧ r < 1 := clip_real _

theorem b_pos (A : Arrays) (i : Fin 16384) : 0 < A.b i := by
  obtain ⟨r, e, h, -⟩ := A.b_real i; rw [e]; exact_mod_cast h

theorem none_own {k : Fin 512} (h : ¬ A.Has k) (i : Fin 16384) : A.M i k = 0#1 :=
  (bit_cases _).resolve_left fun e => h ⟨i, e⟩

theorem top_has (hK : A.Fits K a) {k : Fin 512} (h : A.Has k) : 0 < K.top k := by
  rw [((hK k).1 h).1]; exact A.b_pos _

theorem top_none (hK : A.Fits K a) {k : Fin 512} (h : ¬ A.Has k) : ¬ 0 < K.top k := by
  rw [(hK k).2 h, lit_neg_one]; simp

theorem on_eq (hK : A.Fits K a) (k : Fin 512) : num (K.on k) = A.ex k := by
  by_cases h : A.Has k
  · rw [ex_has h, Kept.on, decide_eq_true (top_has hK h)]; exact num_one
  · rw [ex_none h, Kept.on, decide_eq_false (top_none hK h)]; exact num_zero

theorem objects_eq (hK : A.Fits K a) : K.objects = A.objects := by
  unfold Kept.objects Arrays.objects; simp only [on_eq hK]

theorem safe_has (hK : A.Fits K a) {k : Fin 512} (h : A.Has k) : K.safe k = A.b (a k) := by
  rw [Kept.safe, if_pos (top_has hK h), ((hK k).1 h).1]

theorem charge_b (A : Arrays) (i : Fin 16384) : charge' (A.b i) = charge (A.b i) := by
  obtain ⟨r, e, h0, h1⟩ := A.b_real i; rw [e, charge_eq h0 h1]

theorem q_has (hK : A.Fits K a) {k : Fin 512} (h : A.Has k) : K.q k = charge (A.b (a k)) := by
  rw [Kept.q, if_pos (top_has hK h), safe_has hK h, charge_b]

theorem q_none (hK : A.Fits K a) {k : Fin 512} (h : ¬ A.Has k) : K.q k = 0 := by
  rw [Kept.q, if_neg (top_none hK h)]

theorem point_has (hK : A.Fits K a) {k : Fin 512} (h : A.Has k) (x : Fin 2 → EReal) :
    dist2 x (K.point k) = dist2 x (A.coord (a k)) := by
  obtain ⟨-, h0, h1⟩ := (hK k).1 h
  simp only [dist2, Kept.point, Matrix.cons_val_zero, Matrix.cons_val_one, h0, h1]

/-- The joined pair term is attraction plus repulsion. -/
theorem pair_eq (hK : A.Fits K a) (ha : ∀ k, A.Has k → A.M (a k) k = 1)
    (hev : ∀ i k, A.M i k = 1 → A.ev i = BitVec.ofNat 32 (k.val / 256)) (i : Fin 16384) (k : Fin 512) :
    A.pair K i k = A.attract a i k + A.repel a i k := by
  have s1 : (1 : EReal) - 1 = 0 := by rw [← EReal.coe_one, ← EReal.coe_sub, sub_self, EReal.coe_zero]
  unfold pair attract repel
  by_cases h : A.Has k
  · rw [q_has hK h, charge_b, point_has hK h, ex_has h, hev (a k) k (ha k h)]
    rcases bit_cases (A.M i k) with e | e <;> rw [e]
    · rw [num_one, select_one, s1]; simp only [one_mul, mul_one, zero_mul, add_zero]
    · rw [num_zero, select_zero]
      rcases bit_cases (IntOp.cmpi .eq (A.ev i) (BitVec.ofNat 32 (k.val / 256))) with g | g <;> rw [g]
      · rw [num_one, select_one]; simp only [one_mul, mul_one, zero_mul, zero_add, sub_zero]
      · rw [num_zero, select_zero]; simp only [mul_zero, zero_mul, add_zero]
  · rw [q_none hK h, ex_none h]; simp only [mul_zero, zero_mul, add_zero]

/-- The part of a hit from what is kept is its part. -/
theorem share_eq (hK : A.Fits K a) (i : Fin 16384) (k : Fin 512) : A.share K i k = A.part a i k := by
  unfold share part
  rcases bit_cases (A.M i k) with e | e
  · rw [e, num_one, one_mul, safe_has hK ⟨i, e⟩]
    by_cases g : Ideal.ofBits .f32 0x3DCCCCCD#32 * A.b (a k) < A.b i
    · rw [decide_eq_true g, if_pos g, mul_one]; exact select_one _ _
    · rw [decide_eq_false g, if_neg g, mul_zero]; exact select_zero _ _
  · rw [e, num_zero, zero_mul, zero_mul]
    rcases bit_cases (BitVec.ofBool (decide (Ideal.ofBits .f32 0x3DCCCCCD#32 * K.safe k < A.b i))) with g | g <;> rw [g]
    all_goals exact select_zero _ _

/-- A part is a nonnegative real number. -/
theorem part_real (A : Arrays) (a : Fin 512 → Fin 16384) (i : Fin 16384) (k : Fin 512) :
    ∃ r : ℝ, A.part a i k = (r : EReal) ∧ 0 ≤ r := by
  obtain ⟨r, e, h0, -⟩ := A.b_real i
  unfold part
  rcases bit_cases (A.M i k) with g | g <;> rw [g]
  · rw [num_one, one_mul]
    split
    · exact ⟨r, by rw [mul_one, e], h0.le⟩
    · exact ⟨0, by rw [mul_zero, EReal.coe_zero], le_rfl⟩
  · exact ⟨0, by rw [num_zero, zero_mul, zero_mul, EReal.coe_zero], le_rfl⟩

/-- The finiteness the payload needs. -/
structure Finite (A : Arrays) : Prop where
  place : ∀ i d, Real' (A.place i d)
  time : ∀ i, Real' (A.time i)
  kind : ∀ i d, Real' (A.kind i d)
  trueEnergy : ∀ i, Real' (A.trueEnergy i)
  truePlace : ∀ i d, Real' (A.truePlace i d)
  trueTime : ∀ i, Real' (A.trueTime i)

/-- The weighted losses of a hit add up to the weighted total. -/
theorem total_eq (hA : A.Finite) (i : Fin 16384) : A.total i = ∑ j, A.pay i j * A.w i := by
  obtain ⟨c, hc⟩ := weight_real (hA.trueEnergy i)
  obtain ⟨r1, h1⟩ := placeLoss_real (hA.truePlace i) (hA.place i)
  obtain ⟨r2, h2⟩ := timeLoss_real (hA.trueTime i) (hA.time i)
  obtain ⟨r3, h3⟩ := kindLoss_real (hA.kind i)
  have e1 : A.pay i 1 = r1 := h1
  have e2 : A.pay i 2 = r2 := h2
  have e3 : A.pay i 3 = r3 := h3
  have ew : A.w i = c := hc
  rw [total, Fin.sum_univ_four, e1, e2, e3, ew, add_real_mul, add_real_mul, add_real_mul]

/-- The mean loss of an object, all four together, is the sum of the four means. -/
theorem mean_eq (hK : A.Fits K a) (hA : A.Finite) (k : Fin 512) :
    Ideal.div (num (K.on k) * ∑ i, A.share K i k * A.total i) ((∑ i, A.share K i k) + Ideal.ofBits .f32 0x3089705F#32)
      = ∑ j, A.ex k * Ideal.div (∑ i, A.part a i k * (A.pay i j * A.w i))
          ((∑ i, A.part a i k) + Ideal.ofBits .f32 0x3089705F#32) := by
  choose p hp hp0 using fun i => A.part_real a i k
  have hs : (∑ i, A.part a i k) = ((∑ i, p i : ℝ) : EReal) := by
    rw [sum_real]; exact Finset.sum_congr rfl fun i _ => hp i
  have hpos : 0 < (∑ i, p i) + 9007199 / 9007199254740992 :=
    add_pos_of_nonneg_of_pos (Finset.sum_nonneg fun i _ => hp0 i) (by norm_num)
  simp only [share_eq hK, on_eq hK, hs, lit_nano, ← EReal.coe_add, Ideal.div_coe hpos.ne']
  have hq : (0 : ℝ) ≤ 1 / ((∑ i, p i) + 9007199 / 9007199254740992) := (one_div_pos.mpr hpos).le
  have hm : (∑ i, A.part a i k * A.total i) = ∑ j, ∑ i, A.part a i k * (A.pay i j * A.w i) := by
    rw [Finset.sum_comm]
    refine Finset.sum_congr rfl fun i _ => ?_
    rw [total_eq hA, hp i, real_mul_sum _ (hp0 i)]
  rw [hm]
  by_cases h : A.Has k
  · rw [ex_has h, one_mul, sum_mul_real _ hq]
    exact Finset.sum_congr rfl fun j _ => (one_mul _).symm
  · rw [ex_none h]; simp only [zero_mul, Finset.sum_const_zero]

/-- The two arrangements of the loss are one number. -/
theorem joined_eq_apart (hK : A.Fits K a) (ha : ∀ k, A.Has k → A.M (a k) k = 1)
    (hev : ∀ i k, A.M i k = 1 → A.ev i = BitVec.ofNat 32 (k.val / 256)) (hA : A.Finite) :
    A.joined K = A.apart a := by
  have hn : (16384 : ℝ) ≠ 0 := by norm_num
  have e1 : Ideal.div (∑ k, ∑ i, A.pair K i k) (Ideal.ofBits .f32 0x46800000#32)
      = Ideal.div (∑ i, ∑ k, A.attract a i k) (Ideal.ofBits .f32 0x46800000#32)
        + Ideal.div (∑ i, ∑ k, A.repel a i k) (Ideal.ofBits .f32 0x46800000#32) := by
    rw [Finset.sum_comm]
    simp only [pair_eq hK ha hev, Finset.sum_add_distrib]
    rw [lit_count, Ideal.div_coe hn, Ideal.div_coe hn, Ideal.div_coe hn,
      EReal.right_distrib_of_nonneg_of_ne_top (EReal.coe_nonneg.mpr (by norm_num)) (EReal.coe_ne_top _)]
  have e2 : ∀ k, num (K.on k) * (1 - K.top k) = A.ex k * (1 - A.b (a k)) := fun k => by
    rw [on_eq hK]
    by_cases h : A.Has k
    · rw [((hK k).1 h).1]
    · rw [ex_none h, zero_mul, zero_mul]
  have e3 : ∀ i, Scalar.select (A.noise i) (A.b i) 0 = num (A.noise i) * A.b i := fun i => by
    rcases bit_cases (A.noise i) with e | e <;> rw [e]
    · rw [num_one, one_mul]; exact select_one _ _
    · rw [num_zero, zero_mul]; exact select_zero _ _
  unfold joined apart
  rw [e1, objects_eq hK]
  simp only [e2, e3, mean_eq hK hA]

end Arrays

end Cert.Value
-- ==== Proof.Value.Block.lean ====
module

public import proofs.«01_k».proof.Proof.Value.Equal

@[expose] public section

set_option maxRecDepth 16384

noncomputable section

/-! # The first highest score of a column

A column is a family of scores `u`, each with a bit saying whether it counts. -/

namespace Cert.Value

open Idealize.ShloMosaic
open scoped BigOperators

/-- Of the scores that count there is a first highest. -/
theorem exists_first {n : ℕ} (M : Fin n → BitVec 1) (u : Fin n → EReal) (h : ∃ r, M r = 1) :
    ∃ r, M r = 1 ∧ ∀ j, M j = 1 → u j ≤ u r ∧ (j < r → u j < u r) := by
  classical
  obtain ⟨r0, h0⟩ := h
  obtain ⟨m, hm, hmax⟩ := Finset.exists_max_image (Finset.univ.filter fun r => M r = 1) u ⟨r0, by simp [h0]⟩
  obtain ⟨r, hr, hmin⟩ := Finset.exists_min_image (Finset.univ.filter fun r => M r = 1 ∧ u r = u m) id
    ⟨m, by simpa using hm⟩
  simp only [Finset.mem_filter, Finset.mem_univ, true_and] at hm hmax hr hmin
  refine ⟨r, hr.1, fun j hj => ⟨hr.2 ▸ hmax j hj, fun hlt => lt_of_le_of_ne (hr.2 ▸ hmax j hj) fun e => ?_⟩⟩
  exact absurd (hmin j ⟨hj, e.trans hr.2⟩) (not_le.mpr hlt)

/-- The score of a row in a column, minus one where it does not count. -/
def entry {n : ℕ} (M : Fin n → BitVec 1) (u : Fin n → EReal) (r : Fin n) : EReal :=
  Scalar.select (M r) (u r) (Ideal.ofBits .f32 0xBF800000#32)

/-- The highest entry of a column. -/
def high {n : ℕ} (M : Fin n → BitVec 1) (u : Fin n → EReal) : EReal :=
  Finset.univ.fold max (Ideal.ofBits .f32 0xFF800000#32) (entry M u)

/-- Whether a row counts and holds the highest entry. -/
def holds {n : ℕ} (M : Fin n → BitVec 1) (u : Fin n → EReal) (r : Fin n) : BitVec 1 :=
  IntOp.andi (M r) (BitVec.ofBool (decide (entry M u r = high M u)))

/-- The lowest row number among those that hold the highest entry. -/
def lowest {n : ℕ} (M : Fin n → BitVec 1) (u : Fin n → EReal) : BitVec 32 :=
  Finset.univ.fold IntOp.minsi 2147483647#32 fun x => Scalar.select (holds M u x) (BitVec.ofNat 32 x.val) 16384#32

/-- Whether a row is the first that holds the highest entry. -/
def wins {n : ℕ} (M : Fin n → BitVec 1) (u : Fin n → EReal) (r : Fin n) : BitVec 1 :=
  IntOp.andi (holds M u r) (IntOp.cmpi .eq (BitVec.ofNat 32 r.val) (lowest M u))

theorem andi_one (x : BitVec 1) : IntOp.andi 1#1 x = x := by revert x; decide
theorem andi_zero (x : BitVec 1) : IntOp.andi 0#1 x = 0#1 := by revert x; decide

theorem ofBool_true {p : Prop} [Decidable p] (h : p) : BitVec.ofBool (decide p) = 1#1 := by rw [decide_eq_true h]; rfl
theorem ofBool_false {p : Prop} [Decidable p] (h : ¬ p) : BitVec.ofBool (decide p) = 0#1 := by rw [decide_eq_false h]; rfl

/-- A column none of whose rows counts has highest entry minus one. -/
theorem high_none {n : ℕ} (hn : 0 < n) {M : Fin n → BitVec 1} (u : Fin n → EReal) (h : ∀ r, M r = 0#1) :
    high M u = Ideal.ofBits .f32 0xBF800000#32 := by
  have e : ∀ r, entry M u r = Ideal.ofBits .f32 0xBF800000#32 := fun r => by rw [entry, h r]; exact select_zero _ _
  unfold high
  rw [lit_bottom]
  refine le_antisymm ((Finset.fold_max_le _).mpr ⟨bot_le, fun r _ => (e r).le⟩) ?_
  exact (Finset.le_fold_max _).mpr (.inr ⟨⟨0, hn⟩, Finset.mem_univ _, (e _).ge⟩)

section Some
variable {n : ℕ} {M : Fin n → BitVec 1} {u : Fin n → EReal} {r : Fin n}

theorem entry_own (h : M r = 1#1) : entry M u r = u r := by rw [entry, h]; exact select_one _ _

theorem entry_le (hu : ∀ r, 0 < u r) (hr : M r = 1#1) (ht : ∀ j, M j = 1#1 → u j ≤ u r) (j : Fin n) : entry M u j ≤ u r := by
  rcases bit_cases (M j) with e | e
  · rw [entry_own e]; exact ht j e
  · rw [entry, e, lit_neg_one]
    refine (select_zero _ _).le.trans ((?_ : ((-1 : ℝ) : EReal) ≤ 0).trans (hu r).le)
    exact_mod_cast (by norm_num : (-1 : ℝ) ≤ 0)

/-- The highest entry is the score of a top row. -/
theorem high_some (hu : ∀ r, 0 < u r) (hr : M r = 1#1) (ht : ∀ j, M j = 1#1 → u j ≤ u r) : high M u = u r := by
  unfold high
  rw [lit_bottom]
  refine le_antisymm ((Finset.fold_max_le _).mpr ⟨bot_le, fun j _ => entry_le hu hr ht j⟩) ?_
  exact (Finset.le_fold_max _).mpr (.inr ⟨r, Finset.mem_univ _, (entry_own hr).ge⟩)

theorem minsi_toInt (x y : BitVec 32) : (IntOp.minsi x y).toInt = min x.toInt y.toInt := by
  rw [IntOp.minsi, BitVec.slt_eq_decide]
  by_cases h : x.toInt < y.toInt
  · rw [decide_eq_true h, if_pos rfl, min_eq_left h.le]
  · rw [decide_eq_false h, if_neg (by simp), min_eq_right (not_lt.mp h)]

/-- The least of a family of words is a member no other is below. -/
theorem fold_minsi (f : Fin n → BitVec 32) (h : ∀ j, (f r).toInt ≤ (f j).toInt) :
    Finset.univ.fold IntOp.minsi 2147483647#32 f = f r := by
  have e := Finset.fold_hom (op := IntOp.minsi) (op' := min) (s := Finset.univ) (f := f) (b := 2147483647#32)
    (m := BitVec.toInt) minsi_toInt
  refine BitVec.eq_of_toInt_eq (e.symm.trans (le_antisymm ?_ ?_))
  · exact (Finset.fold_min_le _).mpr (.inr ⟨r, Finset.mem_univ _, le_rfl⟩)
  · refine (Finset.le_fold_min _).mpr ⟨?_, fun j _ => h j⟩
    have := (BitVec.toInt_lt (x := f r))
    norm_num at this
    exact Int.le_of_lt_add_one this

theorem ofNat_toInt {m : ℕ} (h : m ≤ 16384) : (BitVec.ofNat 32 m).toInt = (m : ℤ) := by
  rw [BitVec.toInt_eq_toNat_of_lt (by rw [BitVec.toNat_ofNat]; omega), BitVec.toNat_ofNat, Nat.mod_eq_of_lt (by omega)]

/-- The first top row, and no other, wins. -/
theorem wins_some (hn : n ≤ 16384) (hu : ∀ r, 0 < u r) (hr : M r = 1#1)
    (ht : ∀ j, M j = 1#1 → u j ≤ u r ∧ (j < r → u j < u r)) (j : Fin n) : wins M u j = if j = r then 1#1 else 0#1 := by
  have hh := high_some hu hr fun j h => (ht j h).1
  have hw : ∀ j, holds M u j = if M j = 1#1 ∧ u j = u r then 1#1 else 0#1 := fun j => by
    unfold holds
    rcases bit_cases (M j) with e | e
    · rw [e, andi_one, entry_own e, hh]
      by_cases g : u j = u r
      · rw [ofBool_true g, if_pos ⟨rfl, g⟩]
      · rw [ofBool_false g, if_neg fun c => g c.2]
    · rw [e, andi_zero, if_neg fun c => absurd c.1 (by decide)]
  have hl : lowest M u = BitVec.ofNat 32 r.val := by
    have e : ∀ j, Scalar.select (holds M u j) (BitVec.ofNat 32 j.val) 16384#32
        = if M j = 1#1 ∧ u j = u r then BitVec.ofNat 32 j.val else 16384#32 := fun j => by
      rw [hw]; split
      · exact select_one _ _
      · exact select_zero _ _
    have er := (e r).trans (if_pos ⟨hr, rfl⟩)
    refine (fold_minsi (r := r) _ fun j => ?_).trans er
    beta_reduce
    rw [er, e j, ofNat_toInt (r.isLt.le.trans hn)]
    split
    · rename_i c
      rw [ofNat_toInt (j.isLt.le.trans hn)]
      have : ¬ j < r := fun hlt => absurd ((ht j c.1).2 hlt) (by rw [c.2]; exact lt_irrefl _)
      exact_mod_cast not_lt.mp this
    · show (r.val : ℤ) ≤ 16384
      have := r.isLt; omega
  unfold wins
  rw [hl, hw]
  by_cases g : j = r
  · subst g; rw [if_pos ⟨hr, rfl⟩, if_pos rfl, andi_one]; simp [IntOp.cmpi]
  · rw [if_neg g]
    have hne : BitVec.ofNat 32 j.val ≠ BitVec.ofNat 32 r.val := fun c => g (Fin.ext (by
      have := congrArg BitVec.toInt c
      rw [ofNat_toInt (j.isLt.le.trans hn), ofNat_toInt (r.isLt.le.trans hn)] at this
      exact_mod_cast this))
    have hz : IntOp.cmpi .eq (BitVec.ofNat 32 j.val) (BitVec.ofNat 32 r.val) = 0#1 := by
      simp only [IntOp.cmpi, beq_eq_false_iff_ne.mpr hne]; rfl
    rw [hz]; split <;> decide

/-- Summing what the winner selects reads it at the first top row. -/
theorem sum_wins (hn : n ≤ 16384) (hu : ∀ r, 0 < u r) (hr : M r = 1#1)
    (ht : ∀ j, M j = 1#1 → u j ≤ u r ∧ (j < r → u j < u r)) (c : Fin n → EReal) :
    ∑ j, Scalar.select (wins M u j) (c j) 0 = c r := by
  rw [Finset.sum_eq_single r]
  · rw [wins_some hn hu hr ht, if_pos rfl]; exact select_one _ _
  · intro j _ hj; rw [wins_some hn hu hr ht, if_neg hj]; exact select_zero _ _
  · intro h; exact absurd (Finset.mem_univ r) h

end Some

end Cert.Value
-- ==== Proof.Value.Kernel.lean ====
module

public import proofs.«01_k».proof.Proof.KernelIdeal.Frame
public import proofs.«01_k».proof.Proof.Value.Block

@[expose] public section

set_option maxRecDepth 16384

noncomputable section

/-! # What the kernel's two passes compute, as mathematics -/

namespace Cert.KernelIdeal.Loss

open Cert.KernelIdeal Cert.KernelIdeal.Gen Cert.Value
open Idealize.ShloMosaic Idealize.ShloMosaic.TcCoe Idealize.ShloMosaic.Tactic
open scoped BigOperators

/-- The hit in row `r` of block `n`. -/
def row (n : ℕ) (r : Fin 1024) : Fin 16384 := ⟨(n * 1024 + r.val) % 16384, Nat.mod_lt _ (by norm_num)⟩

theorem row_val {n : ℕ} (hn : n < 16) (r : Fin 1024) : (row n r).val = n * 1024 + r.val :=
  Nat.mod_eq_of_lt (by have := r.isLt; omega)

/-- The block handed to the body is block `n` of the arrays. -/
structure IsBlk (A : Arrays) (n : ℕ) (X : Blk Ideal) : Prop where
  start : rs1 X.x0 = A.start
  score : ∀ r : Fin 1024, X.x1 (ix2 r 0) = A.score (row n r)
  coord : ∀ (r : Fin 1024) (d : Fin 2), X.x2 (ix2 r d) = A.coord (row n r) d
  energy : ∀ r : Fin 1024, X.x3 (ix2 r 0) = A.energy (row n r)
  place : ∀ (r : Fin 1024) (d : Fin 2), X.x4 (ix2 r d) = A.place (row n r) d
  time : ∀ r : Fin 1024, X.x5 (ix2 r 0) = A.time (row n r)
  kind : ∀ (r : Fin 1024) (d : Fin 6), X.x6 (ix2 r d) = A.kind (row n r) d
  truth : ∀ r : Fin 1024, X.x7 (ix2 r 0) = A.truth (row n r)
  trueEnergy : ∀ r : Fin 1024, X.x8 (ix2 r 0) = A.trueEnergy (row n r)
  trueTime : ∀ r : Fin 1024, X.x9 (ix2 r 0) = A.trueTime (row n r)
  truePlace0 : ∀ r : Fin 1024, X.x9 (ix2 r 1) = A.truePlace (row n r) 0
  truePlace1 : ∀ r : Fin 1024, X.x9 (ix2 r 2) = A.truePlace (row n r) 1

/-! ## The vector values of a block, entry by entry -/

section Block
variable {A : Arrays} {n : ℕ} {X : Blk Ideal} {i : grid0.Coords}

theorem score_at (hX : IsBlk A n X) (r : Fin 1024) : k0_pay2 X.x1 (ix2 r 0) = A.b (row n r) := by
  have e := hX.score r
  pointwise [k0_pay2]
  rw [e]; rfl

theorem row_word {n : ℕ} (hn : n < 16) (hi : (i 1).val = n) (r : Fin 1024) :
    IntOp.addi (BitVec.ofNat 32 r.val) (Scalar.muli (BitVec.ofNat 32 (i 1).val) 1024#32) = BitVec.ofNat 32 (row n r).val := by
  rw [row_val hn, hi]
  refine BitVec.eq_of_toNat_eq ?_
  simp only [IntOp.addi, Scalar.muli, IntOp.muli, BitVec.toNat_add, BitVec.toNat_mul, BitVec.toNat_ofNat]
  have := r.isLt
  omega

theorem event_at (hX : IsBlk A n X) (hn : n < 16) (hi : (i 1).val = n) (r : Fin 1024) :
    k0_pay1 (F := Ideal) i (rs1 X.x0) (ix2 r 0) = A.ev (row n r) := by
  have e := hX.start
  have h := row_word hn hi r
  pointwise [k0_pay1]
  rw [h, e]; rfl

theorem mask_at (hX : IsBlk A n X) (hn : n < 16) (hi : (i 1).val = n) (r : Fin 1024) (k : Fin 512) :
    k0_pay3 (F := Ideal) i (rs1 X.x0) X.x7 (ix2 r k) = A.M (row n r) k := by
  have e := hX.truth r
  have h := event_at hX hn hi r
  pointwise [k0_pay3]
  rw [h, e]; rfl

theorem high_at (u : FVec Ideal S1024x1 .f32) (M : IVec S1024x512 1) (k : Fin 512) :
    k0_pay17 (F := Ideal) u M (ix2 0 k) = high (fun x : Fin 1024 => M (ix2 x k)) (fun x : Fin 1024 => u (ix2 x 0)) := by
  pointwise [k0_pay17, k0_pay16]
  rfl

/-- The bit of a truth value does not depend on how it is decided. -/
theorem ofBool_any (p : Prop) (h h' : Decidable p) : BitVec.ofBool (@decide p h) = BitVec.ofBool (@decide p h') := by
  rw [Subsingleton.elim h h']

theorem wins_at (u : FVec Ideal S1024x1 .f32) (M : IVec S1024x512 1) (r : Fin 1024) (k : Fin 512) :
    k0_pay18 (F := Ideal) u M (ix2 r k) = wins (fun x : Fin 1024 => M (ix2 x k)) (fun x : Fin 1024 => u (ix2 x 0)) r := by
  have e := high_at u M k
  pointwise [k0_pay18, k0_pay16]
  simp only [e, wins, holds, lowest, entry]
  refine congrArg₂ IntOp.andi (congrArg _ (ofBool_any _ _ _)) (congrArg _ ?_)
  refine congrArg (fun f => Finset.fold _ _ f _) (funext fun x => ?_)
  exact congrArg (fun b => Scalar.select (IntOp.andi _ b) _ _) (ofBool_any _ _ _)

theorem at0_at (u : FVec Ideal S1024x1 .f32) (M : IVec S1024x512 1) (c : Vec Ideal S1024x1 .f32) (k : Fin 512) :
    k0_pay19 (F := Ideal) u M c (ix2 0 k)
      = ∑ r : Fin 1024, Scalar.select (wins (fun x : Fin 1024 => M (ix2 x k)) (fun x : Fin 1024 => u (ix2 x 0)) r) (c (ix2 r 0)) 0 := by
  have e := fun r => wins_at u M r k
  pointwise [k0_pay19]
  exact Finset.sum_congr rfl fun r _ => by rw [e]

theorem at1_at (u : FVec Ideal S1024x1 .f32) (M : IVec S1024x512 1) (c : Vec Ideal S1024x1 .f32) (k : Fin 512) :
    k0_pay20 (F := Ideal) u M c (ix2 0 k)
      = ∑ r : Fin 1024, Scalar.select (wins (fun x : Fin 1024 => M (ix2 x k)) (fun x : Fin 1024 => u (ix2 x 0)) r) (c (ix2 r 0)) 0 := by
  have e := fun r => wins_at u M r k
  pointwise [k0_pay20]
  exact Finset.sum_congr rfl fun r _ => by rw [e]

/-- Turning a bit into a number by way of a word. -/
theorem bit_number (b : BitVec 1) : (FloatOps.sitofp .f32 (BitVec.setWidth 32 b) : Ideal .f32) = num b := by
  rcases bit_cases b with e | e <;> subst e
  · rw [num_one]
    show (((BitVec.setWidth 32 1#1).toInt : ℝ) : EReal) = 1
    norm_num
  · rw [num_zero]
    show (((BitVec.setWidth 32 0#1).toInt : ℝ) : EReal) = 0
    norm_num

/-! ## The first pass -/

section First
variable (i) (X) (s : St Ideal) (k : Fin 512)

/-- The column of an object in a block: which rows count. -/
abbrev col (A : Arrays) (n : ℕ) (k : Fin 512) : Fin 1024 → BitVec 1 := fun x => A.M (row n x) k

/-- The scores of a block. -/
abbrev sco (A : Arrays) (n : ℕ) : Fin 1024 → EReal := fun x => A.b (row n x)

variable {i X}

theorem ph0_mb (hX : IsBlk A n X) (hn : n < 16) (hi : (i 1).val = n) :
    (ph0 i X s).mb (ix2 0 k) = if s.mb (ix2 0 k) < high (col A n k) (sco A n) then high (col A n k) (sco A n) else s.mb (ix2 0 k) := by
  have e := high_at (k0_pay2 X.x1) (k0_pay3 (F := Ideal) i (rs1 X.x0) X.x7) k
  simp only [mask_at hX hn hi, score_at hX] at e
  pointwise [ph0, k0_pay22, k0_pay21]
  rw [e]

theorem ph0_mx0 (hX : IsBlk A n X) (hn : n < 16) (hi : (i 1).val = n) :
    (ph0 i X s).mx0 (ix2 0 k) = if s.mb (ix2 0 k) < high (col A n k) (sco A n)
      then ∑ r, Scalar.select (wins (col A n k) (sco A n) r) (A.coord (row n r) 0) 0 else s.mx0 (ix2 0 k) := by
  have e := high_at (k0_pay2 X.x1) (k0_pay3 (F := Ideal) i (rs1 X.x0) X.x7) k
  have e' := at0_at (k0_pay2 X.x1) (k0_pay3 (F := Ideal) i (rs1 X.x0) X.x7) (c0of X.x2) k
  simp only [mask_at hX hn hi, score_at hX] at e e'
  pointwise [ph0, k0_pay4, k0_pay21]
  rw [e, e']
  simp only [c0of, ix2_0, hX.coord]

theorem ph0_mx1 (hX : IsBlk A n X) (hn : n < 16) (hi : (i 1).val = n) :
    (ph0 i X s).mx1 (ix2 0 k) = if s.mb (ix2 0 k) < high (col A n k) (sco A n)
      then ∑ r, Scalar.select (wins (col A n k) (sco A n) r) (A.coord (row n r) 1) 0 else s.mx1 (ix2 0 k) := by
  have e := high_at (k0_pay2 X.x1) (k0_pay3 (F := Ideal) i (rs1 X.x0) X.x7) k
  have e' := at1_at (k0_pay2 X.x1) (k0_pay3 (F := Ideal) i (rs1 X.x0) X.x7) (c1of X.x2) k
  simp only [mask_at hX hn hi, score_at hX] at e e'
  pointwise [ph0, k0_pay5, k0_pay21]
  rw [e, e']
  simp only [c1of, ix2_0, hX.coord]

theorem ph0_ss0 (hX : IsBlk A n X) :
    (ph0 i X s).ss (ix1 0) = s.ss (ix1 0) + ∑ r, Scalar.select (A.noise (row n r)) (A.b (row n r)) 0 := by
  have e := score_at hX
  have e' := hX.truth
  pointwise [ph0, pair, k0_pay7, k0_pay6]
  simp only [e, e', Fin.sum_univ_one, Finset.univ_unique, Finset.sum_singleton]
  rfl

theorem ph0_ss1 (hX : IsBlk A n X) :
    (ph0 i X s).ss (ix1 1) = s.ss (ix1 1) + ∑ r, num (A.noise (row n r)) := by
  have e' := hX.truth
  pointwise [ph0, pair, k0_pay8, k0_pay6]
  simp only [e', Finset.univ_unique, Finset.sum_singleton, bit_number]
  rfl

end First

end Block

end Cert.KernelIdeal.Loss
-- ==== Proof.Value.Passes.lean ====
module

public import proofs.«01_k».proof.Proof.Value.Kernel

@[expose] public section

set_option maxRecDepth 16384

noncomputable section

/-! # The two passes folded over the blocks -/

namespace Cert.KernelIdeal.Loss

open Cert.KernelIdeal Cert.KernelIdeal.Gen Cert.Value
open Idealize.ShloMosaic Idealize.ShloMosaic.TcCoe Idealize.ShloMosaic.Tactic
open scoped BigOperators

/-- What the scratch keeps of each object. -/
def kept (s : St Ideal) : Arrays.Kept := ⟨fun k => s.mb (ix2 0 k), fun k => s.mx0 (ix2 0 k), fun k => s.mx1 (ix2 0 k)⟩

/-- The event of an object, as the kernel divides its number. -/
theorem floor_word : ∀ k : Fin 512,
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 256#32 0#32))
            (Scalar.extui (Scalar.cmpi CmpIPredicate.slt 256#32 0#32))))
        (IntOp.cmpi CmpIPredicate.ne (IntOp.remsi ArithUnit.vector (BitVec.ofNat 32 k.val) 256#32) 0#32))
      (IntOp.subi (IntOp.divsi ArithUnit.vector (BitVec.ofNat 32 k.val) 256#32) 1#32)
      (IntOp.divsi ArithUnit.vector (BitVec.ofNat 32 k.val) 256#32)
    = BitVec.ofNat 32 (k.val / 256) := by decide +kernel

/-- The factor of the class loss, by its name. -/
theorem cls_value : (Named.named κ "cls" 0x30E5109F#32 : Ideal .f32) = (kindFactor : EReal) :=
  IdealRules.named_const.ideal_named_scalar _ _ _ _ rfl

theorem prep_qa (s : St Ideal) (k : Fin 512) : (prep s).qa (ix2 0 k) = (kept s).q k := by
  pointwise [prep, k0_pay32, k0_pay31, k0_pay30]
  rfl

theorem prep_thr (s : St Ideal) (k : Fin 512) :
    (prep s).thr (ix2 0 k) = Ideal.ofBits .f32 0x3DCCCCCD#32 * (kept s).safe k := by
  pointwise [prep, k0_pay33, k0_pay31, k0_pay30]
  rfl

section Second
variable {A : Arrays} {n : ℕ} {X : Blk Ideal} {i : grid0.Coords} {s : St Ideal} {k : Fin 512}

theorem ph1_acc (hX : IsBlk A n X) (hn : n < 16) (hi : (i 1).val = n) (hq : s.qa (ix2 0 k) = (kept s).q k) :
    (ph1 i X s).acc (ix2 0 k) = s.acc (ix2 0 k) + ∑ r, A.pair (kept s) (row n r) k := by
  have e1 := score_at hX
  have e2 := event_at hX hn hi
  have e3 := fun r => mask_at hX hn hi r k
  have e4 := floor_word k
  have e5 := hX.coord
  pointwise [ph1, k0_pay39, k0_pay38, k0_pay37, k0_pay36, k0_pay35, k0_pay34]
  refine congrArg (s.acc (ix2 0 k) + ·) (Finset.sum_congr rfl fun r _ => ?_)
  rw [e4, e3 r, e2 r, hq]
  simp only [c0of, c1of, ix2_0, e1, e5]
  rfl

theorem ph1_pws (hX : IsBlk A n X) (hn : n < 16) (hi : (i 1).val = n)
    (ht : s.thr (ix2 0 k) = Ideal.ofBits .f32 0x3DCCCCCD#32 * (kept s).safe k) :
    (ph1 i X s).pws (ix2 0 k) = s.pws (ix2 0 k) + ∑ r, A.share (kept s) (row n r) k := by
  have e1 := score_at hX
  have e3 := fun r => mask_at hX hn hi r k
  pointwise [ph1, k0_pay47, k0_pay46]
  refine congrArg (s.pws (ix2 0 k) + ·) (Finset.sum_congr rfl fun r _ => ?_)
  rw [e3 r, ht, e1 r]
  rfl

theorem select_mul (c : BitVec 1) (x y : EReal) : Scalar.select c (x * y) 0 = Scalar.select c x 0 * y := by
  rcases bit_cases c with e | e <;> subst e
  · rw [select_one, select_one]
  · rw [select_zero, select_zero, zero_mul]

theorem energy_at (u v : Vec Ideal S1024x1 .f32) (r : Fin 1024) :
    k0_pay43 (F := Ideal) u v (ix2 r 0) = energyLoss (u (ix2 r 0)) (v (ix2 r 0)) := by
  pointwise [k0_pay43]
  rfl

theorem ph1_pww (hX : IsBlk A n X) (hn : n < 16) (hi : (i 1).val = n)
    (ht : s.thr (ix2 0 k) = Ideal.ofBits .f32 0x3DCCCCCD#32 * (kept s).safe k) :
    (ph1 i X s).pww (ix2 0 k) = s.pww (ix2 0 k) + ∑ r, A.share (kept s) (row n r) k * A.total (row n r) := by
  have e1 := score_at hX
  have e3 := fun r => mask_at hX hn hi r k
  have e4 := fun r => energy_at X.x8 X.x3 r
  pointwise [ph1, k0_pay48, k0_pay46, k0_pay40, k0_pay41, k0_pay42, k0_pay44, k0_pay45]
  refine congrArg (s.pww (ix2 0 k) + ·) (Finset.sum_congr rfl fun r _ => ?_)
  rw [e3 r, ht, e1 r, select_mul, e4 r, cls_value]
  simp only [c0of, c1of, t0of, t1of, t2of, ix2_0, hX.energy, hX.place, hX.time, hX.kind, hX.trueEnergy, hX.trueTime,
    hX.truePlace0, hX.truePlace1]
  rfl

end Second

/-! ## The end -/

theorem fin_at (s : St Ideal) (K : Arrays.Kept) (hK : kept s = K) : fin s (ix2 0 0)
    = Ideal.div (∑ k : Fin 512, s.acc (ix2 0 k)) (Ideal.ofBits .f32 0x46800000#32)
      + Ideal.div (∑ k, num (K.on k) * (1 - K.top k)) K.objects
      + Ideal.div (s.ss (ix1 0)) (max (s.ss (ix1 1)) 1)
      + Ideal.div (∑ k : Fin 512, Ideal.div (num (K.on k) * s.pww (ix2 0 k)) (s.pws (ix2 0 k) + Ideal.ofBits .f32 0x3089705F#32))
          K.objects := by
  subst hK
  pointwise [fin, k0_pay9, k0_pay25, k0_pay26, k0_pay27, k0_pay28, k0_pay29, k0_pay24, k0_pay23]
  simp only [Finset.univ_unique, Finset.sum_singleton, bit_number]
  rfl

end Cert.KernelIdeal.Loss
-- ==== Proof.Value.Fold.lean ====
module

public import proofs.«01_k».proof.Proof.Value.Passes

@[expose] public section

set_option maxRecDepth 16384

noncomputable section

/-! # The kernel's value: the blocks one after the other -/

namespace Cert.KernelIdeal.Loss

open Cert.KernelIdeal Cert.KernelIdeal.Gen Cert.Value
open Idealize.ShloMosaic Idealize.ShloMosaic.TcCoe Idealize.ShloMosaic.Tactic
open scoped BigOperators

/-- A sum over the hits of the first `n` blocks. -/
def upTo (f : Fin 16384 → EReal) (n : ℕ) : EReal := ∑ t ∈ Finset.range n, ∑ r : Fin 1024, f (row t r)

theorem upTo_zero (f : Fin 16384 → EReal) : upTo f 0 = 0 := by simp [upTo]
theorem upTo_succ (f : Fin 16384 → EReal) (n : ℕ) : upTo f (n + 1) = upTo f n + ∑ r : Fin 1024, f (row n r) :=
  Finset.sum_range_succ _ _

/-- All sixteen blocks together are all hits. -/
theorem upTo_all (f : Fin 16384 → EReal) : upTo f 16 = ∑ i, f i := by
  rw [Fin.sum_univ_tiles 16 1024 rfl f, upTo, Finset.sum_range]
  refine Finset.sum_congr rfl fun t _ => Finset.sum_congr rfl fun r _ => congrArg f (Fin.ext ?_)
  exact row_val t.isLt r

/-- What is known of an object after `n` blocks: the first highest of its hits so far, or that it has none so far. -/
def Seen (A : Arrays) (n : ℕ) (s : St Ideal) (k : Fin 512) : Prop :=
  (∃ i, A.TopIn (n * 1024) k i ∧ s.mb (ix2 0 k) = A.b i ∧ s.mx0 (ix2 0 k) = A.coord i 0 ∧ s.mx1 (ix2 0 k) = A.coord i 1)
    ∨ ((∀ i : Fin 16384, i.val < n * 1024 → A.M i k = 0#1) ∧ s.mb (ix2 0 k) = Ideal.ofBits .f32 0xBF800000#32)

/-- The scratch after `n` blocks of the first pass. -/
structure First (A : Arrays) (n : ℕ) (s : St Ideal) : Prop where
  seen : ∀ k, Seen A n s k
  ss0 : s.ss (ix1 0) = upTo (fun i => Scalar.select (A.noise i) (A.b i) 0) n
  ss1 : s.ss (ix1 1) = upTo (fun i => num (A.noise i)) n
  acc : ∀ k : Fin 512, s.acc (ix2 0 k) = 0
  pws : ∀ k : Fin 512, s.pws (ix2 0 k) = 0
  pww : ∀ k : Fin 512, s.pww (ix2 0 k) = 0

theorem init_at (s : St Ideal) (k : Fin 512) : (init s).mb (ix2 0 k) = Ideal.ofBits .f32 0xBF800000#32
    ∧ (init s).acc (ix2 0 k) = 0 ∧ (init s).pws (ix2 0 k) = 0 ∧ (init s).pww (ix2 0 k) = 0
    ∧ (init s).ss (ix1 0) = 0 ∧ (init s).ss (ix1 1) = 0 := by
  refine ⟨?_, ?_, ?_, ?_, ?_, ?_⟩ <;> pointwise [init, pair, k0_pay10, k0_pay13, k0_pay14, k0_pay15] <;> rfl

theorem first_init (A : Arrays) (s : St Ideal) : First A 0 (init s) where
  seen k := .inr ⟨fun i hi => absurd hi (by omega), (init_at s k).1⟩
  ss0 := by rw [upTo_zero]; exact (init_at s 0).2.2.2.2.1
  ss1 := by rw [upTo_zero]; exact (init_at s 0).2.2.2.2.2
  acc k := (init_at s k).2.1
  pws k := (init_at s k).2.2.1
  pww k := (init_at s k).2.2.2.1

section Step
variable {A : Arrays} {n : ℕ} {X : Blk Ideal} {i : grid0.Coords} {s : St Ideal}

theorem neg_one_lt : Ideal.ofBits .f32 0xBF800000#32 < 0 := by
  rw [lit_neg_one, ← EReal.coe_zero, EReal.coe_lt_coe_iff]; norm_num

/-- A hit before the end of block `n` is before it or in it. -/
theorem before_or_in (hn : n < 16) (j : Fin 16384) (hj : j.val < (n + 1) * 1024) :
    j.val < n * 1024 ∨ ∃ r : Fin 1024, j = row n r := by
  by_cases h : j.val < n * 1024
  · exact .inl h
  · refine .inr ⟨⟨j.val - n * 1024, by omega⟩, Fin.ext ?_⟩
    rw [row_val hn]; show j.val = n * 1024 + (j.val - n * 1024); omega

theorem seen_step (hX : IsBlk A n X) (hn : n < 16) (hi : (i 1).val = n) (k : Fin 512) (h : Seen A n s k) :
    Seen A (n + 1) (ph0 i X s) k := by
  have hu : ∀ r, 0 < sco A n r := fun r => Arrays.b_pos A _
  have emb := ph0_mb s k hX hn hi
  have e0 := ph0_mx0 s k hX hn hi
  have e1 := ph0_mx1 s k hX hn hi
  by_cases hr : ∃ r, col A n k r = 1
  · obtain ⟨r, hr, ht⟩ := exists_first (col A n k) (sco A n) hr
    have hh : high (col A n k) (sco A n) = A.b (row n r) := high_some hu hr fun j hj => (ht j hj).1
    rw [hh] at emb e0 e1
    rw [sum_wins (by norm_num) hu hr ht fun r => A.coord (row n r) 0] at e0
    rw [sum_wins (by norm_num) hu hr ht fun r => A.coord (row n r) 1] at e1
    have take : s.mb (ix2 0 k) < A.b (row n r) → (∀ j : Fin 16384, j.val < n * 1024 → A.M j k = 1 → A.b j < A.b (row n r)) →
        Seen A (n + 1) (ph0 i X s) k := fun hlt hold => by
      rw [if_pos hlt] at emb e0 e1
      refine .inl ⟨row n r, ⟨hr, by rw [row_val hn]; have := r.isLt; omega, fun j hj hM => ?_⟩, emb, e0, e1⟩
      rcases before_or_in hn j hj with hb | ⟨r', rfl⟩
      · exact ⟨(hold j hb hM).le, fun _ => hold j hb hM⟩
      · refine ⟨(ht r' hM).1, fun hlt => (ht r' hM).2 ?_⟩
        have : (row n r').val < (row n r).val := hlt
        rw [row_val hn, row_val hn] at this
        exact Fin.lt_def.mpr (by omega)
    rcases h with ⟨i0, htop, m, x0, x1⟩ | ⟨hnone, m⟩
    · by_cases hlt : A.b i0 < A.b (row n r)
      · exact take (m ▸ hlt) fun j hj hM => lt_of_le_of_lt (htop.2.2 j hj hM).1 hlt
      · rw [m, if_neg hlt] at emb e0 e1
        refine .inl ⟨i0, ⟨htop.1, by have := htop.2.1; omega, fun j hj hM => ?_⟩, emb, e0.trans x0, e1.trans x1⟩
        rcases before_or_in hn j hj with hb | ⟨r', rfl⟩
        · exact htop.2.2 j hb hM
        · refine ⟨(ht r' hM).1.trans (not_lt.mp hlt), fun h' => absurd (Fin.lt_def.mp h') ?_⟩
          rw [row_val hn]; have := htop.2.1; omega
    · refine take ?_ fun j hj hM => absurd ((hnone j hj).symm.trans hM) (by decide)
      rw [m]
      exact neg_one_lt.trans (Arrays.b_pos A _)
  · have hz : ∀ r, col A n k r = 0#1 := fun r => (bit_cases _).resolve_left fun e => hr ⟨r, e⟩
    rw [high_none (by norm_num) _ hz] at emb e0 e1
    have hnot : ¬ s.mb (ix2 0 k) < Ideal.ofBits .f32 0xBF800000#32 := by
      rcases h with ⟨i0, -, m, -, -⟩ | ⟨-, m⟩
      · rw [m]
        exact not_lt.mpr (neg_one_lt.trans (Arrays.b_pos A i0)).le
      · rw [m]; exact lt_irrefl _
    rw [if_neg hnot] at emb e0 e1
    rcases h with ⟨i0, htop, m, x0, x1⟩ | ⟨hnone, m⟩
    · refine .inl ⟨i0, ⟨htop.1, by have := htop.2.1; omega, fun j hj hM => ?_⟩, emb.trans m, e0.trans x0, e1.trans x1⟩
      rcases before_or_in hn j hj with hb | ⟨r', rfl⟩
      · exact htop.2.2 j hb hM
      · exact absurd ((hz r').symm.trans hM) (by decide)
    · refine .inr ⟨fun j hj => ?_, emb.trans m⟩
      rcases before_or_in hn j hj with hb | ⟨r', rfl⟩
      · exact hnone j hb
      · exact hz r'

theorem first_step (hX : IsBlk A n X) (hn : n < 16) (hi : (i 1).val = n) (h : First A n s) : First A (n + 1) (ph0 i X s) where
  seen k := seen_step hX hn hi k (h.seen k)
  ss0 := by rw [ph0_ss0 s hX, h.ss0, upTo_succ]
  ss1 := by rw [ph0_ss1 s hX, h.ss1, upTo_succ]
  acc := h.acc
  pws := h.pws
  pww := h.pww

/-- The scratch after `n` blocks of the second pass. -/
structure Second (A : Arrays) (K : Arrays.Kept) (n : ℕ) (s : St Ideal) : Prop where
  kept : kept s = K
  qa : ∀ k : Fin 512, s.qa (ix2 0 k) = K.q k
  thr : ∀ k : Fin 512, s.thr (ix2 0 k) = Ideal.ofBits .f32 0x3DCCCCCD#32 * K.safe k
  ss0 : s.ss (ix1 0) = upTo (fun i => Scalar.select (A.noise i) (A.b i) 0) 16
  ss1 : s.ss (ix1 1) = upTo (fun i => num (A.noise i)) 16
  acc : ∀ k : Fin 512, s.acc (ix2 0 k) = upTo (fun i => A.pair K i k) n
  pws : ∀ k : Fin 512, s.pws (ix2 0 k) = upTo (fun i => A.share K i k) n
  pww : ∀ k : Fin 512, s.pww (ix2 0 k) = upTo (fun i => A.share K i k * A.total i) n

theorem second_prep (h : First A 16 s) : Second A (Loss.kept s) 0 (prep s) where
  kept := rfl
  qa := prep_qa s
  thr := prep_thr s
  ss0 := h.ss0
  ss1 := h.ss1
  acc k := (h.acc k).trans (upTo_zero _).symm
  pws k := (h.pws k).trans (upTo_zero _).symm
  pww k := (h.pww k).trans (upTo_zero _).symm

theorem second_step {K : Arrays.Kept} (hX : IsBlk A n X) (hn : n < 16) (hi : (i 1).val = n) (h : Second A K n s) :
    Second A K (n + 1) (ph1 i X s) where
  kept := h.kept
  qa := h.qa
  thr := h.thr
  ss0 := h.ss0
  ss1 := h.ss1
  acc k := by rw [ph1_acc hX hn hi (by rw [h.kept]; exact h.qa k), h.acc k, upTo_succ, h.kept]
  pws k := by rw [ph1_pws hX hn hi (by rw [h.kept]; exact h.thr k), h.pws k, upTo_succ, h.kept]
  pww k := by rw [ph1_pww hX hn hi (by rw [h.kept]; exact h.thr k), h.pww k, upTo_succ, h.kept]

/-- What the last point writes is the loss in one sum. -/
theorem fin_joined {K : Arrays.Kept} (h : Second A K 16 s) : fin s (ix2 0 0) = A.joined K := by
  rw [fin_at s K h.kept, h.ss0, h.ss1, Arrays.joined]
  simp only [h.acc, h.pws, h.pww, upTo_all, one_mul]

/-- What the first pass keeps fits any choice of first highest hits. -/
theorem kept_fits (h : First A 16 s) (a : Fin 512 → Fin 16384) (ha : ∀ k, A.Has k → A.TopIn 16384 k (a k)) :
    A.Fits (Loss.kept s) a := fun k => by
  rcases h.seen k with ⟨i0, htop, m, x0, x1⟩ | ⟨hnone, m⟩
  · refine ⟨fun hk => ?_, fun hk => absurd ⟨i0, htop.1⟩ hk⟩
    have ht := ha k hk
    have e : a k = i0 := by
      have h1 := htop.2.2 (a k) (a k).isLt ht.1
      have h2 := ht.2.2 i0 i0.isLt htop.1
      rcases lt_trichotomy (a k) i0 with c | c | c
      · exact absurd (h1.2 c) (not_lt.mpr h2.1)
      · exact c
      · exact absurd (h2.2 c) (not_lt.mpr h1.1)
    rw [e]; exact ⟨m, x0, x1⟩
  · exact ⟨fun ⟨i, hi⟩ => absurd ((hnone i i.isLt).symm.trans hi) (by decide), fun _ => m⟩

end Step

/-! ## The whole grid -/

variable (m : (ℓ : Loc nD τ sig) → Buf (Elt Ideal) ℓ) (c : Dev nD)

theorem coords_second : ∀ t : Fin cfg0.N, (grid0.coords t 1).val = t.val % 16 := by decide +kernel

theorem iter_first {A : Arrays} (hA : ∀ t : Fin cfg0.N, IsBlk A (t.val % 16) (blk m c t)) (s : St Ideal) :
    ∀ n : ℕ, n < 16 → First A (n + 1) (iter m c s (n + 1)) := by
  intro n
  induction n with
  | zero =>
    intro _
    have e := iter_succ m c s ⟨0, of32 (by norm_num)⟩
    rw [step_zero _ rfl] at e
    rw [show iter m c s (0 + 1) = _ from e]
    exact first_step (hA ⟨0, of32 (by norm_num)⟩) (by norm_num) (coords_second ⟨0, of32 (by norm_num)⟩) (first_init A _)
  | succ n ih =>
    intro hn
    have e := iter_succ m c s ⟨n + 1, of32 (by omega)⟩
    rw [step_first _ (Nat.succ_pos n) hn] at e
    rw [show iter m c s (n + 1 + 1) = _ from e]
    have hb := hA ⟨n + 1, of32 (by omega)⟩
    have hc := coords_second ⟨n + 1, of32 (by omega)⟩
    rw [show (n + 1) % 16 = n + 1 from Nat.mod_eq_of_lt hn] at hb hc
    exact first_step hb hn hc (ih (by omega))

theorem iter_second {A : Arrays} (hA : ∀ t : Fin cfg0.N, IsBlk A (t.val % 16) (blk m c t)) (s : St Ideal) :
    ∀ n : ℕ, n < 16 → Second A (kept (iter m c s 16)) (n + 1) (iter m c s (16 + n + 1)) := by
  intro n
  induction n with
  | zero =>
    intro _
    have e := iter_succ m c s ⟨16, of32 (by norm_num)⟩
    rw [step_turn _ rfl] at e
    rw [show iter m c s (16 + 0 + 1) = _ from e]
    have hb := hA ⟨16, of32 (by norm_num)⟩
    have hc := coords_second ⟨16, of32 (by norm_num)⟩
    rw [show 16 % 16 = 0 from rfl] at hb hc
    exact second_step hb (by norm_num) hc (second_prep (iter_first m c hA s 15 (by norm_num)))
  | succ n ih =>
    intro hn
    have e := iter_succ m c s ⟨16 + (n + 1), of32 (by omega)⟩
    rw [step_second _ (by show 16 < 16 + (n + 1); omega)] at e
    rw [show iter m c s (16 + (n + 1) + 1) = _ from e]
    have hb := hA ⟨16 + (n + 1), of32 (by omega)⟩
    have hc := coords_second ⟨16 + (n + 1), of32 (by omega)⟩
    rw [show (16 + (n + 1)) % 16 = n + 1 by omega] at hb hc
    exact second_step hb hn hc (ih (by omega))

/-- The kernel's result: the loss in one sum, from what fits any choice of first highest hits. -/
theorem kernel_value {A : Arrays} (hA : ∀ t : Fin cfg0.N, IsBlk A (t.val % 16) (blk m c t)) (s : St Ideal)
    (a : Fin 512 → Fin 16384) (ha : ∀ k, A.Has k → A.TopIn 16384 k (a k)) :
    ∃ K, A.Fits K a ∧ fin (iter m c s 32) (ix2 0 0) = A.joined K :=
  ⟨_, kept_fits (iter_first m c hA s 15 (by norm_num)) a ha, fin_joined (iter_second m c hA s 15 (by norm_num))⟩

end Cert.KernelIdeal.Loss
-- ==== Proof.Value.Inputs.lean ====
module

public import proofs.«01_k».proof.Proof.Value.Fold
public import Idealize.ShloMosaic.Lib.Pipeline.ValueKit

@[expose] public section

set_option maxRecDepth 16384

noncomputable section

/-! # The argument arrays as mathematics, and the blocks the kernel is handed -/

namespace Cert.Value

open Idealize.ShloMosaic

/-- The argument arrays of either program, read as functions of a hit. -/
def arrays (x0 : (⟨2, ![16384, 1]⟩ : Shape).Idx → EReal) (x1 : (⟨2, ![16384, 2]⟩ : Shape).Idx → EReal)
    (x2 : (⟨2, ![16384, 1]⟩ : Shape).Idx → EReal) (x3 : (⟨2, ![16384, 2]⟩ : Shape).Idx → EReal)
    (x4 : (⟨2, ![16384, 1]⟩ : Shape).Idx → EReal) (x5 : (⟨2, ![16384, 6]⟩ : Shape).Idx → EReal)
    (x6 : (⟨2, ![16384, 1]⟩ : Shape).Idx → BitVec 32) (x7 : (⟨2, ![16384, 1]⟩ : Shape).Idx → EReal)
    (x8 : (⟨2, ![16384, 2]⟩ : Shape).Idx → EReal) (x9 : (⟨2, ![16384, 1]⟩ : Shape).Idx → EReal)
    (x11 : (⟨1, ![3]⟩ : Shape).Idx → BitVec 32) : Arrays where
  score i := x0 (ix2 i 0)
  coord i d := x1 (ix2 i d)
  energy i := x2 (ix2 i 0)
  place i d := x3 (ix2 i d)
  time i := x4 (ix2 i 0)
  kind i d := x5 (ix2 i d)
  truth i := x6 (ix2 i 0)
  trueEnergy i := x7 (ix2 i 0)
  truePlace i d := x8 (ix2 i d)
  trueTime i := x9 (ix2 i 0)
  start := x11 (ix1 1)

end Cert.Value

namespace Cert.KernelIdeal.Loss

open Cert.KernelIdeal Cert.KernelIdeal.Gen Cert.Value
open Idealize.ShloMosaic Idealize.ShloMosaic.TcCoe Idealize.ShloMosaic.Tactic

variable (m : (ℓ : Loc nD τ sig) → Buf (Elt Ideal) ℓ) (c : Dev nD)

/-- The arrays one device's memory holds when the program starts. -/
def held : Arrays := arrays (m ((c.tc : Thread nD τ).loc main_arg0)) (m ((c.tc : Thread nD τ).loc main_arg1))
  (m ((c.tc : Thread nD τ).loc main_arg2)) (m ((c.tc : Thread nD τ).loc main_arg3)) (m ((c.tc : Thread nD τ).loc main_arg4))
  (m ((c.tc : Thread nD τ).loc main_arg5)) (m ((c.tc : Thread nD τ).loc main_arg6)) (m ((c.tc : Thread nD τ).loc main_arg7))
  (m ((c.tc : Thread nD τ).loc main_arg8)) (m ((c.tc : Thread nD τ).loc main_arg9)) (m ((c.tc : Thread nD τ).loc main_arg11))

/-- Which block each window stages at a grid point. -/
theorem index_at : ∀ t : Fin cfg0.N, win0_0.index t = ![0] ∧ win0_1.index t = ![t.val % 16, 0]
    ∧ win0_2.index t = ![t.val % 16, 0] ∧ win0_3.index t = ![t.val % 16, 0] ∧ win0_4.index t = ![t.val % 16, 0]
    ∧ win0_5.index t = ![t.val % 16, 0] ∧ win0_6.index t = ![t.val % 16, 0] ∧ win0_7.index t = ![t.val % 16, 0]
    ∧ win0_8.index t = ![t.val % 16, 0] ∧ win0_9.index t = ![t.val % 16, 0] :=
  (by decide +kernel : ∀ t : Fin grid0.N, _)

/-- The true times and places side by side, as the kernel is handed them. -/
theorem V_joined : V m c main_v0 = concatenate S16384x3 1 [⟨S16384x1, m ((c.tc : Thread nD τ).loc main_arg9)⟩, ⟨S16384x2, m ((c.tc : Thread nD τ).loc main_arg8)⟩]
    concatenates_S16384x1_S16384x2_S16384x3_d1 := by
  show StableHlo.after hostOps0 _ _ = _
  simp only [hostOps0, StableHlo.after]
  exact StableHlo.binary_result ..

theorem V_joined0 (i : Fin 16384) : V m c main_v0 (ix2 i 0) = (m ((c.tc : Thread nD τ).loc main_arg9) (ix2 i 0) : EReal) := by
  rw [V_joined]; pointwise []

theorem V_joined1 (i : Fin 16384) : V m c main_v0 (ix2 i 1) = (m ((c.tc : Thread nD τ).loc main_arg8) (ix2 i 0) : EReal) := by
  rw [V_joined]; pointwise []

theorem V_joined2 (i : Fin 16384) : V m c main_v0 (ix2 i 2) = (m ((c.tc : Thread nD τ).loc main_arg8) (ix2 i 1) : EReal) := by
  rw [V_joined]; pointwise []

variable (t : Fin cfg0.N) (r : Fin 1024)

theorem row_at : (row (t.val % 16) r).val = t.val % 16 * 1024 + r.val := row_val (n := t.val % 16) (by omega) r

theorem start_at : rs1 (iblk m c 0 t) = m ((c.tc : Thread nD τ).loc main_arg11) (ix1 1) := by
  have e : iblk m c 0 t = m ((c.tc : Thread nD τ).loc main_arg11) := by blk_ext! [iblk, V, index_at t]
  rw [e]
theorem hits_1 : iblk m c 1 t (ix2 r 0) = m ((c.tc : Thread nD τ).loc main_arg0) (ix2 (row (t.val % 16) r) 0) := by
  blk_ext [iblk, V, index_at t, row_at t r]
theorem hits_2 (d : Fin 2) : iblk m c 2 t (ix2 r d) = m ((c.tc : Thread nD τ).loc main_arg1) (ix2 (row (t.val % 16) r) d) := by
  blk_ext [iblk, V, index_at t, row_at t r]
theorem hits_3 : iblk m c 3 t (ix2 r 0) = m ((c.tc : Thread nD τ).loc main_arg2) (ix2 (row (t.val % 16) r) 0) := by
  blk_ext [iblk, V, index_at t, row_at t r]
theorem hits_4 (d : Fin 2) : iblk m c 4 t (ix2 r d) = m ((c.tc : Thread nD τ).loc main_arg3) (ix2 (row (t.val % 16) r) d) := by
  blk_ext [iblk, V, index_at t, row_at t r]
theorem hits_5 : iblk m c 5 t (ix2 r 0) = m ((c.tc : Thread nD τ).loc main_arg4) (ix2 (row (t.val % 16) r) 0) := by
  blk_ext [iblk, V, index_at t, row_at t r]
theorem hits_6 (d : Fin 6) : iblk m c 6 t (ix2 r d) = m ((c.tc : Thread nD τ).loc main_arg5) (ix2 (row (t.val % 16) r) d) := by
  blk_ext [iblk, V, index_at t, row_at t r]
theorem hits_7 : iblk m c 7 t (ix2 r 0) = m ((c.tc : Thread nD τ).loc main_arg6) (ix2 (row (t.val % 16) r) 0) := by
  blk_ext [iblk, V, index_at t, row_at t r]
theorem hits_8 : iblk m c 8 t (ix2 r 0) = m ((c.tc : Thread nD τ).loc main_arg7) (ix2 (row (t.val % 16) r) 0) := by
  blk_ext [iblk, V, index_at t, row_at t r]
theorem hits_9 (d : Fin 3) : iblk m c 9 t (ix2 r d) = V m c main_v0 (ix2 (row (t.val % 16) r) d) := by
  blk_ext [iblk, index_at t, row_at t r]

/-- At every grid point the windows hold the point's block of hits. -/
theorem blk_is : IsBlk (held m c) (t.val % 16) (blk m c t) :=
  ⟨start_at m c t, hits_1 m c t, hits_2 m c t, hits_3 m c t, hits_4 m c t, hits_5 m c t, hits_6 m c t, hits_7 m c t, hits_8 m c t,
    fun r => (hits_9 m c t r 0).trans (V_joined0 m c _), fun r => (hits_9 m c t r 1).trans (V_joined1 m c _),
    fun r => (hits_9 m c t r 2).trans (V_joined2 m c _)⟩

/-- A one-by-one array has one entry. -/
theorem one_entry (f : S1x1.Idx → EReal) (x : S1x1.Idx) : f x = f (ix2 0 0) := by
  refine congrArg f (funext fun a => Fin.ext ?_)
  have h := (x a).isLt
  match a, h with
  | 0, h => exact Nat.lt_one_iff.mp h
  | 1, h => exact Nat.lt_one_iff.mp h

/-- The output array, flushed once, at the last grid point. -/
theorem out_array : (dats m 0 c).arrAt 10 cfg0.N = fun _ => fin (iter m c zeroSt 32) (ix2 0 0) := by
  refine (dats m 0 c).arrAt_eq_of_after_last 10 ⟨31, of32 (by norm_num)⟩ (by decide +kernel) _ fun j => ?_
  have h : ∀ x, (dats m 0 c).after 10 ⟨31, of32 (by norm_num)⟩ x = fin (iter m c zeroSt 32) (ix2 0 0) := fun x =>
    one_entry (fin (iter m c zeroSt 32)) x
  exact h _

/-- What the program's result holds at the end. -/
theorem result_end : Pipeline.afterTail₀ cfgs (dats m) 0 (V0 m) [hostOps1] c main_v2 = fun _ => fin (iter m c zeroSt 32) (ix2 0 0) := by
  unfold Pipeline.afterTail₀
  show StableHlo.after hostOps1 _ _ = _
  simp only [hostOps1, StableHlo.after]
  refine (StableHlo.reshape_result main_v1 main_v2 (rfl : (.f32 : EltTy) = .f32) shapeCasts_S1x1_S_ _ _ _).trans ?_
  have e := (Pipeline.withArrays_arr spec0 (by decide) c (V0 m c) (fun w => (dats m 0 c).arrAt w cfg0.N) 10).trans (out_array m c)
  funext i
  exact congrFun e _

end Cert.KernelIdeal.Loss

end
-- ==== Proof.Value.Inputs_ok.lean ====
module

public import proofs.«01_k».proof.Proof.Value.Inputs
public import proofs.«01_k».proof.Proof.Gen.Pre_inputs_ok
public import proofs.«01_k».proof.Defs

@[expose] public section

set_option maxRecDepth 16384

noncomputable section

/-! # What the precondition says of the arrays -/

namespace Cert.Value

open Idealize.ShloMosaic Idealize.ShloMosaic.TcCoe Idealize.ShloMosaic.Tactic
open Cert.Pre_inputs_ok
open scoped BigOperators

theorem and_one {x y : BitVec 1} : IntOp.andi x y = 1#1 ↔ x = 1#1 ∧ y = 1#1 := by
  rcases bit_cases x with h | h <;> rcases bit_cases y with h' | h' <;> rw [h, h'] <;> decide

theorem true_of_one {b : Bool} (h : BitVec.ofBool b = 1#1) : b = true := by
  revert h; cases b <;> decide

/-- Where the bits of an array are all anded together into a one, each of them is one. -/
theorem all_of_and {s t : Shape} {axes : List (Fin s.rank)} (x : s.Idx → BitVec 1) (h : s.ReducesTo axes t) (hu : 0 < S_.numel) (j : t.Idx)
    (e : Host.reduce IntOp.andi x (constantI S_ 1 1#1) h hu j = 1#1) (i : s.Idx) (hi : h.drop i = j) : x i = 1#1 := by
  rw [Host.reduce_eq_fold] at e
  have := (Finset.fold_op_rel_iff_and (op := IntOp.andi) (r := fun (_ y : BitVec 1) => y = 1#1) (fun {_ _ _} => and_one)
    (c := 1#1)).mp e
  exact this.2 i (Finset.mem_filter.mpr ⟨Finset.mem_univ _, hi⟩)

/-- The same where every axis goes. -/
theorem all_of_total {s : Shape} {axes : List (Fin s.rank)} (x : s.Idx → BitVec 1) (h : s.ReducesTo axes S_) (hu : 0 < S_.numel)
    (e : Host.reduce IntOp.andi x (constantI S_ 1 1#1) h hu ix0 = 1#1) (i : s.Idx) : x i = 1#1 :=
  all_of_and x h hu ix0 e i (funext fun a => a.elim0)

/-- A value below infinity in magnitude is a real number. -/
theorem real_of_small {x : EReal} (h : FloatOps.cmpf (F := Ideal) (φ := .f32) .olt (FloatOps.absf (F := Ideal) (φ := .f32) x) (Ideal.ofBits .f32 0x7F800000#32) = 1#1) : Real' x := by
  have ht : Ideal.ofBits .f32 0x7F800000#32 = ⊤ := by simp [Ideal.ofBits, Ideal.ieee]
  rw [ht, Ideal.cmpf_def, Ideal.absf_def] at h
  have hlt : max x (-x) < ⊤ := by
    simpa [Ideal.cmp] using true_of_one h
  refine ⟨x.toReal, (EReal.coe_toReal (fun e => ?_) fun e => ?_).symm⟩
  · rw [e] at hlt; exact absurd hlt (by simp)
  · rw [e] at hlt; exact absurd hlt (by simp)

/-- What the precondition says of the argument arrays. -/
structure Fine (x3 : S16384x2.Idx → EReal) (x4 : S16384x1.Idx → EReal) (x5 : S16384x6.Idx → EReal) (x6 : S16384x1.Idx → BitVec 32)
    (x7 : S16384x1.Idx → EReal) (x8 : S16384x2.Idx → EReal) (x9 : S16384x1.Idx → EReal) (x11 : S3.Idx → BitVec 32) : Prop where
  truth : ∀ i, (x6 i).toInt < 256
  low : (x11 (ix1 0)).toInt ≤ 0
  high : 16384 ≤ (x11 (ix1 2)).toInt
  r3 : ∀ i, Real' (x3 i)
  r4 : ∀ i, Real' (x4 i)
  r5 : ∀ i, Real' (x5 i)
  r7 : ∀ i, Real' (x7 i)
  r8 : ∀ i, Real' (x8 i)
  r9 : ∀ i, Real' (x9 i)

/-- The first and the last start, as the precondition reads them. -/
theorem first_start (x : S3.Idx → BitVec 32) (h : S3.Slices ![0] S1) (h' : S1.ShapeCasts S_) :
    shapeCast S_ (extractStridedSlice S1 ![0] x h) h' ix0 = x (ix1 0) := by
  pointwise []
theorem last_start (x : S3.Idx → BitVec 32) (h : S3.Slices ![2] S1) (h' : S1.ShapeCasts S_) :
    shapeCast S_ (extractStridedSlice S1 ![2] x h) h' ix0 = x (ix1 2) := by
  pointwise []

theorem fine_of (x0 : S16384x1.Idx → EReal) (x1 : S16384x2.Idx → EReal) (x2 : S16384x1.Idx → EReal)
    (x3 : S16384x2.Idx → EReal) (x4 : S16384x1.Idx → EReal) (x5 : S16384x6.Idx → EReal) (x6 : S16384x1.Idx → BitVec 32)
    (x7 : S16384x1.Idx → EReal) (x8 : S16384x2.Idx → EReal) (x9 : S16384x1.Idx → EReal) (x10 : _) (x11 : S3.Idx → BitVec 32)
    (h : Cert.Pre_inputs_ok.fn (F := Ideal) x0 x1 x2 x3 x4 x5 x6 x7 x8 x9 x10 x11 = fun _ => 1#1) : Fine x3 x4 x5 x6 x7 x8 x9 x11 := by
  have e := congrFun h ix0
  simp only [fn, fn_part1, fn_part2] at e
  obtain ⟨e, e9⟩ := and_one.mp e
  obtain ⟨e, e8⟩ := and_one.mp e
  obtain ⟨e, e7⟩ := and_one.mp e
  obtain ⟨e, e5⟩ := and_one.mp e
  obtain ⟨e, e4⟩ := and_one.mp e
  obtain ⟨e, e3⟩ := and_one.mp e
  obtain ⟨e, eh⟩ := and_one.mp e
  obtain ⟨e6, el⟩ := and_one.mp e
  refine ⟨fun i => ?_, ?_, ?_, fun i => real_of_small (all_of_total _ _ _ e3 i), fun i => real_of_small (all_of_total _ _ _ e4 i),
    fun i => real_of_small (all_of_total _ _ _ e5 i), fun i => real_of_small (all_of_total _ _ _ e7 i),
    fun i => real_of_small (all_of_total _ _ _ e8 i), fun i => real_of_small (all_of_total _ _ _ e9 i)⟩
  · have h6 := all_of_total _ _ _ e6 i
    have : IntOp.cmpi .slt (x6 i) 256#32 = 1#1 := h6
    simpa [BitVec.slt] using true_of_one this
  · have : IntOp.cmpi .sle (shapeCast S_ (extractStridedSlice S1 ![0] x11 _) _ ix0) 0#32 = 1#1 := el
    rw [first_start] at this
    simpa [BitVec.sle] using true_of_one this
  · have : IntOp.cmpi .sge (shapeCast S_ (extractStridedSlice S1 ![2] x11 _) _ ix0) 16384#32 = 1#1 := eh
    rw [last_start] at this
    simpa [BitVec.sle] using true_of_one this

/-- The number of the object a hit belongs to gives the hit's event. -/
theorem event_of_own (A : Arrays) (ht : ∀ i, (A.truth i).toInt < 256) (i : Fin 16384) (k : Fin 512) (h : A.M i k = 1) :
    A.ev i = BitVec.ofNat 32 (k.val / 256) := by
  have hk := k.isLt
  have ht := ht i
  have hev : A.ev i = 0#32 ∨ A.ev i = 1#32 := by
    unfold Arrays.ev eventWord
    rcases bit_cases (IntOp.cmpi .sge (BitVec.ofNat 32 i.val) A.start) with e | e <;> rw [e]
    · exact .inr (by decide)
    · exact .inl (by decide)
  unfold Arrays.M ownBit at h
  generalize A.ev i = v at h hev ⊢
  generalize A.truth i = t at h ht
  have heq : Scalar.select (IntOp.cmpi .sge t 0#32) (IntOp.addi t (IntOp.muli v 256#32)) 4294967295#32 = BitVec.ofNat 32 k.val := by
    simpa using true_of_one h
  rcases bit_cases (IntOp.cmpi .sge t 0#32) with e | e
  · rw [e, select_one] at heq
    have ht0 : 0 ≤ t.toInt := by
      simpa [BitVec.sle] using true_of_one e
    have hn : t.toNat < 256 := by
      rw [BitVec.toInt_eq_toNat_cond] at ht ht0
      split at ht <;> omega
    have h' := congrArg BitVec.toNat heq
    rcases hev with rfl | rfl
    · simp [IntOp.addi, IntOp.muli] at h'
      have : k.val / 256 = 0 := by omega
      rw [this]
    · simp [IntOp.addi, IntOp.muli] at h'
      have : k.val / 256 = 1 := by omega
      rw [this]
  · rw [e, select_zero] at heq
    have h' := congrArg BitVec.toNat heq
    simp at h'
    omega

end Cert.Value

end
-- ==== Proof.Value.Pick.lean ====
module

public import proofs.«01_k».proof.Proof.Value.Inputs
public import proofs.«01_k».proof.Proof.ReferenceIdeal.Ops

@[expose] public section

set_option maxRecDepth 16384

noncomputable section

/-! # What the reference's choice of a largest entry picks, and its reads at the picked rows -/

namespace Cert.ReferenceIdeal.Loss

open Cert.ReferenceIdeal Cert.ReferenceIdeal.Gen Cert.Value
open Idealize.ShloMosaic Idealize.ShloMosaic.TcCoe Idealize.ShloMosaic.Tactic Idealize.ShloMosaic.StableHlo
open scoped BigOperators

/-- `q` is at least as good a choice as `p`: a larger value, or the same value no later. -/
def Beats (q p : EReal × BitVec 32) : Prop := p.1 ≤ q.1 ∧ (p.1 = q.1 → q.2.toInt ≤ p.2.toInt)

theorem Beats.refl (p : EReal × BitVec 32) : Beats p p := ⟨le_rfl, fun _ => le_rfl⟩

theorem Beats.trans {p q r : EReal × BitVec 32} (h : Beats r q) (h' : Beats q p) : Beats r p := by
  refine ⟨h'.1.trans h.1, fun e => ?_⟩
  have e1 : p.1 = q.1 := le_antisymm h'.1 (h.1.trans e.ge)
  exact (h.2 (e1.symm.trans e)).trans (h'.2 e1)

/-- One step of the choice keeps one of its two pairs. -/
theorem step_cases (a b : EReal × BitVec 32) : (reducer_argmax_f32_i32 (F := Ideal) a b = a ∧ Beats a b)
    ∨ (reducer_argmax_f32_i32 (F := Ideal) a b = b ∧ Beats b a) := by
  obtain ⟨a1, a2⟩ := a
  obtain ⟨b1, b2⟩ := b
  have e : reducer_argmax_f32_i32 (F := Ideal) (a1, a2) (b1, b2)
      = (if b1 < a1 then a1 else b1, if b1 < a1 ∨ (a1 = b1 ∧ a2.toInt < b2.toInt) then a2 else b2) := by
    simp only [reducer_argmax_f32_i32, Ideal.cmpf_def, Ideal.cmp, IntOp.cmpi, IntOp.ori, IntOp.andi, Scalar.select, BitVec.slt]
    by_cases h1 : b1 < a1 <;> by_cases h2 : a1 = b1 <;> by_cases h3 : a2.toInt < b2.toInt <;> simp [h1, h2, h3]
  rw [e]
  by_cases h1 : b1 < a1
  · left
    simp only [h1, true_or, if_true]
    exact ⟨trivial, h1.le, fun e => absurd e h1.ne⟩
  · by_cases h2 : a1 = b1
    · subst h2
      by_cases h3 : a2.toInt < b2.toInt
      · left
        simp only [lt_irrefl, h3, and_self, or_true, if_true, if_false]
        exact ⟨trivial, le_rfl, fun _ => h3.le⟩
      · right
        simp only [lt_irrefl, h3, and_false, or_false, if_false]
        exact ⟨trivial, le_rfl, fun _ => not_lt.mp h3⟩
    · right
      simp only [h1, h2, false_and, or_false, if_false]
      exact ⟨trivial, not_lt.mp h1, fun e => absurd e h2⟩

/-- The choice over a list is a member of it, or where it began, that beats every other. -/
theorem fold_best (L : List (EReal × BitVec 32)) (p : EReal × BitVec 32) :
    (L.foldl (reducer_argmax_f32_i32 (F := Ideal)) p = p ∨ L.foldl (reducer_argmax_f32_i32 (F := Ideal)) p ∈ L)
      ∧ Beats (L.foldl (reducer_argmax_f32_i32 (F := Ideal)) p) p
      ∧ ∀ q ∈ L, Beats (L.foldl (reducer_argmax_f32_i32 (F := Ideal)) p) q := by
  induction L generalizing p with
  | nil => exact ⟨.inl rfl, .refl p, fun _ h => absurd h (List.not_mem_nil)⟩
  | cons b L ih =>
    simp only [List.foldl_cons]
    obtain ⟨h1, h2, h3⟩ := ih (reducer_argmax_f32_i32 (F := Ideal) p b)
    rcases step_cases p b with ⟨e, hb⟩ | ⟨e, hb⟩ <;> rw [e] at h1 h2 h3 ⊢
    · refine ⟨h1.imp id (List.mem_cons_of_mem _), h2, fun q hq => ?_⟩
      rcases List.mem_cons.mp hq with rfl | hq
      · exact h2.trans hb
      · exact h3 q hq
    · refine ⟨.inr (h1.elim (fun e => List.mem_cons.mpr (.inl e)) (List.mem_cons_of_mem _)), h2.trans hb, fun q hq => ?_⟩
      rcases List.mem_cons.mp hq with rfl | hq
      · exact h2
      · exact h3 q hq

/-- Down a column whose entries are above the lowest value, the choice is the first of the largest entries. -/
theorem pick_column (x : S16384x512.Idx → EReal) (k : Fin 512) (hx : ∀ i : Fin 16384, ⊥ < x (ix2 i k)) :
    ∃ i : Fin 16384, (Host.argReduce (reducer_argmax_f32_i32 (F := Ideal)) x (iotaInDim S16384x512 32 0) (constant S_ .f32 0xFF800000#32)
        (constantI S_ 32 0#32) reducesTo_S16384x512_S512_d0 h_S_ (ix1 k)).2 = BitVec.ofNat 32 i.val
      ∧ ∀ j : Fin 16384, x (ix2 j k) ≤ x (ix2 i k) ∧ (j < i → x (ix2 j k) < x (ix2 i k)) := by
  rw [Ideal.argReduce_eq_reduce2, Host.reduce2_eq_foldl_fiber]
  set L := Host.argReduceFiber x (iotaInDim S16384x512 32 0) reducesTo_S16384x512_S512_d0 (ix1 k) with hL
  have hmem : ∀ q : EReal × BitVec 32, q ∈ L ↔ ∃ j : Fin 16384, q = (x (ix2 j k), BitVec.ofNat 32 j.val) := by
    intro q
    rw [hL, Host.argReduceFiber, List.mem_map]
    constructor
    · rintro ⟨n, hn, rfl⟩
      have hd : reducesTo_S16384x512_S512_d0.drop (S16384x512.rowMajor.symm n) = ix1 k := by simpa using (List.mem_filter.mp hn).2
      obtain ⟨j, hj⟩ := (Shape.ReducesTo.fiber_r2_a0 reducesTo_S16384x512_S512_d0 (ix1 k) _).mp hd
      refine ⟨j, ?_⟩
      rw [← hj]
      rfl
    · rintro ⟨j, rfl⟩
      refine ⟨S16384x512.rowMajor (ix2 j k), List.mem_filter.mpr ⟨List.mem_finRange _, ?_⟩, ?_⟩
      · rw [Equiv.symm_apply_apply]
        exact decide_eq_true ((Shape.ReducesTo.fiber_r2_a0 reducesTo_S16384x512_S512_d0 (ix1 k) _).mpr ⟨j, rfl⟩)
      · rw [Equiv.symm_apply_apply]
        rfl
  obtain ⟨h1, h2, h3⟩ := fold_best L (constant (F := Ideal) S_ .f32 0xFF800000#32 (Shape.Idx.first h_S_), constantI S_ 32 0#32 (Shape.Idx.first h_S_))
  generalize L.foldl (reducer_argmax_f32_i32 (F := Ideal)) _ = p at h1 h2 h3 ⊢
  have hp : p ∈ L := by
    rcases h1 with h1 | h1
    · exfalso
      have h := (h3 _ ((hmem _).mpr ⟨0, rfl⟩)).1
      rw [h1] at h
      have hb : (constant (F := Ideal) S_ .f32 0xFF800000#32 (Shape.Idx.first h_S_) : EReal) = ⊥ := lit_bottom
      exact absurd ((hx 0).trans_le (h.trans hb.le)) (lt_irrefl _)
    · exact h1
  obtain ⟨i, hi⟩ := (hmem _).mp hp
  refine ⟨i, by rw [hi], fun j => ?_⟩
  have h := h3 _ ((hmem _).mpr ⟨j, rfl⟩)
  rw [hi] at h
  refine ⟨h.1, fun hlt => lt_of_le_of_ne h.1 fun e => ?_⟩
  have := h.2 e
  simp only at this
  rw [ofNat_toInt i.isLt.le, ofNat_toInt j.isLt.le] at this
  have : i.val ≤ j.val := by exact_mod_cast this
  exact absurd hlt (not_lt.mpr this)

/-- A position below the number of hits is left alone when it is bounded by the last. -/
theorem bounded (n : Fin 16384) : min (BitVec.ofNat 32 n.val).toInt.toNat 16383 = n.val := by
  rw [ofNat_toInt n.isLt.le, Int.toNat_natCast]
  have := n.isLt
  omega

/-- A read of a vector at a list of positions. -/
theorem take_at {α : Type} (x : S16384.Idx → α) (idx : S512x1.Idx → BitVec 32) (k : Fin 512) {n : Fin 16384}
    (h : idx (ix2 k 0) = BitVec.ofNat 32 n.val) : Host.gather gather_S16384_S512x1_S512_n_0_n_n_0_1_1 x idx (ix1 k) = x (ix1 n) := by
  refine congrArg x (funext fun a => Fin.ext ?_)
  obtain rfl : a = 0 := Subsingleton.elim _ _
  have e : gather_S16384_S512x1_S512_n_0_n_n_0_1_1.siIdx (ix1 k) ⟨0, by decide⟩ = ix2 k 0 := by
    funext b
    match b with
    | 0 => rfl
    | 1 => rfl
  show min (idx (gather_S16384_S512x1_S512_n_0_n_n_0_1_1.siIdx (ix1 k) ⟨0, by decide⟩)).toInt.toNat 16383 + 0 + 0 = n.val
  rw [e, h, bounded, Nat.add_zero]

/-- A read of the rows of a table at a list of positions. -/
theorem take_rows_at {α : Type} (x : S16384x2.Idx → α) (idx : S512x1.Idx → BitVec 32) (k : Fin 512) (d : Fin 2) {n : Fin 16384}
    (h : idx (ix2 k 0) = BitVec.ofNat 32 n.val) :
    Host.gather gather_S16384x2_S512x1_S512x2_1_0_n_n_0_1_12 x idx (ix2 k d) = x (ix2 n d) := by
  refine congrArg x (funext fun a => Fin.ext ?_)
  have e : gather_S16384x2_S512x1_S512x2_1_0_n_n_0_1_12.siIdx (ix2 k d) ⟨0, by decide⟩ = ix2 k 0 := by
    funext b
    match b with
    | 0 => rfl
    | 1 => rfl
  match a with
  | 0 =>
    show min (idx (gather_S16384x2_S512x1_S512x2_1_0_n_n_0_1_12.siIdx (ix2 k d) ⟨0, by decide⟩)).toInt.toNat 16383 + 0 + 0 = n.val
    rw [e, h, bounded, Nat.add_zero]
  | 1 =>
    show 0 + 0 + d.val = d.val
    omega

end Cert.ReferenceIdeal.Loss

end
-- ==== Proof.Value.Reference.lean ====
module

public import proofs.«01_k».proof.Proof.Value.Pick

@[expose] public section

set_option maxRecDepth 16384

noncomputable section

/-! # What the reference's operations compute, entry by entry -/

namespace Cert.ReferenceIdeal.Loss

open Cert.ReferenceIdeal Cert.ReferenceIdeal.Gen Cert.Value
open Idealize.ShloMosaic Idealize.ShloMosaic.TcCoe Idealize.ShloMosaic.Tactic Idealize.ShloMosaic.StableHlo
open scoped BigOperators

variable (V : Valuation τ sig (Elt Ideal))

/-- The arrays of the reference's call. -/
def src : Arrays := arrays (rd V main_arg0) (rd V main_arg1) (rd V main_arg2) (rd V main_arg3) (rd V main_arg4) (rd V main_arg5)
  (rd V main_arg6) (rd V main_arg7) (rd V main_arg8) (rd V main_arg9) (rd V main_arg11)

theorem weight_at (i : Fin 16384) : (rd V main_v8 : S16384x1.Idx → EReal) (ix2 i 0) = (src V).w i := by
  rw [e_v8, e_v1, e_v0, e_cst, e_call0_v1, e_call0_v0, e_cst_3, e_v7, e_v5, e_v3, e_v2, e_cst_0, e_v4, e_cst_1, e_v6, e_cst_2]
  pointwise [id]
  rfl

theorem clip_at (i : Fin 16384) : (rd V main_v49 : S16384.Idx → EReal) (ix1 i) = (src V).b i := by
  rw [e_v49, e_call2_v4, e_call2_v3, e_cst_16, e_call2_v2, e_call2_v1, e_call2_v0, e_cst_15, e_v48]
  pointwise [id]
  rfl

theorem energy_at (i : Fin 16384) : (rd V main_v28 : S16384x1.Idx → EReal) (ix2 i 0) = (src V).pay i 0 := by
  have e16 : (rd V main_v16 : S16384x1.Idx → EReal) (ix2 i 0) = ratio ((src V).trueEnergy i) ((src V).energy i) := by
    rw [e_v16, e_v13, e_v12, e_v15, e_v11, e_v10, e_v9, e_cst_4, e_v14, e_cst_5]
    pointwise []
    rfl
  have e18 : (rd V main_v18 : S16384x1.Idx → EReal) (ix2 i 0) = scale ((src V).trueEnergy i) * Ideal.ofBits .f32 0x40000000#32 := by
    rw [e_v18, e_v11, e_v10, e_v9, e_cst_4, e_v17, e_cst_6]
    pointwise []
    rfl
  have e19 : (rd V main_v19 : S16384x1.Idx → EReal) (ix2 i 0) = ratio ((src V).trueEnergy i) ((src V).energy i) := by
    rw [e_v19]
    pointwise []
    rw [e16, Ideal.absf_def, ratio_abs]
  rw [e_v28, e_v20, e_v23, e_v22, e_v21, e_cst_7, e_v27, e_v26, e_v25, e_v24, e_cst_8]
  pointwise []
  rw [e16, e18, e19]
  rfl

theorem place_at (i : Fin 16384) : (rd V main_v34 : S16384x1.Idx → EReal) (ix2 i 0) = (src V).pay i 1 := by
  rw [e_v34, e_v32, e_v31, e_cst_9, e_v30, e_v29, e_v33, e_cst_10]
  pointwise []
  rw [Fin.sum_univ_two]
  rfl

theorem time_at (i : Fin 16384) : (rd V main_v38 : S16384x1.Idx → EReal) (ix2 i 0) = (src V).pay i 2 := by
  rw [e_v38, e_v37, e_v36, e_v35, e_cst_11]
  pointwise []
  rfl

theorem kind_at (i : Fin 16384) : (rd V main_v45 : S16384x1.Idx → EReal) (ix2 i 0) = (src V).pay i 3 := by
  rw [e_v45, e_v44, e_cst_14, e_v43, e_v41, e_v40, e_cst_12, e_v39, e_v42, e_cst_13]
  pointwise []
  rw [kind_factor]
  rfl

theorem charge_at (i : Fin 16384) : (rd V main_v53 : S16384.Idx → EReal) (ix1 i) = charge ((src V).b i) := by
  have e := clip_at V i
  rw [e_v53, e_v51, e_v50, e_v52, e_cst_17]
  pointwise []
  rw [e]
  rfl

/-- The first event begins at the first hit and the last one ends at the last. -/
structure Rows : Prop where
  low : ((rd V main_arg11 : S3.Idx → BitVec 32) (ix1 0)).toInt ≤ 0
  high : 16384 ≤ ((rd V main_arg11 : S3.Idx → BitVec 32) (ix1 2)).toInt

variable {V}

/-- Counting the starts at or before a row gives the row's event. -/
theorem count_starts {x : Fin 3 → BitVec 32} (h0 : (x 0).toInt ≤ 0) (h2 : 16384 ≤ (x 2).toInt) (i : Fin 16384) :
    IntOp.subi (Finset.univ.fold IntOp.addi 0#32 fun d => BitVec.setWidth 32 (IntOp.cmpi .sle (x d) (BitVec.ofNat 32 i.val))) 1#32
      = eventWord (BitVec.ofNat 32 i.val) (x 1) := by
  have hi := ofNat_toInt i.isLt.le
  have e0 : IntOp.cmpi .sle (x 0) (BitVec.ofNat 32 i.val) = 1#1 := by
    have : (x 0).toInt ≤ (BitVec.ofNat 32 i.val).toInt := by rw [hi]; omega
    simp [IntOp.cmpi, BitVec.sle, this]
  have e2 : IntOp.cmpi .sle (x 2) (BitVec.ofNat 32 i.val) = 0#1 := by
    have : ¬ (x 2).toInt ≤ (BitVec.ofNat 32 i.val).toInt := by rw [hi]; have := i.isLt; omega
    simp [IntOp.cmpi, BitVec.sle, this]
  have e1 : IntOp.cmpi .sle (x 1) (BitVec.ofNat 32 i.val) = IntOp.cmpi .sge (BitVec.ofNat 32 i.val) (x 1) := rfl
  have eu : (Finset.univ : Finset (Fin 3)) = {0, 1, 2} := by decide
  rw [eu, Finset.fold_insert (by decide), Finset.fold_insert (by decide), Finset.fold_singleton, e0, e1, e2, eventWord]
  rcases bit_cases (IntOp.cmpi .sge (BitVec.ofNat 32 i.val) (x 1)) with h | h <;> rw [h] <;> decide

/-- The sum of a table's rows from a zero. -/
theorem row_sum (y : S16384x3.Idx → BitVec 32) (i : Fin 16384) :
    Host.reduce IntOp.addi y (constantI S_ 32 0#32) reducesTo_S16384x3_S16384_d1 h_S_ (ix1 i)
      = Finset.univ.fold IntOp.addi 0#32 fun d : Fin 3 => y (ix2 i d) := by
  pointwise []

theorem event_at (hV : Rows V) (i : Fin 16384) : (rd V main_v63 : S16384.Idx → BitVec 32) (ix1 i) = (src V).ev i := by
  have e60 (d : Fin 3) : (rd V main_v60 : S16384x3.Idx → BitVec 32) (ix2 i d)
      = BitVec.setWidth 32 (IntOp.cmpi .sle ((rd V main_arg11 : S3.Idx → BitVec 32) (ix1 d)) (BitVec.ofNat 32 i.val)) := by
    rw [e_v60, e_v59, e_v57, e_v54, e_v58, e_v56, e_v55]
    pointwise []
  have e61 : (rd V main_v61 : S16384.Idx → BitVec 32) (ix1 i)
      = Finset.univ.fold IntOp.addi 0#32 fun d : Fin 3 => (rd V main_v60 : S16384x3.Idx → BitVec 32) (ix2 i d) := by
    rw [e_v61, e_c]
    exact row_sum _ i
  simp only [e60] at e61
  rw [e_v63, e_v62, e_c_18]
  pointwise []
  rw [e61]
  exact count_starts (x := fun d => (rd V main_arg11 : S3.Idx → BitVec 32) (ix1 d)) hV.low hV.high i

theorem own_at (hV : Rows V) (i : Fin 16384) (k : Fin 512) : (rd V main_call4_v4 : S16384x512.Idx → BitVec 1) (ix2 i k) = (src V).M i k := by
  have e := event_at hV i
  rw [e_call4_v4, e_call4_v2, e_call4_v0, e_v69, e_v65, e_v64, e_c_19, e_v68, e_v47, e_v67, e_v66, e_c_20, e_call3_v1, e_call3_v0, e_c_21, e_call4_v3, e_call4_v1]
  pointwise [id]
  rw [e]
  rfl

theorem num_nonneg (b : BitVec 1) : 0 ≤ num b := by
  rcases bit_cases b with h | h <;> rw [h]
  · rw [num_one]; exact zero_le_one
  · rw [num_zero]

/-- A bit as a number. -/
theorem num_eq (b : BitVec 1) : FloatOps.uitofp (F := Ideal) .f32 b = num b := by
  rcases bit_cases b with h | h <;> rw [h]
  · rw [num_one]; simp [FloatOps.uitofp]
  · rw [num_zero]; simp [FloatOps.uitofp]

theorem mask_at (hV : Rows V) (i : Fin 16384) (k : Fin 512) : (rd V main_v70 : S16384x512.Idx → EReal) (ix2 i k) = num ((src V).M i k) := by
  have e := own_at hV i k
  rw [e_v70]
  pointwise []
  rw [e, num_eq]

theorem count_at (hV : Rows V) (k : Fin 512) : (rd V main_v71 : S512.Idx → EReal) (ix1 k) = ∑ i, num ((src V).M i k) := by
  have e := fun i => mask_at hV i k
  rw [e_v71, e_cst_22]
  pointwise []
  simp only [e]

theorem ex_at (hV : Rows V) (k : Fin 512) : (rd V main_v74 : S512.Idx → EReal) (ix1 k) = (src V).ex k := by
  have e := count_at hV k
  rw [e_v74, e_v73, e_v72, e_cst_23]
  pointwise []
  rw [e, num_eq]
  by_cases h : (src V).Has k
  · obtain ⟨i, hi⟩ := h
    have hs : (0 : EReal) < ∑ i, num ((src V).M i k) :=
      lt_of_lt_of_le (by rw [hi]; exact num_one.symm ▸ zero_lt_one) (Finset.single_le_sum (f := fun i => num ((src V).M i k))
        (fun j _ => num_nonneg _) (Finset.mem_univ i))
    rw [decide_eq_true hs, Arrays.ex_has ⟨i, hi⟩]
    exact num_one
  · have hs : ¬ (0 : EReal) < ∑ i, num ((src V).M i k) := by
      rw [Finset.sum_eq_zero fun i _ => by rw [Arrays.none_own h, num_zero]]
      exact lt_irrefl _
    rw [decide_eq_false hs, Arrays.ex_none h]
    exact num_zero

theorem score_at (hV : Rows V) (i : Fin 16384) (k : Fin 512) : (rd V main_v82 : S16384x512.Idx → EReal) (ix2 i k)
    = (src V).b i * num ((src V).M i k) - Ideal.ofBits .f32 0x4E6E6B28#32 * (1 - num ((src V).M i k)) := by
  have e := mask_at hV i k
  have eb := clip_at V i
  rw [e_v82, e_v77, e_v76, e_v75, e_v81, e_v80, e_cst_25, e_v79, e_v78, e_cst_24]
  pointwise []
  rw [e, eb]

/-- The rows picked: for an object with a hit, the first of its hits with the highest score. -/
theorem picked (hV : Rows V) : ∃ a : Fin 512 → Fin 16384, ∀ k,
    (rd V main_v83 : S512.Idx → BitVec 32) (ix1 k) = BitVec.ofNat 32 (a k).val ∧ ((src V).Has k → (src V).TopIn 16384 k (a k)) := by
  have one (i : Fin 16384) (k : Fin 512) (h : (src V).M i k = 1#1) : (rd V main_v82 : S16384x512.Idx → EReal) (ix2 i k) = (src V).b i := by
    obtain ⟨r, e, -⟩ := (src V).b_real i
    rw [score_at hV, h, num_one, e, lit_giga, ← EReal.coe_one, ← EReal.coe_sub, sub_self, EReal.coe_zero, mul_zero, sub_zero, EReal.coe_one, mul_one]
  have none (i : Fin 16384) (k : Fin 512) (h : (src V).M i k = 0#1) :
      (rd V main_v82 : S16384x512.Idx → EReal) (ix2 i k) = ((-1000000000 : ℝ) : EReal) := by
    obtain ⟨r, e, -⟩ := (src V).b_real i
    rw [score_at hV, h, num_zero, e, lit_giga]
    norm_num
  have key : ∀ k, ∃ i : Fin 16384, (rd V main_v83 : S512.Idx → BitVec 32) (ix1 k) = BitVec.ofNat 32 i.val
      ∧ ((src V).Has k → (src V).TopIn 16384 k i) := by
    intro k
    obtain ⟨i, hi, hb⟩ := pick_column (rd V main_v82) k fun i => by
      rcases bit_cases ((src V).M i k) with h | h
      · rw [one i k h]; exact bot_lt_iff_ne_bot.mpr fun e => absurd ((src V).b_pos i) (by rw [e]; exact not_lt_bot)
      · rw [none i k h]; exact EReal.bot_lt_coe _
    refine ⟨i, ?_, fun ⟨h, hh⟩ => ?_⟩
    · rw [e_v83, e_call5_v0, e_call5_cst, e_call5_c]
      exact hi
    · have hM : (src V).M i k = 1#1 := by
        refine (bit_cases _).resolve_right fun h0 => ?_
        have := (hb h).1
        rw [one h k hh, none i k h0] at this
        have h1 := ((src V).b_pos h).trans_le this
        rw [← EReal.coe_zero, EReal.coe_lt_coe_iff] at h1
        norm_num at h1
      refine ⟨hM, i.isLt, fun j _ hj => ?_⟩
      have := hb j
      rw [one j k hj, one i k hM] at this
      exact this
  choose a ha using key
  exact ⟨a, ha⟩

end Cert.ReferenceIdeal.Loss

end
-- ==== Proof.Value.ReferenceEnd.lean ====
module

public import proofs.«01_k».proof.Proof.Value.Reference

@[expose] public section

set_option maxRecDepth 16384

noncomputable section

/-! # The reference's loss -/

namespace Cert.ReferenceIdeal.Loss

open Cert.ReferenceIdeal Cert.ReferenceIdeal.Gen Cert.Value
open Idealize.ShloMosaic Idealize.ShloMosaic.TcCoe Idealize.ShloMosaic.Tactic Idealize.ShloMosaic.StableHlo
open scoped BigOperators

variable {V : Valuation τ sig (Elt Ideal)} {a : Fin 512 → Fin 16384}

variable (V a) in
/-- The rows the choice picked. -/
def Picks : Prop := ∀ k, (rd V main_v83 : S512.Idx → BitVec 32) (ix1 k) = BitVec.ofNat 32 (a k).val

/-- A position that is not negative is not counted from the end. -/
theorem not_wrapped (n : Fin 16384) : Scalar.select (IntOp.cmpi .slt (BitVec.ofNat 32 n.val) 0#32)
    (IntOp.addi (BitVec.ofNat 32 n.val) 16384#32) (BitVec.ofNat 32 n.val) = BitVec.ofNat 32 n.val := by
  have : IntOp.cmpi .slt (BitVec.ofNat 32 n.val) 0#32 = 0#1 := by
    have h := ofNat_toInt n.isLt.le
    have h' : ¬ ((n.val : ℤ) < 0) := by omega
    simp [IntOp.cmpi, BitVec.slt, h, h']
  rw [this, select_zero]

theorem at_89 (ha : Picks V a) (k : Fin 512) : (rd V main_v89 : S512x1.Idx → BitVec 32) (ix2 k 0) = BitVec.ofNat 32 (a k).val := by
  have e := ha k
  rw [e_v89, e_v88, e_v85, e_v84, e_c_26, e_v87, e_v86, e_c_27]
  pointwise []
  rw [e, not_wrapped]
theorem at_96 (ha : Picks V a) (k : Fin 512) : (rd V main_v96 : S512x1.Idx → BitVec 32) (ix2 k 0) = BitVec.ofNat 32 (a k).val := by
  have e := ha k
  rw [e_v96, e_v95, e_v92, e_v91, e_c_28, e_v94, e_v93, e_c_29]
  pointwise []
  rw [e, not_wrapped]
theorem at_103 (ha : Picks V a) (k : Fin 512) : (rd V main_v103 : S512x1.Idx → BitVec 32) (ix2 k 0) = BitVec.ofNat 32 (a k).val := by
  have e := ha k
  rw [e_v103, e_v102, e_v99, e_v98, e_c_30, e_v101, e_v100, e_c_31]
  pointwise []
  rw [e, not_wrapped]
theorem at_110 (ha : Picks V a) (k : Fin 512) : (rd V main_v110 : S512x1.Idx → BitVec 32) (ix2 k 0) = BitVec.ofNat 32 (a k).val := by
  have e := ha k
  rw [e_v110, e_v109, e_v106, e_v105, e_c_32, e_v108, e_v107, e_c_33]
  pointwise []
  rw [e, not_wrapped]

theorem centre_coord (ha : Picks V a) (k : Fin 512) (d : Fin 2) : (rd V main_v90 : S512x2.Idx → EReal) (ix2 k d) = (src V).coord (a k) d := by
  rw [e_v90]
  exact take_rows_at _ _ k d (at_89 ha k)

theorem centre_charge (ha : Picks V a) (k : Fin 512) : (rd V main_v97 : S512.Idx → EReal) (ix1 k) = charge ((src V).b (a k)) := by
  rw [e_v97]
  exact (take_at _ _ k (at_96 ha k)).trans (charge_at V (a k))

theorem centre_score (ha : Picks V a) (k : Fin 512) : (rd V main_v104 : S512.Idx → EReal) (ix1 k) = (src V).b (a k) := by
  rw [e_v104]
  exact (take_at _ _ k (at_103 ha k)).trans (clip_at V (a k))

theorem centre_event (hV : Rows V) (ha : Picks V a) (k : Fin 512) : (rd V main_v111 : S512.Idx → BitVec 32) (ix1 k) = (src V).ev (a k) := by
  rw [e_v111]
  exact (take_at _ _ k (at_110 ha k)).trans (event_at hV (a k))

theorem same_at (hV : Rows V) (ha : Picks V a) (i : Fin 16384) (k : Fin 512) : (rd V main_v117 : S16384x512.Idx → EReal) (ix2 i k)
    = num (IntOp.cmpi .eq ((src V).ev i) ((src V).ev (a k))) := by
  have e := event_at hV i
  have e' := centre_event hV ha k
  rw [e_v117, e_v116, e_v114, e_v112, e_v115, e_v113]
  pointwise []
  rw [e, e', num_eq]

theorem dist_at (ha : Picks V a) (i : Fin 16384) (k : Fin 512) : (rd V main_v124 : S16384x512.Idx → EReal) (ix2 i k)
    = dist2 ((src V).coord i) ((src V).coord (a k)) := by
  have e := centre_coord ha k
  rw [e_v124, e_cst_34, e_v123, e_v122, e_v120, e_v118, e_v121, e_v119]
  pointwise []
  simp only [e]
  rw [Fin.sum_univ_two]
  rfl

theorem charges_at (ha : Picks V a) (i : Fin 16384) (k : Fin 512) : (rd V main_v132 : S16384x512.Idx → EReal) (ix2 i k)
    = charge ((src V).b i) * charge ((src V).b (a k)) := by
  have e := charge_at V i
  have e' := centre_charge ha k
  rw [e_v132, e_v130, e_v128, e_v131, e_v129]
  pointwise []
  rw [e, e']

theorem attract_at (hV : Rows V) (ha : Picks V a) (i : Fin 16384) (k : Fin 512) : (rd V main_v137 : S16384x512.Idx → EReal) (ix2 i k)
    = (src V).attract a i k := by
  have e1 := mask_at hV i k
  have e2 := charges_at ha i k
  have e3 := dist_at ha i k
  have e4 := ex_at hV k
  rw [e_v137, e_v134, e_v133, e_v136, e_v135]
  pointwise []
  rw [e1, e2, e3, e4]
  rfl

theorem repel_at (hV : Rows V) (ha : Picks V a) (i : Fin 16384) (k : Fin 512) : (rd V main_v150 : S16384x512.Idx → EReal) (ix2 i k)
    = (src V).repel a i k := by
  have e1 := mask_at hV i k
  have e2 := charges_at ha i k
  have e3 := dist_at ha i k
  have e4 := ex_at hV k
  have e5 := same_at hV ha i k
  rw [e_v150, e_v146, e_v145, e_v142, e_v141, e_v140, e_cst_38, e_v144, e_v143, e_v149, e_v148, e_v147, e_cst_39, e_v127, e_v126,
    e_v125, e_cst_35, e_call6_v0, e_call6_cst]
  pointwise []
  rw [e1, e2, e3, e4, e5]
  rfl

/-- A decided truth as a number. -/
theorem num_decide (p : Prop) [Decidable p] : num (BitVec.ofBool (decide p)) = if p then 1 else 0 := by
  by_cases h : p
  · rw [if_pos h, decide_eq_true h]; exact num_one
  · rw [if_neg h, decide_eq_false h]; exact num_zero

theorem part_at (hV : Rows V) (ha : Picks V a) (i : Fin 16384) (k : Fin 512) : (rd V main_v180 : S16384x512.Idx → EReal) (ix2 i k)
    = (src V).part a i k := by
  have e1 := mask_at hV i k
  have e2 := clip_at V i
  have e3 := centre_score ha k
  rw [e_v180, e_v171, e_v170, e_v169, e_v179, e_v178, e_v176, e_v172, e_v177, e_v175, e_v174, e_cst_51, e_v173]
  pointwise []
  rw [e1, e2, e3, num_eq, num_decide]
  rfl

theorem paid_at (i : Fin 16384) (j : Fin 4) : (rd V main_v182 : S16384x4.Idx → EReal) (ix2 i j) = (src V).pay i j * (src V).w i := by
  have e1 := energy_at V i
  have e2 := place_at V i
  have e3 := time_at V i
  have e4 := kind_at V i
  have e5 := weight_at V i
  rw [e_v182, e_v46, e_v181]
  unfold beside
  fin_cases j
  · pointwise []
    rw [e1, e5]
  · pointwise []
    rw [e2, e5]
  · pointwise []
    rw [e3, e5]
  · pointwise []
    rw [e4, e5]

theorem attract_sum (hV : Rows V) (ha : Picks V a) : (rd V main_v139 : S_.Idx → EReal) ix0
    = Ideal.div (∑ i, ∑ k, (src V).attract a i k) (Ideal.ofBits .f32 0x46800000#32) := by
  have e := attract_at hV ha
  rw [e_v139, e_v138, e_cst_36, e_cst_37]
  pointwise []
  simp only [e]

theorem repel_sum (hV : Rows V) (ha : Picks V a) : (rd V main_v152 : S_.Idx → EReal) ix0
    = Ideal.div (∑ i, ∑ k, (src V).repel a i k) (Ideal.ofBits .f32 0x46800000#32) := by
  have e := repel_at hV ha
  rw [e_v152, e_v151, e_cst_40, e_cst_41]
  pointwise []
  simp only [e]

theorem objects_at (hV : Rows V) : (rd V main_v154 : S_.Idx → EReal) ix0 = (src V).objects := by
  have e := ex_at hV
  rw [e_v154, e_v153, e_cst_42, e_cst_43]
  pointwise []
  simp only [e]
  rfl

theorem low_score (hV : Rows V) (ha : Picks V a) : (rd V main_v159 : S_.Idx → EReal) ix0
    = Ideal.div (∑ k, (src V).ex k * (1 - (src V).b (a k))) (src V).objects := by
  have e := ex_at hV
  have e' := centre_score ha
  have e'' := objects_at hV
  rw [e_v159, e_v158, e_cst_45, e_v157, e_v156, e_v155, e_cst_44]
  pointwise []
  simp only [e, e', e'']

theorem noise_at (i : Fin 16384) : (rd V main_v162 : S16384.Idx → EReal) (ix1 i) = num ((src V).noise i) := by
  rw [e_v162, e_v161, e_v160, e_c_46, e_v47]
  pointwise []
  rw [num_eq]
  rfl

/-- The sum of a vector from a zero. -/
theorem total_sum (x : S16384.Idx → EReal) :
    (Host.reduceAdd (F := Ideal) x (constant S_ .f32 0x00000000#32) reducesTo_S16384_S_d0 h_S_ : S_.Idx → EReal) ix0 = ∑ i, x (ix1 i) := by
  pointwise []

theorem noise_score : (rd V main_v164 : S_.Idx → EReal) ix0 = ∑ i, num ((src V).noise i) * (src V).b i := by
  rw [e_v164, e_cst_47]
  refine (total_sum _).trans (Finset.sum_congr rfl fun i _ => ?_)
  have e := noise_at (V := V) i
  have e' := clip_at V i
  rw [e_v163]
  pointwise []
  rw [e, e']

theorem noise_count : (rd V main_v166 : S_.Idx → EReal) ix0 = ∑ i, num ((src V).noise i) := by
  rw [e_v166, e_cst_49]
  exact (total_sum _).trans (Finset.sum_congr rfl fun i _ => noise_at i)

theorem noise_sum : (rd V main_v168 : S_.Idx → EReal) ix0
    = Ideal.div (1 * ∑ i, num ((src V).noise i) * (src V).b i) (max (∑ i, num ((src V).noise i)) 1) := by
  have e := noise_score (V := V)
  have e' := noise_count (V := V)
  rw [e_v168, e_v165, e_cst_48, e_v167, e_cst_50]
  pointwise []
  rw [e, e']

theorem parts_at (hV : Rows V) (ha : Picks V a) (k : Fin 512) : (rd V main_v185 : S512.Idx → EReal) (ix1 k)
    = ∑ i, (src V).part a i k := by
  have e := fun i => part_at hV ha i k
  rw [e_v185, e_cst_52]
  pointwise []
  simp only [e]

theorem weighed_at (hV : Rows V) (ha : Picks V a) (k : Fin 512) (j : Fin 4) : (rd V main_v184 : S512x4.Idx → EReal) (ix2 k j)
    = ∑ i, (src V).part a i k * ((src V).pay i j * (src V).w i) := by
  have e := fun i => part_at hV ha i k
  have e' := fun i => paid_at (V := V) i j
  rw [e_v184, e_v183]
  pointwise []
  simp only [e, e']

theorem mean_at (hV : Rows V) (ha : Picks V a) (k : Fin 512) (j : Fin 4) : (rd V main_v193 : S512x4.Idx → EReal) (ix2 k j)
    = (src V).ex k * Ideal.div (∑ i, (src V).part a i k * ((src V).pay i j * (src V).w i))
      ((∑ i, (src V).part a i k) + Ideal.ofBits .f32 0x3089705F#32) := by
  have e := parts_at hV ha k
  have e' := weighed_at hV ha k j
  have e'' := ex_at hV k
  rw [e_v193, e_v192, e_v191, e_v190, e_v189, e_v188, e_v186, e_v187, e_cst_53]
  pointwise []
  rw [e, e', e'']

theorem mean_sum (hV : Rows V) (ha : Picks V a) : (rd V main_v195 : S_.Idx → EReal) ix0
    = Ideal.div (∑ k, ∑ j, (src V).ex k * Ideal.div (∑ i, (src V).part a i k * ((src V).pay i j * (src V).w i))
      ((∑ i, (src V).part a i k) + Ideal.ofBits .f32 0x3089705F#32)) (src V).objects := by
  have e := mean_at hV ha
  have e' := objects_at hV
  rw [e_v195, e_v194, e_cst_54]
  pointwise []
  simp only [e, e']

/-- The reference's result is the loss with its terms apart, each object's centre the row picked for it. -/
theorem loss_at (hV : Rows V) (ha : Picks V a) : (rd V main_v199 : S_.Idx → EReal) ix0 = (src V).apart a := by
  have e1 := attract_sum hV ha
  have e2 := repel_sum hV ha
  have e3 := low_score hV ha
  have e4 := noise_sum (V := V)
  have e5 := mean_sum hV ha
  rw [e_v199, e_v198, e_v197, e_v196]
  pointwise []
  rw [e1, e2, e3, e4, e5]
  rfl

end Cert.ReferenceIdeal.Loss

end
-- ==== Proof.Value.Together.lean ====
module

public import proofs.«01_k».proof.Proof.Value.Inputs_ok
public import proofs.«01_k».proof.Proof.Value.ReferenceEnd
public import Idealize.ShloMosaic.Lib.Claim

@[expose] public section

set_option maxRecDepth 16384

noncomputable section

/-! # The kernel's result and the reference's are the same -/

namespace Cert.KernelIdeal.Loss

open Cert.KernelIdeal Cert.KernelIdeal.Gen Cert.Value
open Idealize.ShloMosaic Idealize.ShloMosaic.TcCoe Idealize.ShloMosaic.Tactic Idealize.SL.Sem

variable (m : (ℓ : Loc nD τ sig) → Buf (Elt Ideal) ℓ)

/-- The kernel's result at the end, its arguments as they began. -/
theorem value_end (ρ : Dev nD → PrngReg) : θ_run defs (onTc (τ := τ) (main (F := Ideal))) ⟨m, fun _ => 0, ρ⟩ fun r => ∀ c : Dev nD,
    r.2.mem ((c.tc : Thread nD τ).loc main_v2) = fun _ => fin (iter m c zeroSt 32) (ix2 0 0) :=
  (θ_run defs _ _).mono (fun r h c => ((h c).2 main_v2 (by decide)).trans (result_end m c)) (run_ends m ρ)

/-- Under the precondition the kernel's result is the loss with its terms apart, from any choice of each object's first
hit with the highest score. -/
theorem value_apart (c : Dev nD) (h : Fine (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg11)))
    (a : Fin 512 → Fin 16384) (ha : ∀ k, (held m c).Has k → (held m c).TopIn 16384 k (a k)) :
    fin (iter m c zeroSt 32) (ix2 0 0) = (held m c).apart a := by
  obtain ⟨K, hK, e⟩ := kernel_value m c (A := held m c) (fun t => blk_is m c t) zeroSt a ha
  rw [e]
  exact Arrays.joined_eq_apart hK (fun k hk => (ha k hk).1) (event_of_own _ fun i => h.truth _)
    ⟨fun i d => h.r3 _, fun i => h.r4 _, fun i d => h.r5 _, fun i => h.r7 _, fun i d => h.r8 _, fun i => h.r9 _⟩

end Cert.KernelIdeal.Loss

namespace Cert.ReferenceIdeal.Loss

open Cert.ReferenceIdeal Cert.ReferenceIdeal.Gen Cert.Value
open Idealize.ShloMosaic Idealize.ShloMosaic.TcCoe Idealize.ShloMosaic.Tactic Idealize.ShloMosaic.StableHlo

/-- The reference's result from the same arrays is the kernel's. -/
theorem value_same (m : (ℓ : Loc KernelIdeal.nD KernelIdeal.τ KernelIdeal.sig) → Buf (Elt Ideal) ℓ)
    (m' : (ℓ : Loc nD τ sig) → Buf (Elt Ideal) ℓ) (c : Dev nD)
    (h : Fine (m ((c.tc : Thread KernelIdeal.nD KernelIdeal.τ).loc KernelIdeal.main_arg3))
      (m ((c.tc : Thread KernelIdeal.nD KernelIdeal.τ).loc KernelIdeal.main_arg4))
      (m ((c.tc : Thread KernelIdeal.nD KernelIdeal.τ).loc KernelIdeal.main_arg5))
      (m ((c.tc : Thread KernelIdeal.nD KernelIdeal.τ).loc KernelIdeal.main_arg6))
      (m ((c.tc : Thread KernelIdeal.nD KernelIdeal.τ).loc KernelIdeal.main_arg7))
      (m ((c.tc : Thread KernelIdeal.nD KernelIdeal.τ).loc KernelIdeal.main_arg8))
      (m ((c.tc : Thread KernelIdeal.nD KernelIdeal.τ).loc KernelIdeal.main_arg9))
      (m ((c.tc : Thread KernelIdeal.nD KernelIdeal.τ).loc KernelIdeal.main_arg11)))
    (h0 : m' ((c.tc : Thread nD τ).loc main_arg0) = m ((c.tc : Thread KernelIdeal.nD KernelIdeal.τ).loc KernelIdeal.main_arg0))
    (h1 : m' ((c.tc : Thread nD τ).loc main_arg1) = m ((c.tc : Thread KernelIdeal.nD KernelIdeal.τ).loc KernelIdeal.main_arg1))
    (h2 : m' ((c.tc : Thread nD τ).loc main_arg2) = m ((c.tc : Thread KernelIdeal.nD KernelIdeal.τ).loc KernelIdeal.main_arg2))
    (h3 : m' ((c.tc : Thread nD τ).loc main_arg3) = m ((c.tc : Thread KernelIdeal.nD KernelIdeal.τ).loc KernelIdeal.main_arg3))
    (h4 : m' ((c.tc : Thread nD τ).loc main_arg4) = m ((c.tc : Thread KernelIdeal.nD KernelIdeal.τ).loc KernelIdeal.main_arg4))
    (h5 : m' ((c.tc : Thread nD τ).loc main_arg5) = m ((c.tc : Thread KernelIdeal.nD KernelIdeal.τ).loc KernelIdeal.main_arg5))
    (h6 : m' ((c.tc : Thread nD τ).loc main_arg6) = m ((c.tc : Thread KernelIdeal.nD KernelIdeal.τ).loc KernelIdeal.main_arg6))
    (h7 : m' ((c.tc : Thread nD τ).loc main_arg7) = m ((c.tc : Thread KernelIdeal.nD KernelIdeal.τ).loc KernelIdeal.main_arg7))
    (h8 : m' ((c.tc : Thread nD τ).loc main_arg8) = m ((c.tc : Thread KernelIdeal.nD KernelIdeal.τ).loc KernelIdeal.main_arg8))
    (h9 : m' ((c.tc : Thread nD τ).loc main_arg9) = m ((c.tc : Thread KernelIdeal.nD KernelIdeal.τ).loc KernelIdeal.main_arg9))
    (h11 : m' ((c.tc : Thread nD τ).loc main_arg11) = m ((c.tc : Thread KernelIdeal.nD KernelIdeal.τ).loc KernelIdeal.main_arg11)) :
    (rd (launchContents m' c) main_v199 : S_.Idx → EReal) =
      fun _ => KernelIdeal.Loss.fin (KernelIdeal.Loss.iter m c KernelIdeal.Loss.zeroSt 32) (ix2 0 0) := by
  have k : ∀ b ∈ ([main_arg0, main_arg1, main_arg2, main_arg3, main_arg4, main_arg5, main_arg6, main_arg7, main_arg8, main_arg9,
      main_arg10, main_arg11] : List (Ref sig .tc)), rd (launchContents m' c) b = m' ((c.tc : Thread nD τ).loc b) :=
    fun b hb => rd_arg _ (args_kept b hb)
  have k11 := (k main_arg11 (by simp)).trans h11
  have e : src (launchContents m' c) = KernelIdeal.Loss.held m c := by
    unfold src KernelIdeal.Loss.held
    rw [(k main_arg0 (by simp)).trans h0, (k main_arg1 (by simp)).trans h1, (k main_arg2 (by simp)).trans h2, (k main_arg3 (by simp)).trans h3, (k main_arg4 (by simp)).trans h4, (k main_arg5 (by simp)).trans h5, (k main_arg6 (by simp)).trans h6, (k main_arg7 (by simp)).trans h7, (k main_arg8 (by simp)).trans h8, (k main_arg9 (by simp)).trans h9, k11]
  have hV : Rows (launchContents m' c) := ⟨by rw [k11]; exact h.low, by rw [k11]; exact h.high⟩
  obtain ⟨a, ha⟩ := picked hV
  funext x
  have hx : x = ix0 := funext fun d => d.elim0
  rw [hx, loss_at hV fun k => (ha k).1, KernelIdeal.Loss.value_apart m c h a fun k => e ▸ (ha k).2, e]

end Cert.ReferenceIdeal.Loss

namespace Cert.Proof

open Idealize.ShloMosaic Idealize.SL.Sem Cert.Value

/-- Over the extended reals, and under the precondition, the kernel and the reference end with the same loss. -/
theorem same_loss : Cert.algebraic_KernelIdeal_ReferenceIdeal_pre_inputs_ok := by
  intro m g m' g' hpre hag
  have hf := fun c => fine_of _ _ _ _ _ _ _ _ _ _ _ _ (hpre c)
  refine ⟨fun c => fun _ => Cert.KernelIdeal.Loss.fin (Cert.KernelIdeal.Loss.iter m c Cert.KernelIdeal.Loss.zeroSt 32) (ix2 0 0), ?_, ?_⟩
  · exact (θ_run _ _ _).mono (fun r h c => ⟨h.1 c, (h.2.1 c)⟩)
      (θ_run_and (Cert.KernelIdeal.Loss.value_end m g) (Cert.KernelIdeal.Loss.quiescent m g))
  · refine (θ_run _ _ _).mono (fun r h c => ⟨(h.1 c Cert.ReferenceIdeal.main_v199).trans ?_, h.2 c⟩)
      (θ_run_and (Cert.ReferenceIdeal.Loss.run m' g') (Cert.ReferenceIdeal.Loss.args_end m' g'))
    obtain ⟨h0, h1, h2, h3, h4, h5, h6, h7, h8, h9, h10, h11⟩ := hag c
    exact Cert.ReferenceIdeal.Loss.value_same m m' c (hf c) h0 h1 h2 h3 h4 h5 h6 h7 h8 h9 h11

end Cert.Proof

end
-- ==== Proof.lean ====
/- The proof of this directory's claim. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_ok
public import proofs.«01_k».proof.Proof.Kernel.Frame
public import proofs.«01_k».proof.Proof.KernelIdeal.Frame
public import proofs.«01_k».proof.Proof.ReferenceIdeal.Ops
public import proofs.«01_k».proof.Proof.Value.Together
public import Idealize.ShloMosaic.Lib.Claim
public import Idealize.ShloMosaic.Adequacy
public import Idealize.ShloMosaic.Init

@[expose] public section

noncomputable section

namespace Cert.Proof

open Idealize.ShloMosaic Idealize.SL.Sem

/-- The kernel terminates without fault, its arguments and every counter as they began. -/
theorem frame_kernel : Cert.quiescent_Kernel := fun m ρ _ => Cert.Kernel.Loss.quiescent m ρ

/-- The same of the kernel over the extended reals. -/
theorem frame_ideal : Cert.quiescent_KernelIdeal := fun m ρ _ => Cert.KernelIdeal.Loss.quiescent m ρ

/-- The same of the reference over the extended reals, which has no counters. -/
theorem frame_reference : Cert.quiescent_ReferenceIdeal := fun m ρ _ =>
  (θ_run Cert.ReferenceIdeal.defs _ _).mono (fun r h => ⟨h, sem_eq_zero_of_no_sems (by decide) r.2⟩)
    (Cert.ReferenceIdeal.Loss.args_end m ρ)

/-- The kernel's one named constant is within its word's rounding of the rational it stands for. -/
theorem named : Cert.preserves_Kernel_KernelIdeal :=
  IdealRules.named_const.statement Cert.KernelIdeal.κ "cls" .f32 0x30E5109F#32 _ rfl

/-- The two frames over the extended reals hold under the precondition too, which they do not need. -/
theorem frame_ideal_pre : Cert.quiescent_KernelIdeal_pre_inputs_ok := fun m ρ _ => Cert.KernelIdeal.Loss.quiescent m ρ

theorem frame_reference_pre : Cert.quiescent_ReferenceIdeal_pre_inputs_ok := fun m ρ _ => frame_reference m ρ trivial

theorem claim : Cert.Claim :=
  ⟨Cert.Kernel.Gen.facts, Cert.KernelIdeal.Gen.facts, Cert.ReferenceIdeal.Gen.facts, Cert.Pre_inputs_ok.Gen.facts, frame_kernel,
    frame_ideal, frame_ideal_pre, frame_reference, frame_reference_pre, named, same_loss⟩

end Cert.Proof

end
